-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scan [hPre_finite_scan : Cert.Pre_finite_scan.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scan [hPre_finite_scan : Cert.Pre_finite_scan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_after_ssd [hPre_finite_after_ssd : Cert.Pre_finite_after_ssd.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_after_ssd.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_after_ssd [hPre_finite_after_ssd : Cert.Pre_finite_after_ssd.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_after_ssd.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_after_da [hPre_finite_after_da : Cert.Pre_finite_after_da.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_after_da.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_after_da [hPre_finite_after_da : Cert.Pre_finite_after_da.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_after_da.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scan [hKernelIdeal : Cert.KernelIdeal.Facts] [hPre_finite_scan : Cert.Pre_finite_scan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scan m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scan [hReferenceIdeal : Cert.ReferenceIdeal.Facts] [hPre_finite_scan : Cert.Pre_finite_scan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_after_ssd [hKernel4Ideal : Cert.Kernel4Ideal.Facts] [hPre_finite_after_ssd : Cert.Pre_finite_after_ssd.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_after_ssd m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_after_ssd [hReference4Ideal : Cert.Reference4Ideal.Facts] [hPre_finite_after_ssd : Cert.Pre_finite_after_ssd.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_after_ssd m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_after_da [hKernel5Ideal : Cert.Kernel5Ideal.Facts] [hPre_finite_after_da : Cert.Pre_finite_after_da.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_after_da m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_after_da [hReference5Ideal : Cert.Reference5Ideal.Facts] [hPre_finite_after_da : Cert.Pre_finite_after_da.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_after_da m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal_pre_finite_scan [hKernelIdeal : Cert.KernelIdeal.Facts] [hReferenceIdeal : Cert.ReferenceIdeal.Facts] [hPre_finite_scan : Cert.Pre_finite_scan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scan m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_after_ssd [hKernel4Ideal : Cert.Kernel4Ideal.Facts] [hReference4Ideal : Cert.Reference4Ideal.Facts] [hPre_finite_after_ssd : Cert.Pre_finite_after_ssd.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_after_ssd m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_after_da [hKernel5Ideal : Cert.Kernel5Ideal.Facts] [hReference5Ideal : Cert.Reference5Ideal.Facts] [hPre_finite_after_da : Cert.Pre_finite_after_da.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_after_da m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v42) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)) (v3 : (c : Dev Cert.Kernel7Ideal.nD) → Buf (Elt Ideal) ((c.tc : Thread Cert.Kernel7Ideal.nD Cert.Kernel7Ideal.τ).loc Cert.Kernel7Ideal.main_v8_3)) (v4 : (c : Dev Cert.Kernel7Ideal.nD) → Buf (Elt Ideal) ((c.tc : Thread Cert.Kernel7Ideal.nD Cert.Kernel7Ideal.τ).loc Cert.Kernel7Ideal.main_v8_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_v8_3) = v3 c
          ∧ r.2.mem ((c.tc : Thread Cert.Kernel7Ideal.nD Cert.Kernel7Ideal.τ).loc Cert.Kernel7Ideal.main_v8_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v49) = v1 c
          ∧ r.2.mem ((c.tc : Thread Cert.Reference7Ideal.nD Cert.Reference7Ideal.τ).loc Cert.Reference7Ideal.main_v58) = v2 c
          ∧ r.2.mem ((c.tc : Thread Cert.Reference7Ideal.nD Cert.Reference7Ideal.τ).loc Cert.Reference7Ideal.main_v59) = v3 c
          ∧ r.2.mem ((c.tc : Thread Cert.Reference7Ideal.nD Cert.Reference7Ideal.τ).loc Cert.Reference7Ideal.main_v57) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v26_0)) (v1 : (c : Dev Cert.Kernel8Ideal.nD) → Buf (Elt Ideal) ((c.tc : Thread Cert.Kernel8Ideal.nD Cert.Kernel8Ideal.τ).loc Cert.Kernel8Ideal.main_v26_1)) (v2 : (c : Dev Cert.Kernel8Ideal.nD) → Buf (Elt Ideal) ((c.tc : Thread Cert.Kernel8Ideal.nD Cert.Kernel8Ideal.τ).loc Cert.Kernel8Ideal.main_v26_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v26_0) = v0 c
          ∧ r.2.mem ((c.tc : Thread Cert.Kernel8Ideal.nD Cert.Kernel8Ideal.τ).loc Cert.Kernel8Ideal.main_v26_1) = v1 c
          ∧ r.2.mem ((c.tc : Thread Cert.Kernel8Ideal.nD Cert.Kernel8Ideal.τ).loc Cert.Kernel8Ideal.main_v26_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v80) = v0 c
          ∧ r.2.mem ((c.tc : Thread Cert.Reference8Ideal.nD Cert.Reference8Ideal.τ).loc Cert.Reference8Ideal.main_v82) = v1 c
          ∧ r.2.mem ((c.tc : Thread Cert.Reference8Ideal.nD Cert.Reference8Ideal.τ).loc Cert.Reference8Ideal.main_v83) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scan : Cert.Pre_finite_scan.Facts) (hPre_finite_after_ssd : Cert.Pre_finite_after_ssd.Facts) (hPre_finite_after_da : Cert.Pre_finite_after_da.Facts),
    quiescent_Kernel (hKernel := hKernel)
    ∧ quiescent_KernelIdeal (hKernelIdeal := hKernelIdeal)
    ∧ quiescent_KernelIdeal_pre_finite_scan (hKernelIdeal := hKernelIdeal) (hPre_finite_scan := hPre_finite_scan)
    ∧ quiescent_ReferenceIdeal (hReferenceIdeal := hReferenceIdeal)
    ∧ quiescent_ReferenceIdeal_pre_finite_scan (hReferenceIdeal := hReferenceIdeal) (hPre_finite_scan := hPre_finite_scan)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_after_ssd (hKernel4Ideal := hKernel4Ideal) (hPre_finite_after_ssd := hPre_finite_after_ssd)
    ∧ quiescent_Reference4Ideal (hReference4Ideal := hReference4Ideal)
    ∧ quiescent_Reference4Ideal_pre_finite_after_ssd (hReference4Ideal := hReference4Ideal) (hPre_finite_after_ssd := hPre_finite_after_ssd)
    ∧ quiescent_Kernel5 (hKernel5 := hKernel5)
    ∧ quiescent_Kernel5Ideal (hKernel5Ideal := hKernel5Ideal)
    ∧ quiescent_Kernel5Ideal_pre_finite_after_da (hKernel5Ideal := hKernel5Ideal) (hPre_finite_after_da := hPre_finite_after_da)
    ∧ quiescent_Reference5Ideal (hReference5Ideal := hReference5Ideal)
    ∧ quiescent_Reference5Ideal_pre_finite_after_da (hReference5Ideal := hReference5Ideal) (hPre_finite_after_da := hPre_finite_after_da)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_scan (hKernelIdeal := hKernelIdeal) (hReferenceIdeal := hReferenceIdeal) (hPre_finite_scan := hPre_finite_scan)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_after_ssd (hKernel4Ideal := hKernel4Ideal) (hReference4Ideal := hReference4Ideal) (hPre_finite_after_ssd := hPre_finite_after_ssd)
    ∧ preserves_Kernel5_Kernel5Ideal
    ∧ algebraic_Kernel5Ideal_Reference5Ideal_pre_finite_after_da (hKernel5Ideal := hKernel5Ideal) (hReference5Ideal := hReference5Ideal) (hPre_finite_after_da := hPre_finite_after_da)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_after_da.lean ====
abbrev S2x8192x1024 : Shape := ⟨3, ![2, 8192, 1024]⟩
abbrev S1024x1024 : Shape := ⟨2, ![1024, 1024]⟩
abbrev S1024 : Shape := ⟨1, ![1024]⟩
abbrev S2x256x1024 : Shape := ⟨3, ![2, 256, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2x256x1024 : S_.BroadcastsInDim S2x256x1024 (![] : Fin 0 → Fin S2x256x1024.rank)
  reducesTo_S2x256x1024_S_d0_1_2 : S2x256x1024.ReducesTo [0, 1, 2] S_

variable [Facts]

def fn_part1 {F : FTy → Type} [FloatOps F] (main_arg4 : FVec F S1024x1024 .f32) (main_arg5 : FVec F S2x256x1024 .bf16) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S2x256x1024 .bf16 := Host.absf main_arg5
  let main_cst_8 : FVec F S_ .bf16 := constant S_ .bf16 0x7F80#16
  let main_v21 : FVec F S2x256x1024 .bf16 := broadcastInDim S2x256x1024 ![] bcast_S_S2x256x1024 main_cst_8
  let main_v22 : IVec S2x256x1024 1 := cmpf .olt main_v20 main_v21
  let main_c_9 : IVec S_ 1 := constantI S_ 1 1#1
  let main_v23 : IVec S_ 1 := (fun x v => Host.reduce IntOp.andi x v reducesTo_S2x256x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x8192x1024 .f32) (main_arg1 : FVec F S2x8192x1024 .bf16) (main_arg2 : FVec F S1024x1024 .f32) (main_arg3 : FVec F S1024 .f32) (main_arg4 : FVec F S1024x1024 .f32) (main_arg5 : FVec F S2x256x1024 .bf16) (main_arg6 : FVec F S2x256x1024 .bf16) (main_arg7 : FVec F S1024x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x8192x1024 .bf16 := Host.absf main_arg1
  let main_cst_0 : FVec F S_ .bf16 := constant S_ .bf16 0x7F80#16
  let main_v5 : FVec F S2x8192x1024 .bf16 := broadcastInDim S2x8192x1024 ![] bcast_S_S2x8192x1024 main_cst_0
  let main_v6 : IVec S2x8192x1024 1 := cmpf .olt main_v4 main_v5
  let main_c_1 : IVec S_ 1 := constantI S_ 1 1#1
  let main_v7 : IVec S_ 1 := (fun x v => Host.reduce IntOp.andi x v reducesTo_S2x8192x1024_S_d0_1_2 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_v3 main_v7 main_v11 main_v15
-- ==== Pre_finite_after_ssd.lean ====
abbrev S2x8192x1024 : Shape := ⟨3, ![2, 8192, 1024]⟩
abbrev S2x8192x2048 : Shape := ⟨3, ![2, 8192, 2048]⟩
abbrev S2048x1024 : Shape := ⟨2, ![2048, 1024]⟩
abbrev S1024 : Shape := ⟨1, ![1024]⟩
abbrev S1024x1024 : Shape := ⟨2, ![1024, 1024]⟩
abbrev S2x256x1024 : Shape := ⟨3, ![2, 256, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S2x8192x2048 : S_.BroadcastsInDim S2x8192x2048 (![] : Fin 0 → Fin S2x8192x2048.rank)
  reducesTo_S2x8192x2048_S_d0_1_2 : S2x8192x2048.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2x256x1024 : S_.BroadcastsInDim S2x256x1024 (![] : Fin 0 → Fin S2x256x1024.rank)
  reducesTo_S2x256x1024_S_d0_1_2 : S2x256x1024.ReducesTo [0, 1, 2] S_

variable [Facts]

def fn_part1 {F : FTy → Type} [FloatOps F] (main_arg4 : FVec F S1024x1024 .f32) (main_arg5 : FVec F S2x256x1024 .bf16) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S2x256x1024 .bf16 := Host.absf main_arg5
  let main_cst_8 : FVec F S_ .bf16 := constant S_ .bf16 0x7F80#16
  let main_v21 : FVec F S2x256x1024 .bf16 := broadcastInDim S2x256x1024 ![] bcast_S_S2x256x1024 main_cst_8
  let main_v22 : IVec S2x256x1024 1 := cmpf .olt main_v20 main_v21
  let main_c_9 : IVec S_ 1 := constantI S_ 1 1#1
  let main_v23 : IVec S_ 1 := (fun x v => Host.reduce IntOp.andi x v reducesTo_S2x256x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x8192x1024 .f32) (main_arg1 : FVec F S2x8192x2048 .bf16) (main_arg2 : FVec F S2048x1024 .f32) (main_arg3 : FVec F S1024 .f32) (main_arg4 : FVec F S1024x1024 .f32) (main_arg5 : FVec F S2x256x1024 .bf16) (main_arg6 : FVec F S2x256x1024 .bf16) (main_arg7 : FVec F S1024x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x8192x2048 .bf16 := Host.absf main_arg1
  let main_cst_0 : FVec F S_ .bf16 := constant S_ .bf16 0x7F80#16
  let main_v5 : FVec F S2x8192x2048 .bf16 := broadcastInDim S2x8192x2048 ![] bcast_S_S2x8192x2048 main_cst_0
  let main_v6 : IVec S2x8192x2048 1 := cmpf .olt main_v4 main_v5
  let main_c_1 : IVec S_ 1 := constantI S_ 1 1#1
  let main_v7 : IVec S_ 1 := (fun x v => Host.reduce IntOp.andi x v reducesTo_S2x8192x2048_S_d0_1_2 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_v3 main_v7 main_v11 main_v15
-- ==== Pre_finite_scan.lean ====
abbrev S2x8192x2048 : Shape := ⟨3, ![2, 8192, 2048]⟩
abbrev S2x8192x1024 : Shape := ⟨3, ![2, 8192, 1024]⟩
abbrev S2x8192x128 : Shape := ⟨3, ![2, 8192, 128]⟩
abbrev S32 : Shape := ⟨1, ![32]⟩
abbrev S2048 : Shape := ⟨1, ![2048]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S2x8192x1024 : S_.BroadcastsInDim S2x8192x1024 (![] : Fin 0 → Fin S2x8192x1024.rank)
  reducesTo_S2x8192x1024_S_d0_1_2 : S2x8192x1024.ReducesTo [0, 1, 2] S_
  bcast_S_S2x8192x128 : S_.BroadcastsInDim S2x8192x128 (![] : Fin 0 → Fin S2x8192x128.rank)
  reducesTo_S2x8192x128_S_d0_1_2 : S2x8192x128.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v3 : IVec S_ 1) (main_v7 : IVec S_ 1) (main_v11 : IVec S_ 1) (main_v15 : IVec S_ 1) : IVec S_ 1 :=
  let main_v16 : FVec F S32 .f32 := Host.absf main_arg5
  let main_cst_6 : FVec F S_ .f32 := constant S_ .f32 0x7F800000#32
  let main_v17 : FVec F S32 .f32 := broadcastInDim S32 ![] bcast_S_S32 main_cst_6
  let main_v18 : IVec S32 1 := cmpf .olt main_v16 main_v17
  let main_c_7 : IVec S_ 1 := constantI S_ 1 1#1
  let main_v19 : IVec S_ 1 := (fun x v => Host.reduce IntOp.andi x v reducesTo_S32_S_d0 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x8192x2048 .f32) (main_arg1 : FVec F S2x8192x1024 .bf16) (main_arg2 : FVec F S2x8192x1024 .bf16) (main_arg3 : FVec F S2x8192x128 .f32) (main_arg4 : FVec F S2x8192x2048 .f32) (main_arg5 : FVec F S32 .f32) (main_arg6 : FVec F S32 .f32) (main_arg7 : FVec F S2048 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S2x8192x1024 .bf16 := Host.absf main_arg1
  let main_cst_0 : FVec F S_ .bf16 := constant S_ .bf16 0x7F80#16
  let main_v5 : FVec F S2x8192x1024 .bf16 := broadcastInDim S2x8192x1024 ![] bcast_S_S2x8192x1024 main_cst_0
  let main_v6 : IVec S2x8192x1024 1 := cmpf .olt main_v4 main_v5
  let main_c_1 : IVec S_ 1 := constantI S_ 1 1#1
  let main_v7 : IVec S_ 1 := (fun x v => Host.reduce IntOp.andi x v reducesTo_S2x8192x1024_S_d0_1_2 h_S_) main_v6 main_c_1
  let main_v8 : FVec F S2x8192x1024 .bf16 := Host.absf main_arg2
  let main_cst_2 : FVec F S_ .bf16 := constant S_ .bf16 0x7F80#16
  let main_v9 : FVec F S2x8192x1024 .bf16 := broadcastInDim S2x8192x1024 ![] bcast_S_S2x8192x1024 main_cst_2
  let main_v10 : IVec S2x8192x1024 1 := cmpf .olt main_v8 main_v9
  let main_c_3 : IVec S_ 1 := constantI S_ 1 1#1
  let main_v11 : IVec S_ 1 := (fun x v => Host.reduce IntOp.andi x v reducesTo_S2x8192x1024_S_d0_1_2 h_S_) main_v10 main_c_3
  let main_v12 : FVec F S2x8192x128 .f32 := Host.absf main_arg3
  let main_cst_4 : FVec F S_ .f32 := constant S_ .f32 0x7F800000#32
  let main_v13 : FVec F S2x8192x128 .f32 := broadcastInDim S2x8192x128 ![] bcast_S_S2x8192x128 main_cst_4
  let main_v14 : IVec S2x8192x128 1 := cmpf .olt main_v12 main_v13
  let main_c_5 : IVec S_ 1 := constantI S_ 1 1#1
  let main_v15 : IVec S_ 1 := (fun x v => Host.reduce IntOp.andi x v reducesTo_S2x8192x128_S_d0_1_2 h_S_) main_v14 main_c_5
  fn_part1 (F := F) main_arg5 main_v3 main_v7 main_v11 main_v15
-- ==== Kernel.lean ====
abbrev S2x8192x2048 : Shape := ⟨3, ![2, 8192, 2048]⟩
abbrev S2x8192x1024 : Shape := ⟨3, ![2, 8192, 1024]⟩
abbrev S2x8192x128 : Shape := ⟨3, ![2, 8192, 128]⟩
abbrev S32 : Shape := ⟨1, ![32]⟩
abbrev S2048 : Shape := ⟨1, ![2048]⟩
abbrev S_ : Shape := ⟨0, ![]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S128x1 : Shape := ⟨2, ![128, 1]⟩
abbrev S128x2048 : Shape := ⟨2, ![128, 2048]⟩
abbrev S1x128x2048 : Shape := ⟨3, ![1, 128, 2048]⟩
abbrev S1x128x1024 : Shape := ⟨3, ![1, 128, 1024]⟩
abbrev S1x128x128 : Shape := ⟨3, ![1, 128, 128]⟩
abbrev S128x128 : Shape := ⟨2, ![128, 128]⟩
abbrev S128x256 : Shape := ⟨2, ![128, 256]⟩
abbrev S128x512 : Shape := ⟨2, ![128, 512]⟩
abbrev S512x256 : Shape := ⟨2, ![512, 256]⟩
abbrev S1x256 : Shape := ⟨2, ![1, 256]⟩
abbrev S1x128x256 : Shape := ⟨3, ![1, 128, 256]⟩

abbrev nBuf : Space → Nat
  | .hbm => 43
  | .vmem => 17
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .bf16⟩
  | .hbm, ⟨2, _⟩ => ⟨S2x8192x1024, .bf16⟩
  | .hbm, ⟨3, _⟩ => ⟨S2x8192x128, .f32⟩
  | .hbm, ⟨4, _⟩ => ⟨S2x8192x2048, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S32x64, .f32⟩
  | .hbm, ⟨13, _⟩ => ⟨S2048, .f32⟩
  | .hbm, ⟨14, _⟩ => ⟨S1x2048, .f32⟩
  | .hbm, ⟨15, _⟩ => ⟨S128, .i32⟩
  | .hbm, ⟨16, _⟩ => ⟨S128x1, .i32⟩
  | .hbm, ⟨17, _⟩ => ⟨S2048, .i32⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S1x2048, .i32⟩
  | .hbm, ⟨37, _⟩ => ⟨S128x2048, .i32⟩
  | .hbm, ⟨38, _⟩ => ⟨S128x2048, .i32⟩
  | .hbm, ⟨39, _⟩ => ⟨S128x2048, .i1⟩
  | .hbm, ⟨40, _⟩ => ⟨S128x2048, .bf16⟩
  | .hbm, ⟨41, _⟩ => ⟨S1x2048, .f32⟩
  | .hbm, ⟨42, _⟩ => ⟨S2x8192x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x128, .f32⟩
  | .local _ .vmem, ⟨7, _⟩ => ⟨S1x128x128, .f32⟩
  | .local _ .vmem, ⟨8, _⟩ => ⟨S1x128x2048, .f32⟩
  | .local _ .vmem, ⟨9, _⟩ => ⟨S1x128x2048, .f32⟩
  | .local _ .vmem, ⟨10, _⟩ => ⟨S1x128, .f32⟩
  | .local _ .vmem, ⟨11, _⟩ => ⟨S1x2048, .f32⟩
  | .local _ .vmem, ⟨12, _⟩ => ⟨S1x2048, .f32⟩
  | .local _ .vmem, ⟨13, _⟩ => ⟨S128x2048, .bf16⟩
  | .local _ .vmem, ⟨14, _⟩ => ⟨S1x128x2048, .bf16⟩
  | .local _ .vmem, ⟨15, _⟩ => ⟨S1x128x2048, .bf16⟩
  | .local _ .vmem, ⟨16, _⟩ => ⟨S128x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_0 : Ref sig .tc := ⟨.hbm, 32, rfl⟩
abbrev main_call1_v12 : Ref sig .tc := ⟨.hbm, 33, rfl⟩
abbrev main_call1_v13 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x8192x2048 : Shape := ⟨3, ![2, 8192, 2048]⟩
abbrev S2x8192x1024 : Shape := ⟨3, ![2, 8192, 1024]⟩
abbrev S2x8192x128 : Shape := ⟨3, ![2, 8192, 128]⟩
abbrev S32 : Shape := ⟨1, ![32]⟩
abbrev S2048 : Shape := ⟨1, ![2048]⟩
abbrev S2x8192x8x4x64 : Shape := ⟨5, ![2, 8192, 8, 4, 64]⟩
abbrev S2x8192x8x128 : Shape := ⟨4, ![2, 8192, 8, 128]⟩
abbrev S2x8192x32 : Shape := ⟨3, ![2, 8192, 32]⟩
abbrev S2x8192x8x4 : Shape := ⟨4, ![2, 8192, 8, 4]⟩
abbrev S8x4 : Shape := ⟨2, ![8, 4]⟩
abbrev S2x8192x8x4x1 : Shape := ⟨5, ![2, 8192, 8, 4, 1]⟩
abbrev S1x1x8x4 : Shape := ⟨4, ![1, 1, 8, 4]⟩
abbrev S2x64x128x8x4x64 : Shape := ⟨6, ![2, 64, 128, 8, 4, 64]⟩
abbrev S2x64x128x8x128 : Shape := ⟨5, ![2, 64, 128, 8, 128]⟩
abbrev S2x64x128x8x4 : Shape := ⟨5, ![2, 64, 128, 8, 4]⟩
abbrev S_ : Shape := ⟨0, ![]⟩
abbrev S2x8x4x64x128 : Shape := ⟨5, ![2, 8, 4, 64, 128]⟩
abbrev S2x8x4x64x128x1 : Shape := ⟨6, ![2, 8, 4, 64, 128, 1]⟩
abbrev S2x8x4x64x1x128 : Shape := ⟨6, ![2, 8, 4, 64, 1, 128]⟩
abbrev S2x8x4x64x128x128 : Shape := ⟨6, ![2, 8, 4, 64, 128, 128]⟩
abbrev S128x128 : Shape := ⟨2, ![128, 128]⟩
abbrev S2x8x64x128x128 : Shape := ⟨5, ![2, 8, 64, 128, 128]⟩
abbrev S2x8x1x64x128x128 : Shape := ⟨6, ![2, 8, 1, 64, 128, 128]⟩
abbrev S2x64x8x4x64x128 : Shape := ⟨6, ![2, 64, 8, 4, 64, 128]⟩
abbrev S2x8x4x64x1 : Shape := ⟨5, ![2, 8, 4, 64, 1]⟩
abbrev S2x64x128x8x4x1 : Shape := ⟨6, ![2, 64, 128, 8, 4, 1]⟩
abbrev S64x2x8x4x64x128 : Shape := ⟨6, ![64, 2, 8, 4, 64, 128]⟩
abbrev S2x8x4x64 : Shape := ⟨4, ![2, 8, 4, 64]⟩
abbrev S64x2x8x4 : Shape := ⟨4, ![64, 2, 8, 4]⟩
abbrev S1x2x8x4x64x128 : Shape := ⟨6, ![1, 2, 8, 4, 64, 128]⟩
abbrev S1x2x8x4 : Shape := ⟨4, ![1, 2, 8, 4]⟩
abbrev S2x8x4 : Shape := ⟨3, ![2, 8, 4]⟩
abbrev S2x8x4x1x1 : Shape := ⟨5, ![2, 8, 4, 1, 1]⟩
abbrev S8x4x1 : Shape := ⟨3, ![8, 4, 1]⟩
abbrev S1x1x8x4x1 : Shape := ⟨5, ![1, 1, 8, 4, 1]⟩
abbrev S2x8192x8x256 : Shape := ⟨4, ![2, 8192, 8, 256]⟩
abbrev S2x8192x8 : Shape := ⟨3, ![2, 8192, 8]⟩
abbrev S2x8192x8x1 : Shape := ⟨4, ![2, 8192, 8, 1]⟩
abbrev S1x1x2048 : Shape := ⟨3, ![1, 1, 2048]⟩

abbrev nBuf : Space → Nat
  | .hbm => 155
  | .vmem => 0
  | .smem => 0
  | _ => 0

abbrev hbmTy0_0 (i : Nat) : BufTy := match i % 128 with
  | 0 => ⟨S2x8192x2048, .f32⟩
  | 1 => ⟨S2x8192x1024, .bf16⟩
  | 2 => ⟨S2x8192x1024, .bf16⟩
  | 3 => ⟨S2x8192x128, .f32⟩
  | 4 => ⟨S2x8192x2048, .f32⟩
  | 5 => ⟨S32, .f32⟩
  | 6 => ⟨S32, .f32⟩
  | 7 => ⟨S2048, .f32⟩
  | 8 => ⟨S2x8192x8x4x64, .f32⟩
  | 9 => ⟨S2x8192x1024, .f32⟩
  | 10 => ⟨S2x8192x8x128, .f32⟩
  | 11 => ⟨S2x8192x1024, .f32⟩
  | 12 => ⟨S2x8192x8x128, .f32⟩
  | 13 => ⟨S2x8192x32, .f32⟩
  | 14 => ⟨S2x8192x8x4, .f32⟩
  | 15 => ⟨S32, .f32⟩
  | 16 => ⟨S8x4, .f32⟩
  | 17 => ⟨S8x4, .f32⟩
  | 18 => ⟨S2x8192x8x4x1, .f32⟩
  | 19 => ⟨S2x8192x8x4x64, .f32⟩
  | 20 => ⟨S2x8192x8x4x64, .f32⟩
  | 21 => ⟨S1x1x8x4, .f32⟩
  | 22 => ⟨S2x8192x8x4, .f32⟩
  | 23 => ⟨S2x8192x8x4, .f32⟩
  | 24 => ⟨S2x64x128x8x4x64, .f32⟩
  | 25 => ⟨S2x64x128x8x128, .f32⟩
  | 26 => ⟨S2x64x128x8x128, .f32⟩
  | 27 => ⟨S2x64x128x8x4, .f32⟩
  | 28 => ⟨S_, .f32⟩
  | 29 => ⟨S_, .f32⟩
  | 30 => ⟨S2x64x128x8x4, .f32⟩
  | 31 => ⟨S2x8x4x64x128, .f32⟩
  | 32 => ⟨S2x8x4x64x128x1, .f32⟩
  | 33 => ⟨S2x8x4x64x1x128, .f32⟩
  | 34 => ⟨S2x8x4x64x128x128, .f32⟩
  | 35 => ⟨S2x8x4x64x128x128, .f32⟩
  | 36 => ⟨S2x8x4x64x128x128, .f32⟩
  | 37 => ⟨S_, .i1⟩
  | 38 => ⟨S128x128, .i1⟩
  | 39 => ⟨S128x128, .i32⟩
  | 40 => ⟨S_, .i32⟩
  | 41 => ⟨S128x128, .i32⟩
  | 42 => ⟨S128x128, .i32⟩
  | 43 => ⟨S128x128, .i32⟩
  | 44 => ⟨S128x128, .i1⟩
  | 45 => ⟨S_, .i1⟩
  | 46 => ⟨S128x128, .i1⟩
  | 47 => ⟨S128x128, .i1⟩
  | 48 => ⟨S_, .f32⟩
  | 49 => ⟨S_, .f32⟩
  | 50 => ⟨S2x8x4x64x128x128, .i1⟩
  | 51 => ⟨S2x8x4x64x128x128, .f32⟩
  | 52 => ⟨S2x8x4x64x128x128, .f32⟩
  | 53 => ⟨S2x8x4x64x128x128, .f32⟩
  | 54 => ⟨S2x8x64x128x128, .f32⟩
  | 55 => ⟨S2x8x1x64x128x128, .f32⟩
  | 56 => ⟨S2x8x4x64x128x128, .f32⟩
  | 57 => ⟨S2x8x4x64x128x128, .f32⟩
  | 58 => ⟨S2x64x8x4x64x128, .f32⟩
  | 59 => ⟨S2x64x128x8x4x64, .f32⟩
  | 60 => ⟨S2x8x4x64x1, .f32⟩
  | 61 => ⟨S2x8x4x64x128, .f32⟩
  | 62 => ⟨S2x8x4x64x128, .f32⟩
  | 63 => ⟨S2x8x4x64x128, .f32⟩
  | 64 => ⟨S2x64x128x8x4, .f32⟩
  | 65 => ⟨S2x64x128x8x4x1, .f32⟩
  | 66 => ⟨S2x64x128x8x4x64, .f32⟩
  | 67 => ⟨S2x64x128x8x4x64, .f32⟩
  | 68 => ⟨S64x2x8x4x64x128, .f32⟩
  | 69 => ⟨S2x8x4x64x1, .f32⟩
  | 70 => ⟨S2x8x4x64, .f32⟩
  | 71 => ⟨S2x8x4x64, .f32⟩
  | 72 => ⟨S64x2x8x4, .f32⟩
  | 73 => ⟨S_, .f32⟩
  | 74 => ⟨S2x8x4x64x128, .f32⟩
  | 75 => ⟨S_, .f32⟩
  | 76 => ⟨S64x2x8x4x64x128, .f32⟩
  | 77 => ⟨S_, .i32⟩
  | 78 => ⟨S64x2x8x4x64x128, .f32⟩
  | 79 => ⟨S64x2x8x4, .f32⟩
  | 80 => ⟨S_, .i32⟩
  | 81 => ⟨S2x8x4x64x128, .f32⟩
  | 82 => ⟨S64x2x8x4x64x128, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S1x2x8x4x64x128, .f32⟩
  | 91 => ⟨S2x8x4x64x128, .f32⟩
  | 92 => ⟨S_, .i32⟩
  | 93 => ⟨S_, .i32⟩
  | 94 => ⟨S_, .i32⟩
  | 95 => ⟨S1x2x8x4, .f32⟩
  | 96 => ⟨S2x8x4, .f32⟩
  | 97 => ⟨S2x8x4x1x1, .f32⟩
  | 98 => ⟨S2x8x4x64x128, .f32⟩
  | 99 => ⟨S2x8x4x64x128, .f32⟩
  | 100 => ⟨S2x8x4x64x128, .f32⟩
  | 101 => ⟨S1x2x8x4x64x128, .f32⟩
  | 102 => ⟨S_, .i32⟩
  | 103 => ⟨S_, .i32⟩
  | 104 => ⟨S_, .i32⟩
  | 105 => ⟨S_, .i32⟩
  | 106 => ⟨S_, .i32⟩
  | 107 => ⟨S64x2x8x4x64x128, .f32⟩
  | 108 => ⟨S_, .i32⟩
  | 109 => ⟨S_, .i32⟩
  | 110 => ⟨S2x64x8x4x64x128, .f32⟩
  | 111 => ⟨S2x64x128x8x4x64, .f32⟩
  | 112 => ⟨S2x8x4x64x128, .f32⟩
  | 113 => ⟨S2x64x128x8x4, .f32⟩
  | 114 => ⟨S2x64x128x8x4x1, .f32⟩
  | 115 => ⟨S2x64x128x8x4x64, .f32⟩
  | 116 => ⟨S2x64x128x8x4x64, .f32⟩
  | 117 => ⟨S2x64x128x8x4x64, .f32⟩
  | 118 => ⟨S2x8192x8x4x64, .f32⟩
  | 119 => ⟨S8x4, .f32⟩
  | 120 => ⟨S8x4x1, .f32⟩
  | 121 => ⟨S1x1x8x4x1, .f32⟩
  | 122 => ⟨S2x8192x8x4x64, .f32⟩
  | 123 => ⟨S2x8192x8x4x64, .f32⟩
  | 124 => ⟨S2x8192x8x4x64, .f32⟩
  | 125 => ⟨S2x8192x2048, .f32⟩
  | 126 => ⟨S2x8192x2048, .f32⟩
  | 127 => ⟨S2x8192x2048, .f32⟩
  | _ => ⟨S2x8192x2048, .f32⟩

abbrev hbmTy0_1 (i : Nat) : BufTy := match i % 128 with
  | 0 => ⟨S_, .f32⟩
  | 1 => ⟨S2x8192x2048, .f32⟩
  | 2 => ⟨S2x8192x2048, .f32⟩
  | 3 => ⟨S_, .f32⟩
  | 4 => ⟨S2x8192x2048, .f32⟩
  | 5 => ⟨S2x8192x2048, .f32⟩
  | 6 => ⟨S2x8192x2048, .f32⟩
  | 7 => ⟨S2x8192x2048, .f32⟩
  | 8 => ⟨S2x8192x8x256, .f32⟩
  | 9 => ⟨S2x8192x8x256, .f32⟩
  | 10 => ⟨S_, .f32⟩
  | 11 => ⟨S2x8192x8, .f32⟩
  | 12 => ⟨S2x8192x8x1, .f32⟩
  | 13 => ⟨S_, .f32⟩
  | 14 => ⟨S2x8192x8x1, .f32⟩
  | 15 => ⟨S2x8192x8x1, .f32⟩
  | 16 => ⟨S_, .f32⟩
  | 17 => ⟨S2x8192x8x1, .f32⟩
  | 18 => ⟨S2x8192x8x1, .f32⟩
  | 19 => ⟨S2x8192x8x1, .f32⟩
  | 20 => ⟨S2x8192x8x256, .f32⟩
  | 21 => ⟨S2x8192x8x256, .f32⟩
  | 22 => ⟨S2x8192x2048, .f32⟩
  | 23 => ⟨S1x1x2048, .f32⟩
  | 24 => ⟨S2x8192x2048, .f32⟩
  | 25 => ⟨S2x8192x2048, .f32⟩
  | 26 => ⟨S2x8192x2048, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_call0_cst : Ref sig .tc := ⟨.hbm, 28, rfl⟩
abbrev main_call0_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_0 : Ref sig .tc := ⟨.hbm, 45, rfl⟩
abbrev main_call1_v5 : Ref sig .tc := ⟨.hbm, 46, rfl⟩
abbrev main_v28 : Ref sig .tc := ⟨.hbm, 47, rfl⟩
abbrev main_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_0 : Ref sig .tc := ⟨.hbm, 73, rfl⟩
abbrev main_v50 : Ref sig .tc := ⟨.hbm, 74, rfl⟩
abbrev main_cst_1 : Ref sig .tc := ⟨.hbm, 75, rfl⟩
abbrev main_v51 : Ref sig .tc := ⟨.hbm, 76, rfl⟩
abbrev main_c_2 : Ref sig .tc := ⟨.hbm, 77, rfl⟩
abbrev main_v52_0 : Ref sig .tc := ⟨.hbm, 78, rfl⟩
abbrev main_v52_1 : Ref sig .tc := ⟨.hbm, 79, rfl⟩
abbrev main_v52_2 : Ref sig .tc := ⟨.hbm, 80, rfl⟩
abbrev main_v52_3 : Ref sig .tc := ⟨.hbm, 81, rfl⟩
abbrev main_v52_4 : Ref sig .tc := ⟨.hbm, 82, rfl⟩
abbrev main_while0c_c_10 : Ref sig .tc := ⟨.hbm, 83, rfl⟩
abbrev main_while0c_v87 : Ref sig .tc := ⟨.hbm, 84, rfl⟩
abbrev main_while0b_call3_c : Ref sig .tc := ⟨.hbm, 85, rfl⟩
abbrev main_while0b_call3_c_0 : Ref sig .tc := ⟨.hbm, 86, rfl⟩
abbrev main_while0b_call3_c_1 : Ref sig .tc := ⟨.hbm, 87, rfl⟩
abbrev main_while0b_call3_c_2 : Ref sig .tc := ⟨.hbm, 88, rfl⟩
abbrev main_while0b_call3_c_3 : Ref sig .tc := ⟨.hbm, 89, rfl⟩
abbrev main_while0b_call3_v0 : Ref sig .tc := ⟨.hbm, 90, rfl⟩
abbrev main_while0b_v87 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_v0 : Ref sig .tc := ⟨.hbm, 95, rfl⟩
abbrev main_while0b_v88 : Ref sig .tc := ⟨.hbm, 96, rfl⟩
abbrev main_while0b_v89 : Ref sig .tc := ⟨.hbm, 97, rfl⟩
abbrev main_while0b_v90 : Ref sig .tc := ⟨.hbm, 98, rfl⟩
abbrev main_while0b_v91 : Ref sig .tc := ⟨.hbm, 99, rfl⟩
abbrev main_while0b_v92 : Ref sig .tc := ⟨.hbm, 100, rfl⟩
abbrev main_while0b_call5_v0 : Ref sig .tc := ⟨.hbm, 101, rfl⟩
abbrev main_while0b_call5_c : Ref sig .tc := ⟨.hbm, 102, rfl⟩
abbrev main_while0b_call5_c_0 : Ref sig .tc := ⟨.hbm, 103, rfl⟩
abbrev main_while0b_call5_c_1 : Ref sig .tc := ⟨.hbm, 104, rfl⟩
abbrev main_while0b_call5_c_2 : Ref sig .tc := ⟨.hbm, 105, rfl⟩
abbrev main_while0b_call5_c_3 : Ref sig .tc := ⟨.hbm, 106, rfl⟩
abbrev main_while0b_v93 : Ref sig .tc := ⟨.hbm, 107, rfl⟩
abbrev main_while0b_c_10 : Ref sig .tc := ⟨.hbm, 108, rfl⟩
abbrev main_while0b_v94 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_3 : Ref sig .tc := ⟨.hbm, 138, rfl⟩
abbrev main_v73 : Ref sig .tc := ⟨.hbm, 139, rfl⟩
abbrev main_v74 : Ref sig .tc := ⟨.hbm, 140, rfl⟩
abbrev main_cst_4 : Ref sig .tc := ⟨.hbm, 141, rfl⟩
abbrev main_v75 : Ref sig .tc := ⟨.hbm, 142, rfl⟩
abbrev main_v76 : Ref sig .tc := ⟨.hbm, 143, rfl⟩
abbrev main_cst_5 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩
abbrev S1024x768 : Shape := ⟨2, ![1024, 768]⟩
abbrev S768x1024 : Shape := ⟨2, ![768, 1024]⟩

abbrev nBuf : Space → Nat
  | .hbm => 13
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S_, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | .hbm, ⟨55, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩
abbrev S1024x768 : Shape := ⟨2, ![1024, 768]⟩
abbrev S768x1024 : Shape := ⟨2, ![768, 1024]⟩

abbrev nBuf : Space → Nat
  | .hbm => 13
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S_, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x8192x2048 : Shape := ⟨3, ![2, 8192, 2048]⟩
abbrev S2048x1024 : Shape := ⟨2, ![2048, 1024]⟩
abbrev S1024 : Shape := ⟨1, ![1024]⟩
abbrev S1024x1024 : Shape := ⟨2, ![1024, 1024]⟩
abbrev S2x256x1024 : Shape := ⟨3, ![2, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x256x1024 : Shape := ⟨3, ![1, 256, 1024]⟩
abbrev S1024x2048 : Shape := ⟨2, ![1024, 2048]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 13
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x2048, .bf16⟩
  | .hbm, ⟨2, _⟩ => ⟨S2048x1024, .f32⟩
  | .hbm, ⟨3, _⟩ => ⟨S1024, .f32⟩
  | .hbm, ⟨4, _⟩ => ⟨S1024x1024, .f32⟩
  | .hbm, ⟨5, _⟩ => ⟨S2x256x1024, .bf16⟩
  | .hbm, ⟨6, _⟩ => ⟨S2x256x1024, .bf16⟩
  | .hbm, ⟨7, _⟩ => ⟨S1024x1024, .f32⟩
  | .hbm, ⟨8, _⟩ => ⟨S2048x1024, .bf16⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S2048x1024, .bf16⟩
  | .local _ .vmem, ⟨5, _⟩ => ⟨S1x1024, .f32⟩
  | .local _ .vmem, ⟨6, _⟩ => ⟨S1024x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1024x1024, .bf16⟩
  | .local _ .vmem, ⟨12, _⟩ => ⟨S1x1024x1024, .f32⟩
  | .local _ .vmem, ⟨13, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel4Ideal.lean ====
abbrev S2x8192x1024 : Shape := ⟨3, ![2, 8192, 1024]⟩
abbrev S2x8192x2048 : Shape := ⟨3, ![2, 8192, 2048]⟩
abbrev S2048x1024 : Shape := ⟨2, ![2048, 1024]⟩
abbrev S1024 : Shape := ⟨1, ![1024]⟩
abbrev S1024x1024 : Shape := ⟨2, ![1024, 1024]⟩
abbrev S2x256x1024 : Shape := ⟨3, ![2, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x256x1024 : Shape := ⟨3, ![1, 256, 1024]⟩
abbrev S1024x2048 : Shape := ⟨2, ![1024, 2048]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 13
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x2048, .bf16⟩
  | .hbm, ⟨2, _⟩ => ⟨S2048x1024, .f32⟩
  | .hbm, ⟨3, _⟩ => ⟨S1024, .f32⟩
  | .hbm, ⟨4, _⟩ => ⟨S1024x1024, .f32⟩
  | .hbm, ⟨5, _⟩ => ⟨S2x256x1024, .bf16⟩
  | .hbm, ⟨6, _⟩ => ⟨S2x256x1024, .bf16⟩
  | .hbm, ⟨7, _⟩ => ⟨S1024x1024, .f32⟩
  | .hbm, ⟨8, _⟩ => ⟨S2048x1024, .bf16⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S2048x1024, .bf16⟩
  | .local _ .vmem, ⟨5, _⟩ => ⟨S1x1024, .f32⟩
  | .local _ .vmem, ⟨6, _⟩ => ⟨S1024x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1024x1024, .bf16⟩
  | .local _ .vmem, ⟨12, _⟩ => ⟨S1x1024x1024, .f32⟩
  | .local _ .vmem, ⟨13, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S2x8192x1024 : Shape := ⟨3, ![2, 8192, 1024]⟩
abbrev S2x8192x2048 : Shape := ⟨3, ![2, 8192, 2048]⟩
abbrev S2048x1024 : Shape := ⟨2, ![2048, 1024]⟩
abbrev S1024 : Shape := ⟨1, ![1024]⟩
abbrev S1024x1024 : Shape := ⟨2, ![1024, 1024]⟩
abbrev S2x256x1024 : Shape := ⟨3, ![2, 256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x256 : Shape := ⟨4, ![2, 8192, 4, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x2048, .bf16⟩
  | .hbm, ⟨2, _⟩ => ⟨S2048x1024, .f32⟩
  | .hbm, ⟨3, _⟩ => ⟨S1024, .f32⟩
  | .hbm, ⟨4, _⟩ => ⟨S1024x1024, .f32⟩
  | .hbm, ⟨5, _⟩ => ⟨S2x256x1024, .bf16⟩
  | .hbm, ⟨6, _⟩ => ⟨S2x256x1024, .bf16⟩
  | .hbm, ⟨7, _⟩ => ⟨S1024x1024, .f32⟩
  | .hbm, ⟨8, _⟩ => ⟨S2x8192x2048, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x4x256, .f32⟩
  | .hbm, ⟨29, _⟩ => ⟨S2x256x1024, .f32⟩
  | .hbm, ⟨30, _⟩ => ⟨S2x256x4x256, .f32⟩
  | .hbm, ⟨31, _⟩ => ⟨S2x256x1024, .f32⟩
  | .hbm, ⟨32, _⟩ => ⟨S2x256x4x256, .f32⟩
  | .hbm, ⟨33, _⟩ => ⟨S2x4x8192x256, .f32⟩
  | .hbm, ⟨34, _⟩ => ⟨S_, .f32⟩
  | .hbm, ⟨35, _⟩ => ⟨S2x4x8192x256, .f32⟩
  | .hbm, ⟨36, _⟩ => ⟨S2x4x8192x256, .f32⟩
  | .hbm, ⟨37, _⟩ => ⟨S_, .f32⟩
  | .hbm, ⟨38, _⟩ => ⟨S2x4x8192, .f32⟩
  | .hbm, ⟨39, _⟩ => ⟨S_, .f32⟩
  | .hbm, ⟨40, _⟩ => ⟨S2x4x8192, .f32⟩
  | .hbm, ⟨41, _⟩ => ⟨S2x4x8192, .f32⟩
  | .hbm, ⟨42, _⟩ => ⟨S2x4x8192x1, .f32⟩
  | .hbm, ⟨43, _⟩ => ⟨S2x4x8192x256, .f32⟩
  | .hbm, ⟨44, _⟩ => ⟨S2x4x8192x256, .f32⟩
  | .hbm, ⟨45, _⟩ => ⟨S2x4x8192x256, .f32⟩
  | .hbm, ⟨46, _⟩ => ⟨S_, .f32⟩
  | .hbm, ⟨47, _⟩ => ⟨S2x4x8192, .f32⟩
  | .hbm, ⟨48, _⟩ => ⟨S2x4x8192x1, .f32⟩
  | .hbm, ⟨49, _⟩ => ⟨S2x4x8192x256, .f32⟩
  | .hbm, ⟨50, _⟩ => ⟨S2x4x8192x256, .f32⟩
  | .hbm, ⟨51, _⟩ => ⟨S2x4x256x8192, .f32⟩
  | .hbm, ⟨52, _⟩ => ⟨S2x8192x4x256, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024x1024 : Shape := ⟨2, ![1024, 1024]⟩
abbrev S1024 : Shape := ⟨1, ![1024]⟩
abbrev S2x256x1024 : Shape := ⟨3, ![2, 256, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 13
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S2x256x1024, .bf16⟩
  | .hbm, ⟨6, _⟩ => ⟨S2x256x1024, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1024x1024, .bf16⟩
  | .local _ .vmem, ⟨12, _⟩ => ⟨S1x1024x1024, .f32⟩
  | .local _ .vmem, ⟨13, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S2x8192x1024 : Shape := ⟨3, ![2, 8192, 1024]⟩
abbrev S1024x1024 : Shape := ⟨2, ![1024, 1024]⟩
abbrev S1024 : Shape := ⟨1, ![1024]⟩
abbrev S2x256x1024 : Shape := ⟨3, ![2, 256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x256 : Shape := ⟨4, ![2, 8192, 4, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S2x256x1024, .bf16⟩
  | .hbm, ⟨6, _⟩ => ⟨S2x256x1024, .bf16⟩
  | .hbm, ⟨7, _⟩ => ⟨S1024x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x4x256, .f32⟩
  | .hbm, ⟨29, _⟩ => ⟨S2x256x1024, .f32⟩
  | .hbm, ⟨30, _⟩ => ⟨S2x256x4x256, .f32⟩
  | .hbm, ⟨31, _⟩ => ⟨S2x256x1024, .f32⟩
  | .hbm, ⟨32, _⟩ => ⟨S2x256x4x256, .f32⟩
  | .hbm, ⟨33, _⟩ => ⟨S2x4x8192x256, .f32⟩
  | .hbm, ⟨34, _⟩ => ⟨S_, .f32⟩
  | .hbm, ⟨35, _⟩ => ⟨S2x4x8192x256, .f32⟩
  | .hbm, ⟨36, _⟩ => ⟨S2x4x8192x256, .f32⟩
  | .hbm, ⟨37, _⟩ => ⟨S_, .f32⟩
  | .hbm, ⟨38, _⟩ => ⟨S2x4x8192, .f32⟩
  | .hbm, ⟨39, _⟩ => ⟨S_, .f32⟩
  | .hbm, ⟨40, _⟩ => ⟨S2x4x8192, .f32⟩
  | .hbm, ⟨41, _⟩ => ⟨S2x4x8192, .f32⟩
  | .hbm, ⟨42, _⟩ => ⟨S2x4x8192x1, .f32⟩
  | .hbm, ⟨43, _⟩ => ⟨S2x4x8192x256, .f32⟩
  | .hbm, ⟨44, _⟩ => ⟨S2x4x8192x256, .f32⟩
  | .hbm, ⟨45, _⟩ => ⟨S2x4x8192x256, .f32⟩
  | .hbm, ⟨46, _⟩ => ⟨S_, .f32⟩
  | .hbm, ⟨47, _⟩ => ⟨S2x4x8192, .f32⟩
  | .hbm, ⟨48, _⟩ => ⟨S2x4x8192x1, .f32⟩
  | .hbm, ⟨49, _⟩ => ⟨S2x4x8192x256, .f32⟩
  | .hbm, ⟨50, _⟩ => ⟨S2x4x8192x256, .f32⟩
  | .hbm, ⟨51, _⟩ => ⟨S2x4x256x8192, .f32⟩
  | .hbm, ⟨52, _⟩ => ⟨S2x8192x4x256, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel6.lean ====
abbrev S2x256x1024 : Shape := ⟨3, ![2, 256, 1024]⟩
abbrev S2x1024 : Shape := ⟨2, ![2, 1024]⟩
abbrev S2x1024x2048 : Shape := ⟨3, ![2, 1024, 2048]⟩
abbrev S2x1x1024 : Shape := ⟨3, ![2, 1, 1024]⟩
abbrev S2x2x256x1024 : Shape := ⟨4, ![2, 2, 256, 1024]⟩
abbrev S1x256x1024 : Shape := ⟨3, ![1, 256, 1024]⟩
abbrev S1x1x1024 : Shape := ⟨3, ![1, 1, 1024]⟩
abbrev S1x1024x2048 : Shape := ⟨3, ![1, 1024, 2048]⟩
abbrev S1x1x256x1024 : Shape := ⟨4, ![1, 1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 7
  | .vmem => 10
  | .smem => 0
  | _ => 0

abbrev bufTy : (tb : Table) → Fin (tcTables nBuf tb) → BufTy
  | .hbm, ⟨0, _⟩ => ⟨S2x256x1024, .f32⟩
  | .hbm, ⟨1, _⟩ => ⟨S2x1024, .f32⟩
  | .hbm, ⟨2, _⟩ => ⟨S2x1024x2048, .f32⟩
  | .hbm, ⟨3, _⟩ => ⟨S2x1x1024, .f32⟩
  | .hbm, ⟨4, _⟩ => ⟨S2x1024x2048, .bf16⟩
  | .hbm, ⟨5, _⟩ => ⟨S2x2x256x1024, .bf16⟩
  | .hbm, ⟨6, _⟩ => ⟨S2x2x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1x256x1024, .bf16⟩
  | .local _ .vmem, ⟨9, _⟩ => ⟨S1x1x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2x256x1024 : Shape := ⟨3, ![2, 256, 1024]⟩
abbrev S2x1024 : Shape := ⟨2, ![2, 1024]⟩
abbrev S2x1024x2048 : Shape := ⟨3, ![2, 1024, 2048]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S2x256x2048 : Shape := ⟨3, ![2, 256, 2048]⟩
abbrev S1x2x256x2048 : Shape := ⟨4, ![1, 2, 256, 2048]⟩
abbrev S2x2x256x2048 : Shape := ⟨4, ![2, 2, 256, 2048]⟩
abbrev S2x2x256x1024 : Shape := ⟨4, ![2, 2, 256, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x1024, .f32⟩
  | .hbm, ⟨2, _⟩ => ⟨S2x1024x2048, .f32⟩
  | .hbm, ⟨3, _⟩ => ⟨S1x1024, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1x1024x2048, .f32⟩
  | .hbm, ⟨22, _⟩ => ⟨S1024x2048, .f32⟩
  | .hbm, ⟨23, _⟩ => ⟨S2x256x2048, .f32⟩
  | .hbm, ⟨24, _⟩ => ⟨S1x1024, .f32⟩
  | .hbm, ⟨25, _⟩ => ⟨S1024, .f32⟩
  | .hbm, ⟨26, _⟩ => ⟨S2x256x1024, .f32⟩
  | .hbm, ⟨27, _⟩ => ⟨S_, .f32⟩
  | .hbm, ⟨28, _⟩ => ⟨S2x256, .f32⟩
  | .hbm, ⟨29, _⟩ => ⟨S2x256x1, .f32⟩
  | .hbm, ⟨30, _⟩ => ⟨S_, .f32⟩
  | .hbm, ⟨31, _⟩ => ⟨S2x256x1, .f32⟩
  | .hbm, ⟨32, _⟩ => ⟨S2x256x1, .f32⟩
  | .hbm, ⟨33, _⟩ => ⟨S_, .f32⟩
  | .hbm, ⟨34, _⟩ => ⟨S2x256x1, .f32⟩
  | .hbm, ⟨35, _⟩ => ⟨S2x256x1, .f32⟩
  | .hbm, ⟨36, _⟩ => ⟨S2x256x1, .f32⟩
  | .hbm, ⟨37, _⟩ => ⟨S2x256x1024, .f32⟩
  | .hbm, ⟨38, _⟩ => ⟨S2x256x1024, .f32⟩
  | .hbm, ⟨39, _⟩ => ⟨S1x1x1024, .f32⟩
  | .hbm, ⟨40, _⟩ => ⟨S2x256x1024, .f32⟩
  | .hbm, ⟨41, _⟩ => ⟨S2x256x1024, .f32⟩
  | .hbm, ⟨42, _⟩ => ⟨S1x1024x2048, .f32⟩
  | .hbm, ⟨43, _⟩ => ⟨S1024x2048, .f32⟩
  | .hbm, ⟨44, _⟩ => ⟨S2x256x2048, .f32⟩
  | .hbm, ⟨45, _⟩ => ⟨S1x2x256x2048, .f32⟩
  | .hbm, ⟨46, _⟩ => ⟨S1x2x256x2048, .f32⟩
  | .hbm, ⟨47, _⟩ => ⟨S2x2x256x2048, .f32⟩
  | .hbm, ⟨48, _⟩ => ⟨S2x2x256x1024, .f32⟩
  | .hbm, ⟨49, _⟩ => ⟨S2x2x256x1024, .f32⟩
  | .hbm, ⟨50, _⟩ => ⟨S2x2x256x1024, .bf16⟩
  | .hbm, ⟨51, _⟩ => ⟨S2x2x256x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Kernel7.lean ====
abbrev S2x8192x1024 : Shape := ⟨3, ![2, 8192, 1024]⟩
abbrev S1024 : Shape := ⟨1, ![1024]⟩
abbrev S1024x6176 : Shape := ⟨2, ![1024, 6176]⟩
abbrev S4x4096 : Shape := ⟨2, ![4, 4096]⟩
abbrev S4096 : Shape := ⟨1, ![4096]⟩
abbrev S32 : Shape := ⟨1, ![32]⟩
abbrev S1024x32 : Shape := ⟨2, ![1024, 32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S1x4096 : Shape := ⟨2, ![1, 4096]⟩
abbrev S2x8192x2048 : Shape := ⟨3, ![2, 8192, 2048]⟩
abbrev S2x8192x128 : Shape := ⟨3, ![2, 8192, 128]⟩
abbrev S1x512x1024 : Shape := ⟨3, ![1, 512, 1024]⟩
abbrev S1x512x2048 : Shape := ⟨3, ![1, 512, 2048]⟩
abbrev S1x512x128 : Shape := ⟨3, ![1, 512, 128]⟩
abbrev S520x4096 : Shape := ⟨2, ![520, 4096]⟩
abbrev S512x1024 : Shape := ⟨2, ![512, 1024]⟩
abbrev S8x4096 : Shape := ⟨2, ![8, 4096]⟩
abbrev S512 : Shape := ⟨1, ![512]⟩
abbrev S512x1 : Shape := ⟨2, ![512, 1]⟩
abbrev S512x128 : Shape := ⟨2, ![512, 128]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S1x512x256 : Shape := ⟨3, ![1, 512, 256]⟩
abbrev S4x128 : Shape := ⟨2, ![4, 128]⟩
abbrev S8x128 : Shape := ⟨2, ![8, 128]⟩

abbrev nBuf : Space → Nat
  | .hbm => 23
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x6176, .f32⟩
  | .hbm, ⟨3, _⟩ => ⟨S4x4096, .f32⟩
  | .hbm, ⟨4, _⟩ => ⟨S4096, .f32⟩
  | .hbm, ⟨5, _⟩ => ⟨S32, .f32⟩
  | .hbm, ⟨6, _⟩ => ⟨S1024x32, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1x1024, .f32⟩
  | .hbm, ⟨16, _⟩ => ⟨S1024x6176, .bf16⟩
  | .hbm, ⟨17, _⟩ => ⟨S1x4096, .f32⟩
  | .hbm, ⟨18, _⟩ => ⟨S2x8192x2048, .f32⟩
  | .hbm, ⟨19, _⟩ => ⟨S2x8192x2048, .f32⟩
  | .hbm, ⟨20, _⟩ => ⟨S2x8192x1024, .bf16⟩
  | .hbm, ⟨21, _⟩ => ⟨S2x8192x1024, .bf16⟩
  | .hbm, ⟨22, _⟩ => ⟨S2x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x6176, .bf16⟩
  | .local _ .vmem, ⟨4, _⟩ => ⟨S1024x128, .bf16⟩
  | .local _ .vmem, ⟨5, _⟩ => ⟨S4x4096, .f32⟩
  | .local _ .vmem, ⟨6, _⟩ => ⟨S1x4096, .f32⟩
  | .local _ .vmem, ⟨7, _⟩ => ⟨S1x128, .f32⟩
  | .local _ .vmem, ⟨8, _⟩ => ⟨S1x512x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x512x2048, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x128, .f32⟩
  | .local _ .vmem, ⟨17, _⟩ => ⟨S1x512x128, .f32⟩
  | .local _ .vmem, ⟨18, _⟩ => ⟨S520x4096, .f32⟩
  | .local _ .vmem, ⟨19, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference7Ideal.lean ====
abbrev S2x8192x1024 : Shape := ⟨3, ![2, 8192, 1024]⟩
abbrev S1024 : Shape := ⟨1, ![1024]⟩
abbrev S1024x6176 : Shape := ⟨2, ![1024, 6176]⟩
abbrev S4x4096 : Shape := ⟨2, ![4, 4096]⟩
abbrev S4096 : Shape := ⟨1, ![4096]⟩
abbrev S32 : Shape := ⟨1, ![32]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6176 : Shape := ⟨3, ![2, 8192, 6176]⟩
abbrev S2x8192x2048 : Shape := ⟨3, ![2, 8192, 2048]⟩
abbrev S2x8192x4096 : Shape := ⟨3, ![2, 8192, 4096]⟩
abbrev S2x8192x32 : Shape := ⟨3, ![2, 8192, 32]⟩
abbrev S2x8195x4096 : Shape := ⟨3, ![2, 8195, 4096]⟩
abbrev S1x4096 : Shape := ⟨2, ![1, 4096]⟩
abbrev S1x1x4096 : Shape := ⟨3, ![1, 1, 4096]⟩
abbrev S2x8192x128 : Shape := ⟨3, ![2, 8192, 128]⟩
abbrev S128 : Shape := ⟨1, ![128]⟩
abbrev S1x1x128 : Shape := ⟨3, ![1, 1, 128]⟩

abbrev nBuf : Space → Nat
  | .hbm => 96
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x6176, .f32⟩
  | .hbm, ⟨3, _⟩ => ⟨S4x4096, .f32⟩
  | .hbm, ⟨4, _⟩ => ⟨S4096, .f32⟩
  | .hbm, ⟨5, _⟩ => ⟨S32, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x6176, .f32⟩
  | .hbm, ⟨23, _⟩ => ⟨S2x8192x2048, .f32⟩
  | .hbm, ⟨24, _⟩ => ⟨S2x8192x4096, .f32⟩
  | .hbm, ⟨25, _⟩ => ⟨S2x8192x32, .f32⟩
  | .hbm, ⟨26, _⟩ => ⟨S_, .i32⟩
  | .hbm, ⟨27, _⟩ => ⟨S_, .f32⟩
  | .hbm, ⟨28, _⟩ => ⟨S2x8195x4096, .f32⟩
  | .hbm, ⟨29, _⟩ => ⟨S1x4096, .f32⟩
  | .hbm, ⟨30, _⟩ => ⟨S4096, .f32⟩
  | .hbm, ⟨31, _⟩ => ⟨S2x8192x4096, .f32⟩
  | .hbm, ⟨32, _⟩ => ⟨S1x1x4096, .f32⟩
  | .hbm, ⟨33, _⟩ => ⟨S2x8192x4096, .f32⟩
  | .hbm, ⟨34, _⟩ => ⟨S2x8192x4096, .f32⟩
  | .hbm, ⟨35, _⟩ => ⟨S1x4096, .f32⟩
  | .hbm, ⟨36, _⟩ => ⟨S4096, .f32⟩
  | .hbm, ⟨37, _⟩ => ⟨S2x8192x4096, .f32⟩
  | .hbm, ⟨38, _⟩ => ⟨S1x1x4096, .f32⟩
  | .hbm, ⟨39, _⟩ => ⟨S2x8192x4096, .f32⟩
  | .hbm, ⟨40, _⟩ => ⟨S2x8192x4096, .f32⟩
  | .hbm, ⟨41, _⟩ => ⟨S2x8192x4096, .f32⟩
  | .hbm, ⟨42, _⟩ => ⟨S1x4096, .f32⟩
  | .hbm, ⟨43, _⟩ => ⟨S4096, .f32⟩
  | .hbm, ⟨44, _⟩ => ⟨S2x8192x4096, .f32⟩
  | .hbm, ⟨45, _⟩ => ⟨S1x1x4096, .f32⟩
  | .hbm, ⟨46, _⟩ => ⟨S2x8192x4096, .f32⟩
  | .hbm, ⟨47, _⟩ => ⟨S2x8192x4096, .f32⟩
  | .hbm, ⟨48, _⟩ => ⟨S2x8192x4096, .f32⟩
  | .hbm, ⟨49, _⟩ => ⟨S1x4096, .f32⟩
  | .hbm, ⟨50, _⟩ => ⟨S4096, .f32⟩
  | .hbm, ⟨51, _⟩ => ⟨S2x8192x4096, .f32⟩
  | .hbm, ⟨52, _⟩ => ⟨S1x1x4096, .f32⟩
  | .hbm, ⟨53, _⟩ => ⟨S2x8192x4096, .f32⟩
  | .hbm, ⟨54, _⟩ => ⟨S2x8192x4096, .f32⟩
  | .hbm, ⟨55, _⟩ => ⟨S2x8192x4096, .f32⟩
  | .hbm, ⟨56, _⟩ => ⟨S1x1x4096, .f32⟩
  | .hbm, ⟨57, _⟩ => ⟨S2x8192x4096, .f32⟩
  | .hbm, ⟨58, _⟩ => ⟨S2x8192x4096, .f32⟩
  | .hbm, ⟨59, _⟩ => ⟨S2x8192x4096, .f32⟩
  | .hbm, ⟨60, _⟩ => ⟨S2x8192x4096, .f32⟩
  | .hbm, ⟨61, _⟩ => ⟨S_, .f32⟩
  | .hbm, ⟨62, _⟩ => ⟨S2x8192x4096, .f32⟩
  | .hbm, ⟨63, _⟩ => ⟨S2x8192x4096, .f32⟩
  | .hbm, ⟨64, _⟩ => ⟨S_, .f32⟩
  | .hbm, ⟨65, _⟩ => ⟨S2x8192x4096, .f32⟩
  | .hbm, ⟨66, _⟩ => ⟨S2x8192x4096, .f32⟩
  | .hbm, ⟨67, _⟩ => ⟨S2x8192x4096, .f32⟩
  | .hbm, ⟨68, _⟩ => ⟨S2x8192x2048, .f32⟩
  | .hbm, ⟨69, _⟩ => ⟨S2x8192x1024, .f32⟩
  | .hbm, ⟨70, _⟩ => ⟨S2x8192x1024, .f32⟩
  | .hbm, ⟨71, _⟩ => ⟨S_, .i32⟩
  | .hbm, ⟨72, _⟩ => ⟨S_, .f32⟩
  | .hbm, ⟨73, _⟩ => ⟨S2x8192x128, .f32⟩
  | .hbm, ⟨74, _⟩ => ⟨S_, .i32⟩
  | .hbm, ⟨75, _⟩ => ⟨S_, .f32⟩
  | .hbm, ⟨76, _⟩ => ⟨S128, .f32⟩
  | .hbm, ⟨77, _⟩ => ⟨S1x1x128, .f32⟩
  | .hbm, ⟨78, _⟩ => ⟨S2x8192x128, .f32⟩
  | .hbm, ⟨79, _⟩ => ⟨S2x8192x128, .f32⟩
  | .hbm, ⟨80, _⟩ => ⟨S_, .f32⟩
  | .hbm, ⟨81, _⟩ => ⟨S2x8192x128, .f32⟩
  | .hbm, ⟨82, _⟩ => ⟨S2x8192x128, .f32⟩
  | .hbm, ⟨83, _⟩ => ⟨S2x8192x128, .f32⟩
  | .hbm, ⟨84, _⟩ => ⟨S2x8192x128, .f32⟩
  | .hbm, ⟨85, _⟩ => ⟨S2x8192x128, .i1⟩
  | .hbm, ⟨86, _⟩ => ⟨S2x8192x128, .f32⟩
  | .hbm, ⟨87, _⟩ => ⟨S2x8192x128, .f32⟩
  | .hbm, ⟨88, _⟩ => ⟨S2x8192x128, .f32⟩
  | .hbm, ⟨89, _⟩ => ⟨S2x8192x128, .f32⟩
  | .hbm, ⟨90, _⟩ => ⟨S2x8192x128, .f32⟩
  | .hbm, ⟨91, _⟩ => ⟨S2x8192x128, .f32⟩
  | .hbm, ⟨92, _⟩ => ⟨S2x8192x128, .f32⟩
  | .hbm, ⟨93, _⟩ => ⟨S2x8192x128, .f32⟩
  | .hbm, ⟨94, _⟩ => ⟨S2x8192x1024, .bf16⟩
  | .hbm, ⟨95, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_2 : Ref sig .tc := ⟨.hbm, 71, rfl⟩
abbrev main_call2_v0 : Ref sig .tc := ⟨.hbm, 72, rfl⟩
abbrev main_v52 : Ref sig .tc := ⟨.hbm, 73, rfl⟩
abbrev main_c_3 : Ref sig .tc := ⟨.hbm, 74, rfl⟩
abbrev main_call3_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call4_cst : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩

abbrev nD : Nat := 1
abbrev τ : Topo := Topo.v7x

variable {F : FTy → Type} [FloatOps F]
-- ==== Kernel8.lean ====
abbrev S2x8192x1024 : Shape := ⟨3, ![2, 8192, 1024]⟩
abbrev S2x8192 : Shape := ⟨2, ![2, 8192]⟩
abbrev S1024 : Shape := ⟨1, ![1024]⟩
abbrev S1024x3072 : Shape := ⟨2, ![1024, 3072]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S2x1x8192 : Shape := ⟨3, ![2, 1, 8192]⟩
abbrev S1x1024 : Shape := ⟨2, ![1, 1024]⟩
abbrev S2x8x128x16384 : Shape := ⟨4, ![2, 8, 128, 16384]⟩
abbrev S1x512x1024 : Shape := ⟨3, ![1, 512, 1024]⟩
abbrev S1x1x512 : Shape := ⟨3, ![1, 1, 512]⟩
abbrev S1x8x128x1024 : Shape := ⟨4, ![1, 8, 128, 1024]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S128x512 : Shape := ⟨2, ![128, 512]⟩
abbrev S512x128 : Shape := ⟨2, ![512, 128]⟩
abbrev S1024x1024 : Shape := ⟨2, ![1024, 1024]⟩
abbrev S1x1x128x512 : Shape := ⟨4, ![1, 1, 128, 512]⟩
abbrev S1x512x128 : Shape := ⟨3, ![1, 512, 128]⟩

abbrev nBuf : Space → Nat
  | .hbm => 64
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1024, .f32⟩
  | .hbm, ⟨3, _⟩ => ⟨S1024x3072, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S1x128, .f32⟩
  | .hbm, ⟨24, _⟩ => ⟨S128, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S_, .i1⟩
  | .hbm, ⟨41, _⟩ => ⟨S128, .i1⟩
  | .hbm, ⟨42, _⟩ => ⟨S128, .i1⟩
  | .hbm, ⟨43, _⟩ => ⟨S128, .i1⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S_, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S2x8192, .f32⟩
  | .hbm, ⟨58, _⟩ => ⟨S2x1x8192, .f32⟩
  | .hbm, ⟨59, _⟩ => ⟨S1x1024, .f32⟩
  | .hbm, ⟨60, _⟩ => ⟨S1024x3072, .bf16⟩
  | .hbm, ⟨61, _⟩ => ⟨S2x8x128x16384, .bf16⟩
  | .hbm, ⟨62, _⟩ => ⟨S2x8192x1024, .bf16⟩
  | .hbm, ⟨63, _⟩ => ⟨S2x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x512, .f32⟩
  | .local _ .vmem, ⟨3, _⟩ => ⟨S1x1x512, .f32⟩
  | .local _ .vmem, ⟨4, _⟩ => ⟨S1x1024, .f32⟩
  | .local _ .vmem, ⟨5, _⟩ => ⟨S1024x3072, .bf16⟩
  | .local _ .vmem, ⟨6, _⟩ => ⟨S1x128, .f32⟩
  | .local _ .vmem, ⟨7, _⟩ => ⟨S1x128, .f32⟩
  | .local _ .vmem, ⟨8, _⟩ => ⟨S1x8x128x1024, .bf16⟩
  | .local _ .vmem, ⟨9, _⟩ => ⟨S1x8x128x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v16 : Ref sig .tc := ⟨.hbm, 46, rfl⟩
abbrev main_c_4 : Ref sig .tc := ⟨.hbm, 47, rfl⟩
abbrev main_v17 : Ref sig .tc := ⟨.hbm, 48, rfl⟩
abbrev main_v18 : Ref sig .tc := ⟨.hbm, 49, rfl⟩
abbrev main_cst_5 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26_0 : Ref sig .tc := ⟨.hbm, 61, rfl⟩
abbrev main_v26_1 : Ref sig .tc := ⟨.hbm, 62, rfl⟩
abbrev main_v26_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S2x8192x1024 : Shape := ⟨3, ![2, 8192, 1024]⟩
abbrev S2x8192 : Shape := ⟨2, ![2, 8192]⟩
abbrev S1024 : Shape := ⟨1, ![1024]⟩
abbrev S1024x3072 : Shape := ⟨2, ![1024, 3072]⟩
abbrev S32 : Shape := ⟨1, ![32]⟩
abbrev S_ : Shape := ⟨0, ![]⟩
abbrev S2x8192x1 : Shape := ⟨3, ![2, 8192, 1]⟩
abbrev S1x1x32 : Shape := ⟨3, ![1, 1, 32]⟩
abbrev S2x8192x32 : Shape := ⟨3, ![2, 8192, 32]⟩
abbrev S1x1x1024 : Shape := ⟨3, ![1, 1, 1024]⟩
abbrev S2x8192x3072 : Shape := ⟨3, ![2, 8192, 3072]⟩
abbrev S2x8192x16x64 : Shape := ⟨4, ![2, 8192, 16, 64]⟩
abbrev S2x8192x16x32 : Shape := ⟨4, ![2, 8192, 16, 32]⟩
abbrev S2x8192x1x32 : Shape := ⟨4, ![2, 8192, 1, 32]⟩
abbrev S2x16x64x8192 : Shape := ⟨4, ![2, 16, 64, 8192]⟩
abbrev S2x8x128x8192 : Shape := ⟨4, ![2, 8, 128, 8192]⟩
abbrev S2x8x64x8192 : Shape := ⟨4, ![2, 8, 64, 8192]⟩
abbrev S2x8x128x16x512 : Shape := ⟨5, ![2, 8, 128, 16, 512]⟩
abbrev S2x8x128x16x1024 : Shape := ⟨5, ![2, 8, 128, 16, 1024]⟩
abbrev S2x8x128x16384 : Shape := ⟨4, ![2, 8, 128, 16384]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1024, .f32⟩
  | .hbm, ⟨3, _⟩ => ⟨S1024x3072, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2x8192, .f32⟩
  | .hbm, ⟨21, _⟩ => ⟨S2x8192x1, .f32⟩
  | .hbm, ⟨22, _⟩ => ⟨S1x1x32, .f32⟩
  | .hbm, ⟨23, _⟩ => ⟨S2x8192x32, .f32⟩
  | .hbm, ⟨24, _⟩ => ⟨S2x8192x32, .f32⟩
  | .hbm, ⟨25, _⟩ => ⟨S2x8192x32, .f32⟩
  | .hbm, ⟨26, _⟩ => ⟨S2x8192x32, .f32⟩
  | .hbm, ⟨27, _⟩ => ⟨S2x8192x32, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S2x8192x3072, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x16x64, .f32⟩
  | .hbm, ⟨49, _⟩ => ⟨S2x8192x16x32, .f32⟩
  | .hbm, ⟨50, _⟩ => ⟨S2x8192x16x32, .f32⟩
  | .hbm, ⟨51, _⟩ => ⟨S2x8192x1x32, .f32⟩
  | .hbm, ⟨52, _⟩ => ⟨S2x8192x1x32, .f32⟩
  | .hbm, ⟨53, _⟩ => ⟨S2x8192x16x32, .f32⟩
  | .hbm, ⟨54, _⟩ => ⟨S2x8192x16x32, .f32⟩
  | .hbm, ⟨55, _⟩ => ⟨S2x8192x16x32, .f32⟩
  | .hbm, ⟨56, _⟩ => ⟨S2x8192x16x32, .f32⟩
  | .hbm, ⟨57, _⟩ => ⟨S2x8192x16x32, .f32⟩
  | .hbm, ⟨58, _⟩ => ⟨S2x8192x16x32, .f32⟩
  | .hbm, ⟨59, _⟩ => ⟨S2x8192x16x32, .f32⟩
  | .hbm, ⟨60, _⟩ => ⟨S2x8192x16x32, .f32⟩
  | .hbm, ⟨61, _⟩ => ⟨S2x8192x16x32, .f32⟩
  | .hbm, ⟨62, _⟩ => ⟨S2x8192x16x32, .f32⟩
  | .hbm, ⟨63, _⟩ => ⟨S2x8192x16x64, .f32⟩
  | .hbm, ⟨64, _⟩ => ⟨S_, .f32⟩
  | .hbm, ⟨65, _⟩ => ⟨S2x8192x16x64, .f32⟩
  | .hbm, ⟨66, _⟩ => ⟨S2x8192x16x64, .f32⟩
  | .hbm, ⟨67, _⟩ => ⟨S2x8192x16x64, .f32⟩
  | .hbm, ⟨68, _⟩ => ⟨S2x8192x16x32, .f32⟩
  | .hbm, ⟨69, _⟩ => ⟨S2x8192x16x32, .f32⟩
  | .hbm, ⟨70, _⟩ => ⟨S2x8192x1x32, .f32⟩
  | .hbm, ⟨71, _⟩ => ⟨S2x8192x1x32, .f32⟩
  | .hbm, ⟨72, _⟩ => ⟨S2x8192x16x32, .f32⟩
  | .hbm, ⟨73, _⟩ => ⟨S2x8192x16x32, .f32⟩
  | .hbm, ⟨74, _⟩ => ⟨S2x8192x16x32, .f32⟩
  | .hbm, ⟨75, _⟩ => ⟨S2x8192x16x32, .f32⟩
  | .hbm, ⟨76, _⟩ => ⟨S2x8192x16x32, .f32⟩
  | .hbm, ⟨77, _⟩ => ⟨S2x8192x16x32, .f32⟩
  | .hbm, ⟨78, _⟩ => ⟨S2x8192x16x32, .f32⟩
  | .hbm, ⟨79, _⟩ => ⟨S2x8192x16x32, .f32⟩
  | .hbm, ⟨80, _⟩ => ⟨S2x8192x16x32, .f32⟩
  | .hbm, ⟨81, _⟩ => ⟨S2x8192x16x32, .f32⟩
  | .hbm, ⟨82, _⟩ => ⟨S2x8192x16x64, .f32⟩
  | .hbm, ⟨83, _⟩ => ⟨S2x16x64x8192, .f32⟩
  | .hbm, ⟨84, _⟩ => ⟨S2x8x128x8192, .f32⟩
  | .hbm, ⟨85, _⟩ => ⟨S2x8x64x8192, .f32⟩
  | .hbm, ⟨86, _⟩ => ⟨S_, .i32⟩
  | .hbm, ⟨87, _⟩ => ⟨S_, .f32⟩
  | .hbm, ⟨88, _⟩ => ⟨S2x8x128x8192, .f32⟩
  | .hbm, ⟨89, _⟩ => ⟨S2x8x64x8192, .f32⟩
  | .hbm, ⟨90, _⟩ => ⟨S_, .i32⟩
  | .hbm, ⟨91, _⟩ => ⟨S_, .f32⟩
  | .hbm, ⟨92, _⟩ => ⟨S2x8x128x8192, .f32⟩
  | .hbm, ⟨93, _⟩ => ⟨S2x8x128x16x512, .f32⟩
  | .hbm, ⟨94, _⟩ => ⟨S2x8x128x16x512, .f32⟩
  | .hbm, ⟨95, _⟩ => ⟨S2x8x128x16x1024, .f32⟩
  | .hbm, ⟨96, _⟩ => ⟨S2x8x128x16384, .f32⟩
  | .hbm, ⟨97, _⟩ => ⟨S2x8x128x16384, .bf16⟩
  | .hbm, ⟨98, _⟩ => ⟨S2x8192x1024, .f32⟩
  | .hbm, ⟨99, _⟩ => ⟨S2x8192x1024, .bf16⟩
  | .hbm, ⟨100, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_c : Ref sig .tc := ⟨.hbm, 86, rfl⟩
abbrev main_call0_v0 : Ref sig .tc := ⟨.hbm, 87, rfl⟩
abbrev main_v73 : Ref sig .tc := ⟨.hbm, 88, rfl⟩
abbrev main_v74 : Ref sig .tc := ⟨.hbm, 89, rfl⟩
abbrev main_c_8 : Ref sig .tc := ⟨.hbm, 90, rfl⟩
abbrev main_call1_v0 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩

abbrev nD : Nat := 1
abbrev τ : Topo := Topo.v7x

variable {F : FTy → Type} [FloatOps F]
-- ==== Proof.Ffn.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen

/-- One row under the RMS norm: the row over the root of its mean square plus the guard, times the gain. -/
def rms (x w : Fin 1024 → EReal) (k : Fin 1024) : EReal :=
  x k * Ideal.rsqrt (Ideal.div (∑ l, x l * x l) (Ideal.ofBits FTy.f32 1149239296#32) + Ideal.ofBits FTy.f32 897988541#32) * w k

/-- The gated hidden unit `f` of a normed row. -/
def act (n : Fin 1024 → EReal) (wg wu : Fin 1024 → Fin 2816 → EReal) (f : Fin 2816) : EReal :=
  (∑ k, n k * wg k f) * Ideal.logistic (∑ k, n k * wg k f) * ∑ k, n k * wu k f

/-- One row of the closing half-step and the final norm. -/
def row (x nw : Fin 1024 → EReal) (wg wu : Fin 1024 → Fin 2816 → EReal) (wd : Fin 2816 → Fin 1024 → EReal)
    (fw : Fin 1024 → EReal) (j : Fin 1024) : EReal :=
  rms (fun j => x j + Ideal.ofBits FTy.f32 1056964608#32 * ∑ f, act (rms x nw) wg wu f * wd f j) fw j

theorem pay2_apply (x : Vec Ideal S1024x1024 .f32) (w : Vec Ideal S1x1024 .f32) (r k : Fin 1024) :
    k0_pay2 (F := Ideal) x w (ix2 r k) = rms (fun k => x (ix2 r k)) (fun k => w (ix2 0 k)) k := by
  pointwise [k0_pay2, k0_pay1]
  rfl

/-- A sum over the 2816 hidden units is the sum over the three column chunks. -/
theorem sum_chunks (f : Fin 2816 → EReal) :
    (∑ k : Fin 1024, f ⟨k, by omega⟩) + (∑ k : Fin 1024, f ⟨1024 + k, by omega⟩) + (∑ k : Fin 768, f ⟨2048 + k, by omega⟩)
      = ∑ k, f k := by
  rw [Fin.sum_univ_two_halves 2048 768 rfl f, Fin.sum_univ_two_halves 1024 1024 rfl (fun k : Fin 2048 => f ⟨k, by omega⟩)]

theorem out_apply (x0 : Vec Ideal S1024x1024 .f32) (x1 : Vec Ideal S1x1024 .f32) (x2 x3 : Vec Ideal S1024x2816 .bf16)
    (x4 : Vec Ideal S2816x1024 .bf16) (x5 : Vec Ideal S1x1024 .f32) (r j : Fin 1024) :
    out0_6 (F := Ideal) x0 x1 x2 x3 x4 x5 (ix2 r j)
      = row (fun k => x0 (ix2 r k)) (fun k => x1 (ix2 0 k)) (fun k f => x2 (ix2 k f)) (fun k f => x3 (ix2 k f))
          (fun f k => x4 (ix2 f k)) (fun k => x5 (ix2 0 k)) j := by
  have hz : (![0, 0] : Fin 2 → Nat) = fun _ => 0 := funext fun a => by fin_cases a <;> rfl
  unfold out0_6
  rw [View.canon_unit_zero hz]
  unfold r0_0 r0_1
  rw [View.ld_unit_zero hz, View.ld_unit_zero hz, View.ld_unit_zero hz]
  unfold k0_pay3 k0_pay6 k0_pay4 k0_pay5 k0_pay7
  have hn : ∀ k, k0_pay2 (F := Ideal) x0 x1 (ix2 r k) = rms (fun k => x0 (ix2 r k)) (fun k => x1 (ix2 0 k)) k := pay2_apply x0 x1 r
  generalize k0_pay2 x0 x1 = n at hn ⊢
  pointwise [k0_pay1, r0_2, r0_3, r0_4, r0_5, r0_6, r0_7]
  simp only [hn]
  unfold row
  generalize rms (fun k => x0 (ix2 r k)) (fun k => x1 (ix2 0 k)) = N
  unfold rms
  simp only [← sum_chunks (fun f => act N (fun k f => x2 (ix2 k f)) (fun k f => x3 (ix2 k f)) f * x4 (ix2 f _))]
  rfl

/-- Token `r` of the flat row order, read in the argument's (sequence, position) order. -/
def tok (x : Vec Ideal S2x8192x1024 .f32) (r : Fin 16384) (k : Fin 1024) : EReal :=
  x (ix3 ⟨r / 8192, by omega⟩ ⟨r % 8192, by omega⟩ k)

variable (m : (ℓ : Loc nD τ sig) → Buf (Elt Ideal) ℓ) (c : Dev nD)

/-- The whole result as a function of the argument arrays. -/
def final (x : Vec Ideal S2x8192x1024 .f32) (nw : Vec Ideal S1024 .f32) (wg wu : Vec Ideal S1024x2816 .f32)
    (wd : Vec Ideal S2816x1024 .f32) (fw : Vec Ideal S1024 .f32) (i : S16384x1024.Idx) : EReal :=
  row (tok x (i 0)) (fun k => nw (ix1 k)) (fun k f => wg (ix2 k f)) (fun k f => wu (ix2 k f)) (fun f k => wd (ix2 f k))
    (fun k => fw (ix1 k)) (i 1)

/-- Where each window's block sits: the token windows walk down the rows, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0])

theorem blk0 (t : Fin cfg0.N) (r k : Fin 1024) (ht : t.val * 1024 + r.val < 16384) :
    iblk m c 0 t (ix2 r k) = tok (m ((c : Thread nD τ).loc main_arg0)) ⟨t.val * 1024 + r, ht⟩ k := by
  unfold tok
  blk_ext! [iblk, V, idx t]

theorem blk1 (t : Fin cfg0.N) (k : Fin 1024) : iblk m c 1 t (ix2 0 k) = m ((c : Thread nD τ).loc main_arg1) (ix1 k) := by
  blk_ext! [iblk, V, idx t]
theorem blk2 (t : Fin cfg0.N) (k : Fin 1024) (f : Fin 2816) :
    iblk m c 2 t (ix2 k f) = m ((c : Thread nD τ).loc main_arg2) (ix2 k f) := by
  blk_ext! [iblk, V, idx t]
theorem blk3 (t : Fin cfg0.N) (k : Fin 1024) (f : Fin 2816) :
    iblk m c 3 t (ix2 k f) = m ((c : Thread nD τ).loc main_arg3) (ix2 k f) := by
  blk_ext! [iblk, V, idx t]
theorem blk4 (t : Fin cfg0.N) (f : Fin 2816) (k : Fin 1024) :
    iblk m c 4 t (ix2 f k) = m ((c : Thread nD τ).loc main_arg4) (ix2 f k) := by
  blk_ext! [iblk, V, idx t]
theorem blk5 (t : Fin cfg0.N) (k : Fin 1024) : iblk m c 5 t (ix2 0 k) = m ((c : Thread nD τ).loc main_arg5) (ix1 k) := by
  blk_ext! [iblk, V, idx t]

/-- The kernel's array after the run. -/
theorem arr_eq : (dats m 0 c).arrAt 6 cfg0.N = final (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 6 _ (by decide +kernel) fun t hf y => ?_
  blk_simp
  rw [after0_6]
  idx_vars y
  have ht : t.val * 1024 + y0.val < 16384 := by
    have h := t.isLt
    have hN : cfg0.grid.N = 16 := by decide +kernel
    have h := h.trans_eq hN
    omega
  have e : ((View.whole main_v6).slice (win0_6.rect t)).emb (ix2 y0 y1) = ix2 (⟨t.val * 1024 + y0, ht⟩ : Fin 16384) y1 := by
    blk_ext [idx t]
  refine (out_apply _ _ _ _ _ _ y0 y1).trans ?_
  rw [e]
  unfold final
  simp only [blk0 m c t _ _ ht, blk1, blk2, blk3, blk4, blk5]
  rfl

end Cert.Ffn

/-! ## The reference, read at an index -/

namespace Cert.Ffn

open Cert.Reference2Ideal Cert.Reference2Ideal.Read Cert.Kernel2Ideal.Gen

theorem norm_apply (x : Vec Ideal S2x8192x1024 .f32) (nw : Vec Ideal S1024 .f32) (b : Fin 2) (s : Fin 8192) (k : Fin 1024) :
    val_main_v12 (F := Ideal) x nw (ix3 b s k) = rms (fun k => x (ix3 b s k)) (fun k => nw (ix1 k)) k := by
  pointwise [val_main_v12, val_main_v9, val_main_v11, val_main_v10, val_main_v8, val_main_v7, val_main_v6, val_main_v5, val_main_v4, val_main_v3,
    val_main_v2, val_main_v1, val_main_v0, val_main_cst, val_main_cst_0, val_main_cst_1]
  rfl

theorem hid_apply (x : Vec Ideal S2x8192x1024 .f32) (nw : Vec Ideal S1024 .f32) (wg wu : Vec Ideal S1024x2816 .f32)
    (b : Fin 2) (s : Fin 8192) (f : Fin 2816) :
    val_main_v16 (F := Ideal) x nw wg wu (ix3 b s f)
      = act (rms (fun k => x (ix3 b s k)) (fun k => nw (ix1 k))) (fun k f => wg (ix2 k f)) (fun k f => wu (ix2 k f)) f := by
  have hn : ∀ k, val_main_v12 (F := Ideal) x nw (ix3 b s k) = rms (fun k => x (ix3 b s k)) (fun k => nw (ix1 k)) k := norm_apply x nw b s
  unfold val_main_v16 val_main_v14 val_main_v15 val_main_call0_v5 val_main_call0_v3 val_main_call0_v1 val_main_call0_v0 val_main_v13
    val_main_call0_v4 val_main_call0_v2 val_main_call0_cst_0 val_main_call0_cst
  generalize val_main_v12 (F := Ideal) x nw = n at hn ⊢
  pointwise []
  simp only [hn]
  rfl

theorem ref_apply (x : Vec Ideal S2x8192x1024 .f32) (nw : Vec Ideal S1024 .f32) (wg wu : Vec Ideal S1024x2816 .f32)
    (wd : Vec Ideal S2816x1024 .f32) (fw : Vec Ideal S1024 .f32) :
    val_main_v34 (F := Ideal) x nw wg wu wd fw = final x nw wg wu wd fw := by
  funext i
  idx_vars i
  unfold val_main_v34 val_main_v33 val_main_v32 val_main_v31 val_main_v30 val_main_v29 val_main_v28 val_main_v27 val_main_v26
    val_main_v25 val_main_v24 val_main_v23 val_main_v22 val_main_v21 val_main_v20 val_main_v19 val_main_v18 val_main_v17
    val_main_cst_2 val_main_cst_3 val_main_cst_4 val_main_cst_5
  have hh := fun b s f => hid_apply x nw wg wu b s f
  generalize val_main_v16 (F := Ideal) x nw wg wu = h at hh ⊢
  pointwise []
  simp only [hh]
  rfl

/-- The tiled kernel and the plain half-step leave the same array, whatever the arguments hold. -/
theorem algebraic : Cert.algebraic_Kernel2Ideal_Reference2Ideal := by
  intro m ρ m' ρ' _ hag
  refine ⟨fun c => (dats m 0 c).arrAt 6 Cert.Kernel2Ideal.cfg0.N, Cert.Kernel2Ideal.Value.run_blocks m ρ,
    (θ_run _ _ _).mono (fun _ h c => ⟨(h c).1.trans ?_, (h c).2⟩) (Cert.Reference2Ideal.Value.run m' ρ')⟩
  obtain ⟨h0, h1, h2, h3, h4, h5⟩ := hag c
  refine Eq.trans ?_ (arr_eq m c).symm
  rw [val_main_v34_eq, ref_apply, h0, h1, h2, h3, h4, h5]

/-- The plain half-step runs, and its arguments and counters end as they began. -/
theorem frame_ref : Cert.quiescent_Reference2Ideal := fun m ρ _ =>
  (θ_run defs _ _).mono (fun r h => ⟨fun c => (h c).2, Idealize.ShloMosaic.sem_eq_zero_of_no_sems (by decide) r.2⟩)
    (Cert.Reference2Ideal.Value.run (F := Ideal) m ρ)

end Cert.Ffn

end
-- ==== Proof.FfnStep.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Ffn
public import Idealize.ShloMosaic.Lib.Pipeline.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnStep

open Cert.Kernel3Ideal Cert.Kernel3Ideal.Gen

open Cert.Ffn (rms act sum_chunks tok)

/-- One row of the half-step, with no norm behind it. -/
def row (x nw : Fin 1024 → EReal) (wg wu : Fin 1024 → Fin 2816 → EReal) (wd : Fin 2816 → Fin 1024 → EReal)
    (j : Fin 1024) : EReal :=
  x j + Ideal.ofBits FTy.f32 1056964608#32 * ∑ f, act (rms x nw) wg wu f * wd f j

theorem pay2_apply (x : Vec Ideal S1024x1024 .f32) (w : Vec Ideal S1x1024 .f32) (r k : Fin 1024) :
    k0_pay3 (F := Ideal) x w (ix2 r k) = rms (fun k => x (ix2 r k)) (fun k => w (ix2 0 k)) k := by
  pointwise [k0_pay3, k0_pay2]
  rfl

theorem out_apply (x0 : Vec Ideal S1024x1024 .f32) (x1 : Vec Ideal S1x1024 .f32) (x2 x3 : Vec Ideal S1024x2816 .bf16)
    (x4 : Vec Ideal S2816x1024 .bf16) (x5 : Vec Ideal S1x1024 .f32) (r j : Fin 1024) :
    out0_6 (F := Ideal) x0 x1 x2 x3 x4 x5 (ix2 r j)
      = row (fun k => x0 (ix2 r k)) (fun k => x1 (ix2 0 k)) (fun k f => x2 (ix2 k f)) (fun k f => x3 (ix2 k f))
          (fun f k => x4 (ix2 f k)) j := by
  have hz : (![0, 0] : Fin 2 → Nat) = fun _ => 0 := funext fun a => by fin_cases a <;> rfl
  unfold out0_6
  rw [View.canon_unit_zero hz]
  unfold r0_0 r0_1
  rw [View.ld_unit_zero hz, View.ld_unit_zero hz]
  unfold k0_pay1 k0_pay7 k0_pay5 k0_pay6 k0_pay4
  have hn : ∀ k, k0_pay3 (F := Ideal) x0 x1 (ix2 r k) = rms (fun k => x0 (ix2 r k)) (fun k => x1 (ix2 0 k)) k := pay2_apply x0 x1 r
  generalize k0_pay3 x0 x1 = n at hn ⊢
  pointwise [k0_pay2, r0_2, r0_3, r0_4, r0_5, r0_6, r0_7]
  simp only [hn]
  unfold row
  generalize rms (fun k => x0 (ix2 r k)) (fun k => x1 (ix2 0 k)) = N
  simp only [← sum_chunks (fun f => act N (fun k f => x2 (ix2 k f)) (fun k f => x3 (ix2 k f)) f * x4 (ix2 f _))]
  rfl

variable (m : (ℓ : Loc nD τ sig) → Buf (Elt Ideal) ℓ) (c : Dev nD)

/-- The whole result as a function of the argument arrays. -/
def final (x : Vec Ideal S2x8192x1024 .f32) (nw : Vec Ideal S1024 .f32) (wg wu : Vec Ideal S1024x2816 .f32)
    (wd : Vec Ideal S2816x1024 .f32) (i : S16384x1024.Idx) : EReal :=
  row (tok x (i 0)) (fun k => nw (ix1 k)) (fun k f => wg (ix2 k f)) (fun k f => wu (ix2 k f)) (fun f k => wd (ix2 f k)) (i 1)

/-- Where each window's block sits: the token windows walk down the rows, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0])

theorem blk0 (t : Fin cfg0.N) (r k : Fin 1024) (ht : t.val * 1024 + r.val < 16384) :
    iblk m c 0 t (ix2 r k) = tok (m ((c : Thread nD τ).loc main_arg0)) ⟨t.val * 1024 + r, ht⟩ k := by
  unfold tok
  blk_ext! [iblk, V, idx t]

theorem blk1 (t : Fin cfg0.N) (k : Fin 1024) : iblk m c 1 t (ix2 0 k) = m ((c : Thread nD τ).loc main_arg1) (ix1 k) := by
  blk_ext! [iblk, V, idx t]
theorem blk2 (t : Fin cfg0.N) (k : Fin 1024) (f : Fin 2816) :
    iblk m c 2 t (ix2 k f) = m ((c : Thread nD τ).loc main_arg2) (ix2 k f) := by
  blk_ext! [iblk, V, idx t]
theorem blk3 (t : Fin cfg0.N) (k : Fin 1024) (f : Fin 2816) :
    iblk m c 3 t (ix2 k f) = m ((c : Thread nD τ).loc main_arg3) (ix2 k f) := by
  blk_ext! [iblk, V, idx t]
theorem blk4 (t : Fin cfg0.N) (f : Fin 2816) (k : Fin 1024) :
    iblk m c 4 t (ix2 f k) = m ((c : Thread nD τ).loc main_arg4) (ix2 f k) := by
  blk_ext! [iblk, V, idx t]
/-- The kernel's array after the run. -/
theorem arr_eq : (dats m 0 c).arrAt 6 cfg0.N = final (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  idx_vars y
  have ht : t.val * 1024 + y0.val < 16384 := by
    have h := t.isLt
    have hN : cfg0.grid.N = 16 := by decide +kernel
    have h := h.trans_eq hN
    omega
  have e : ((View.whole main_v6).slice (win0_6.rect t)).emb (ix2 y0 y1) = ix2 (⟨t.val * 1024 + y0, ht⟩ : Fin 16384) y1 := by
    blk_ext [idx t]
  refine (out_apply _ _ _ _ _ _ y0 y1).trans ?_
  rw [e]
  unfold final
  simp only [blk0 m c t _ _ ht, blk1, blk2, blk3, blk4]
  rfl

end Cert.FfnStep

/-! ## The reference, read at an index -/

namespace Cert.FfnStep

open Cert.Reference3Ideal Cert.Reference3Ideal.Read Cert.Kernel3Ideal.Gen
open Cert.Ffn (rms act tok)

theorem norm_apply (x : Vec Ideal S2x8192x1024 .f32) (nw : Vec Ideal S1024 .f32) (b : Fin 2) (s : Fin 8192) (k : Fin 1024) :
    val_main_v12 (F := Ideal) x nw (ix3 b s k) = rms (fun k => x (ix3 b s k)) (fun k => nw (ix1 k)) k := by
  pointwise [val_main_v12, val_main_v9, val_main_v11, val_main_v10, val_main_v8, val_main_v7, val_main_v6, val_main_v5, val_main_v4, val_main_v3,
    val_main_v2, val_main_v1, val_main_v0, val_main_cst, val_main_cst_0, val_main_cst_1]
  rfl

theorem hid_apply (x : Vec Ideal S2x8192x1024 .f32) (nw : Vec Ideal S1024 .f32) (wg wu : Vec Ideal S1024x2816 .f32)
    (b : Fin 2) (s : Fin 8192) (f : Fin 2816) :
    val_main_v16 (F := Ideal) x nw wg wu (ix3 b s f)
      = act (rms (fun k => x (ix3 b s k)) (fun k => nw (ix1 k))) (fun k f => wg (ix2 k f)) (fun k f => wu (ix2 k f)) f := by
  have hn : ∀ k, val_main_v12 (F := Ideal) x nw (ix3 b s k) = rms (fun k => x (ix3 b s k)) (fun k => nw (ix1 k)) k := norm_apply x nw b s
  unfold val_main_v16 val_main_v14 val_main_v15 val_main_call0_v5 val_main_call0_v3 val_main_call0_v1 val_main_call0_v0 val_main_v13
    val_main_call0_v4 val_main_call0_v2 val_main_call0_cst_0 val_main_call0_cst
  generalize val_main_v12 (F := Ideal) x nw = n at hn ⊢
  pointwise []
  simp only [hn]
  rfl

theorem ref_apply (x : Vec Ideal S2x8192x1024 .f32) (nw : Vec Ideal S1024 .f32) (wg wu : Vec Ideal S1024x2816 .f32)
    (wd : Vec Ideal S2816x1024 .f32) :
    val_main_v21 (F := Ideal) x nw wg wu wd = final x nw wg wu wd := by
  funext i
  idx_vars i
  unfold val_main_v21 val_main_v20 val_main_v19 val_main_v18 val_main_v17 val_main_cst_2
  have hh := fun b s f => hid_apply x nw wg wu b s f
  generalize val_main_v16 (F := Ideal) x nw wg wu = h at hh ⊢
  pointwise []
  simp only [hh]
  rfl

/-- The tiled kernel and the plain half-step leave the same array, whatever the arguments hold. -/
theorem algebraic : Cert.algebraic_Kernel3Ideal_Reference3Ideal := by
  intro m ρ m' ρ' _ hag
  refine ⟨fun c => (dats m 0 c).arrAt 6 Cert.Kernel3Ideal.cfg0.N, Cert.Kernel3Ideal.Value.run_blocks m ρ,
    (θ_run _ _ _).mono (fun _ h c => ⟨(h c).1.trans ?_, (h c).2⟩) (Cert.Reference3Ideal.Value.run m' ρ')⟩
  obtain ⟨h0, h1, h2, h3, h4, h5⟩ := hag c
  refine Eq.trans ?_ (arr_eq m c).symm
  rw [val_main_v21_eq, ref_apply, h0, h1, h2, h3, h4]

/-- The plain half-step runs, and its arguments and counters end as they began. -/
theorem frame_ref : Cert.quiescent_Reference3Ideal := fun m ρ _ =>
  (θ_run defs _ _).mono (fun r h => ⟨fun c => (h c).2, Idealize.ShloMosaic.sem_eq_zero_of_no_sems (by decide) r.2⟩)
    (Cert.Reference3Ideal.Value.run (F := Ideal) m ρ)

end Cert.FfnStep

end
-- ==== Proof.Reals.lean ====
module

public import Idealize.ShloMosaic.Lib.IdealHost
public import Idealize.ShloMosaic.Lib.ReduceAll

@[expose] public section

noncomputable section

open Idealize.ShloMosaic

/-! # Extended reals that are real: closed under what the layer computes -/

namespace Cert.Reals

/-- The value is a real number. -/
def IsReal (x : EReal) : Prop := ∃ r : ℝ, x = (r : EReal)

theorem coe (r : ℝ) : IsReal (r : EReal) := ⟨r, rfl⟩

theorem add {x y : EReal} (hx : IsReal x) (hy : IsReal y) : IsReal (x + y) := by
  obtain ⟨a, rfl⟩ := hx; obtain ⟨b, rfl⟩ := hy
  exact ⟨a + b, (EReal.coe_add a b).symm⟩

theorem mul {x y : EReal} (hx : IsReal x) (hy : IsReal y) : IsReal (x * y) := by
  obtain ⟨a, rfl⟩ := hx; obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum {ι : Type} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- A sum times a real that is not negative, whatever the summands are. -/
theorem sum_mul {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem lt_top_of_abs {x : EReal} (h : max x (-x) < ⊤) : IsReal x := by
  induction x with
  | bot => simp at h
  | top => simp at h
  | coe r => exact ⟨r, rfl⟩

/-- The reciprocal root of a positive real is real. -/
theorem rsqrt {x : ℝ} (hx : 0 < x) : IsReal (Ideal.rsqrt (x : EReal)) := by
  rw [Ideal.rsqrt_coe, if_neg (not_lt.2 hx.le), if_neg hx.ne']
  exact ⟨_, rfl⟩

theorem ofBits_1024 : Ideal.ofBits FTy.f32 1149239296#32 = ((1024 : ℝ) : EReal) := by
  simp [Ideal.ofBits, Ideal.ieee, -EReal.coe_mul]; norm_num
theorem ofBits_eps : ∃ e : ℝ, 0 < e ∧ Ideal.ofBits FTy.f32 897988541#32 = (e : EReal) := by
  refine ⟨_, ?_, by simp [Ideal.ofBits, Ideal.ieee, -EReal.coe_mul]; rfl⟩
  norm_num
theorem ofBits_sixteenth : Ideal.ofBits FTy.f32 1031798784#32 = ((1 / 16 : ℝ) : EReal) := by
  simp [Ideal.ofBits, Ideal.ieee, -EReal.coe_mul]; norm_num
theorem ofBits_neg_inf : Ideal.ofBits FTy.f32 4286578688#32 = ⊥ := by
  simp [Ideal.ofBits, Ideal.ieee]
theorem ofBits_inf : Ideal.ofBits FTy.f32 2139095040#32 = ⊤ := by
  simp [Ideal.ofBits, Ideal.ieee]
theorem ofBits_inf_bf16 : Ideal.ofBits FTy.bf16 32640#16 = ⊤ := by
  simp [Ideal.ofBits, Ideal.ieee]

/-- The mean of squares of reals is a real that is not negative. -/
theorem mean_sq {n : Nat} (x : Fin n → EReal) (hx : ∀ k, IsReal (x k)) (d : ℝ) (hd : 0 < d) :
    ∃ r : ℝ, 0 ≤ r ∧ Ideal.div (∑ k, x k * x k) (d : EReal) = (r : EReal) := by
  choose g hg using hx
  refine ⟨(∑ k, g k * g k) * (1 / d), by have := Finset.sum_nonneg fun k (_ : k ∈ Finset.univ) => mul_self_nonneg (g k); positivity, ?_⟩
  rw [Ideal.div_coe hd.ne', EReal.coe_mul, coe_sum]
  simp only [hg, EReal.coe_mul]

end Cert.Reals

end
-- ==== Proof.Attend.lean ====
module

public import proofs.«01_k».proof.Proof.Ffn
public import proofs.«01_k».proof.Proof.Reals

@[expose] public section

noncomputable section

open Idealize.ShloMosaic

/-! # A row of attention over the memory, and the two orders of dividing by the softmax's sum -/

namespace Cert.Attend

open Cert.Ffn (rms)
open Cert.Reals

/-- The mixer's way out, added to the residual row. -/
def res {n : Nat} (x : Fin 1024 → EReal) (a : Fin n → EReal) (w : Fin n → Fin 1024 → EReal) (j : Fin 1024) : EReal :=
  x j + ∑ k, a k * w k j

/-- The largest of a row's scores, from the literal for minus infinity. -/
def peak (s : Fin 256 → EReal) : EReal := Finset.univ.fold max (Ideal.ofBits FTy.f32 4286578688#32) s

/-- The values weighted by the exponentials of the scores, divided once at the end. -/
def soft (s v : Fin 256 → EReal) : EReal :=
  Ideal.div (∑ m, Ideal.exp (s m - peak s) * v m) (∑ m, Ideal.exp (s m - peak s))

/-- The values weighted by the softmax of the scores, each weight divided first. -/
def hostSoft (s v : Fin 256 → EReal) : EReal :=
  ∑ m, v m * Ideal.div (Ideal.exp (s m - max (Ideal.ofBits FTy.f32 4286578688#32) (peak s)))
    (∑ m, Ideal.exp (s m - max (Ideal.ofBits FTy.f32 4286578688#32) (peak s)))

/-- Lane `x` of the head that column `f` belongs to. -/
def lane (f : Fin 1024) (x : Fin 256) : Fin 1024 := ⟨f.val / 256 * 256 + x, by omega⟩

/-- Column `f` of the heads' outputs, from scaled queries. -/
def head (q : Fin 1024 → EReal) (k v : Fin 256 → Fin 1024 → EReal) (f : Fin 1024) : EReal :=
  soft (fun m => ∑ x, q (lane f x) * k m (lane f x)) (fun m => v m f)

/-- Column `f` of the heads' outputs, from scaled scores. -/
def hostHead (q : Fin 1024 → EReal) (k v : Fin 256 → Fin 1024 → EReal) (f : Fin 1024) : EReal :=
  hostSoft (fun m => (∑ x, q (lane f x) * k m (lane f x)) * Ideal.ofBits FTy.f32 1031798784#32) (fun m => v m f)

/-- The query row before its scaling. -/
def qry (x nw : Fin 1024 → EReal) (wq : Fin 1024 → Fin 1024 → EReal) (j : Fin 1024) : EReal := ∑ k, rms x nw k * wq k j

/-- One row of the kernel's result. -/
def row {n : Nat} (x : Fin 1024 → EReal) (a : Fin n → EReal) (w : Fin n → Fin 1024 → EReal) (nw : Fin 1024 → EReal)
    (wq : Fin 1024 → Fin 1024 → EReal) (k v : Fin 256 → Fin 1024 → EReal) (wo : Fin 1024 → Fin 1024 → EReal)
    (j : Fin 1024) : EReal :=
  res x a w j + ∑ f, head (fun j => qry (res x a w) nw wq j * Ideal.ofBits FTy.f32 1031798784#32) k v f * wo f j

/-- One row of the reference's result. -/
def hostRow {n : Nat} (x : Fin 1024 → EReal) (a : Fin n → EReal) (w : Fin n → Fin 1024 → EReal) (nw : Fin 1024 → EReal)
    (wq : Fin 1024 → Fin 1024 → EReal) (k v : Fin 256 → Fin 1024 → EReal) (wo : Fin 1024 → Fin 1024 → EReal)
    (j : Fin 1024) : EReal :=
  res x a w j + ∑ f, hostHead (qry (res x a w) nw wq) k v f * wo f j

/-- Column `f` of its head, lanes read from where the head starts. -/
theorem head_at (q : Fin 1024 → EReal) (k v : Fin 256 → Fin 1024 → EReal) (f : Fin 1024) (l : Fin 256 → Fin 1024)
    (hl : ∀ x, (l x).val = f.val / 256 * 256 + x.val) (g : Fin 1024) (hg : g.val = f.val) :
    soft (fun m => ∑ x, q (l x) * k m (l x)) (fun m => v m g) = head q k v f := by
  obtain rfl : l = lane f := funext fun x => Fin.ext (hl x)
  obtain rfl : g = f := Fin.ext hg
  rfl

/-- The four heads' blocks laid side by side, read at column `f`. -/
theorem heads_at (q : Fin 1024 → EReal) (k v : Fin 256 → Fin 1024 → EReal) (f : Fin 1024) :
    (if h0 : f.val < 256 then
      soft (fun m => ∑ x : Fin 256, q ⟨x.val, by omega⟩ * k m ⟨x.val, by omega⟩) (fun m => v m f)
    else if h1 : f.val - 256 < 256 then
      soft (fun m => ∑ x : Fin 256, q ⟨256 + x.val, by omega⟩ * k m ⟨256 + x.val, by omega⟩)
        (fun m => v m ⟨256 + (f.val - 256), by omega⟩)
    else if h2 : f.val - 256 - 256 < 256 then
      soft (fun m => ∑ x : Fin 256, q ⟨512 + x.val, by omega⟩ * k m ⟨512 + x.val, by omega⟩)
        (fun m => v m ⟨512 + (f.val - 256 - 256), by omega⟩)
    else
      soft (fun m => ∑ x : Fin 256, q ⟨768 + x.val, by omega⟩ * k m ⟨768 + x.val, by omega⟩)
        (fun m => v m ⟨768 + (f.val - 256 - 256 - 256), by omega⟩)) = head q k v f := by
  have hf := f.isLt
  split_ifs with h0 h1 h2
  · exact head_at q k v f (fun x => ⟨x.val, by omega⟩) (fun x => by simp only []; omega) f rfl
  · exact head_at q k v f (fun x => ⟨256 + x.val, by omega⟩) (fun x => by simp only []; omega) ⟨256 + (f.val - 256), by omega⟩
      (by simp only []; omega)
  · exact head_at q k v f (fun x => ⟨512 + x.val, by omega⟩) (fun x => by simp only []; omega)
      ⟨512 + (f.val - 256 - 256), by omega⟩ (by simp only []; omega)
  · exact head_at q k v f (fun x => ⟨768 + x.val, by omega⟩) (fun x => by simp only []; omega)
      ⟨768 + (f.val - 256 - 256 - 256), by omega⟩ (by simp only []; omega)

/-! ## Both orders of dividing agree where the scores are real -/

theorem peak_real (s : Fin 256 → EReal) (hs : ∀ m, IsReal (s m)) : IsReal (peak s) := by
  have hlt : peak s < ⊤ := by
    refine (Finset.fold_max_lt ⊤).2 ⟨by rw [ofBits_neg_inf]; exact bot_lt_top, fun m _ => ?_⟩
    obtain ⟨r, hr⟩ := hs m
    rw [hr]; exact EReal.coe_lt_top r
  have hgt : ⊥ < peak s := by
    refine (Finset.lt_fold_max ⊥).2 (Or.inr ⟨0, Finset.mem_univ _, ?_⟩)
    obtain ⟨r, hr⟩ := hs 0
    rw [hr]; exact EReal.bot_lt_coe r
  exact ⟨(peak s).toReal, (EReal.coe_toReal hlt.ne hgt.ne').symm⟩

theorem soft_eq (s v : Fin 256 → EReal) (hs : ∀ m, IsReal (s m)) : soft s v = hostSoft s v := by
  unfold soft hostSoft
  obtain ⟨p, hp⟩ := peak_real s hs
  choose g hg using hs
  have hm : max (Ideal.ofBits FTy.f32 4286578688#32) (peak s) = peak s := by rw [ofBits_neg_inf]; exact max_eq_right bot_le
  rw [hm, hp]
  have he : ∀ m, Ideal.exp (s m - (p : EReal)) = ((Real.exp (g m - p) : ℝ) : EReal) := fun m => by
    rw [hg, ← EReal.coe_sub, Ideal.exp_coe]
  simp only [he]
  rw [← coe_sum]
  have hl : 0 < ∑ m : Fin 256, Real.exp (g m - p) :=
    Finset.sum_pos (fun m _ => Real.exp_pos _) ⟨0, Finset.mem_univ _⟩
  simp only [Ideal.div_coe hl.ne']
  rw [sum_mul _ _ _ (by positivity)]
  refine Finset.sum_congr rfl fun m _ => ?_
  rw [mul_comm ((Real.exp (g m - p) : ℝ) : EReal), mul_assoc]

theorem head_eq (q : Fin 1024 → EReal) (k v : Fin 256 → Fin 1024 → EReal) (f : Fin 1024)
    (hq : ∀ j, IsReal (q j)) (hk : ∀ m j, IsReal (k m j)) :
    head (fun j => q j * Ideal.ofBits FTy.f32 1031798784#32) k v f = hostHead q k v f := by
  unfold head hostHead
  rw [ofBits_sixteenth]
  have e : (fun m => ∑ x, q (lane f x) * ((1 / 16 : ℝ) : EReal) * k m (lane f x))
      = fun m => (∑ x, q (lane f x) * k m (lane f x)) * ((1 / 16 : ℝ) : EReal) := funext fun m => by
    rw [sum_mul _ _ _ (by norm_num)]
    exact Finset.sum_congr rfl fun x _ => mul_right_comm _ _ _
  rw [e]
  exact soft_eq _ _ fun m => mul (sum _ _ fun x => mul (hq _) (hk _ _)) (coe _)

theorem rms_real (x nw : Fin 1024 → EReal) (hx : ∀ k, IsReal (x k)) (hn : ∀ k, IsReal (nw k)) (k : Fin 1024) :
    IsReal (rms x nw k) := by
  unfold rms
  rw [ofBits_1024]
  obtain ⟨r, hr, e⟩ := mean_sq x hx 1024 (by norm_num)
  obtain ⟨ε, hε, e'⟩ := ofBits_eps
  rw [e, e', ← EReal.coe_add]
  exact mul (mul (hx k) (rsqrt (by linarith))) (hn k)

/-- The kernel's row is the reference's where what the scores are made of is real. -/
theorem row_eq {n : Nat} (x : Fin 1024 → EReal) (a : Fin n → EReal) (w : Fin n → Fin 1024 → EReal) (nw : Fin 1024 → EReal)
    (wq : Fin 1024 → Fin 1024 → EReal) (k v : Fin 256 → Fin 1024 → EReal) (wo : Fin 1024 → Fin 1024 → EReal)
    (hx : ∀ k, IsReal (x k)) (ha : ∀ k, IsReal (a k)) (hw : ∀ k j, IsReal (w k j)) (hn : ∀ k, IsReal (nw k))
    (hwq : ∀ k j, IsReal (wq k j)) (hk : ∀ m j, IsReal (k m j)) (j : Fin 1024) :
    row x a w nw wq k v wo j = hostRow x a w nw wq k v wo j := by
  unfold row hostRow
  have hr : ∀ j, IsReal (res x a w j) := fun j => add (hx j) (sum _ _ fun l => mul (ha l) (hw l j))
  have hq : ∀ j, IsReal (qry (res x a w) nw wq j) := fun j => sum _ _ fun l => mul (rms_real _ _ hr hn l) (hwq l j)
  simp only [head_eq _ _ _ _ hq hk]

end Cert.Attend

end
-- ==== Proof.Xattn.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite_after_ssd
public import proofs.«01_k».proof.Proof.Attend
public import Idealize.ShloMosaic.Lib.ReduceAll
public import Idealize.ShloMosaic.Lib.Pipeline.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # Attention over the memory, after the state-space mixer -/

namespace Cert.Xattn

open Cert.Kernel4Ideal Cert.Kernel4Ideal.Gen
open Cert.Attend

/-! ## The kernel's block -/

theorem pay2_apply (x0 : Vec Ideal S1x1024x1024 .f32) (x1 : Vec Ideal S1x1024x2048 .bf16) (x2 : Vec Ideal S2048x1024 .bf16)
    (r j : Fin 1024) : k0_pay2 (F := Ideal) x0 x1 x2 (ix2 r j)
      = res (fun k => x0 (ix3 0 r k)) (fun k => x1 (ix3 0 r k)) (fun k j => x2 (ix2 k j)) j := by
  pointwise [k0_pay2]
  rfl

theorem pay3_apply (x0 : Vec Ideal S1x1024x1024 .f32) (x1 : Vec Ideal S1x1024x2048 .bf16) (x2 : Vec Ideal S2048x1024 .bf16)
    (x3 : Vec Ideal S1x1024 .f32) (x4 : Vec Ideal S1024x1024 .bf16) (r j : Fin 1024) :
    k0_pay3 (F := Ideal) x0 x1 x2 x3 x4 (ix2 r j)
      = qry (res (fun k => x0 (ix3 0 r k)) (fun k => x1 (ix3 0 r k)) (fun k j => x2 (ix2 k j))) (fun k => x3 (ix2 0 k))
          (fun k j => x4 (ix2 k j)) j * Ideal.ofBits FTy.f32 1031798784#32 := by
  unfold k0_pay3
  have hh := pay2_apply x0 x1 x2 r
  generalize k0_pay2 x0 x1 x2 = h at hh ⊢
  pointwise []
  simp only [hh]
  rfl

set_option backward.isDefEq.respectTransparency false in
theorem out_apply (x0 : Vec Ideal S1x1024x1024 .f32) (x1 : Vec Ideal S1x1024x2048 .bf16) (x2 : Vec Ideal S2048x1024 .bf16)
    (x3 : Vec Ideal S1x1024 .f32) (x4 : Vec Ideal S1024x1024 .bf16) (x5 x6 : Vec Ideal S1x256x1024 .bf16)
    (x7 : Vec Ideal S1024x1024 .bf16) (r j : Fin 1024) :
    out0_8 (F := Ideal) x0 x1 x2 x3 x4 x5 x6 x7 (ix3 0 r j)
      = row (fun k => x0 (ix3 0 r k)) (fun k => x1 (ix3 0 r k)) (fun k j => x2 (ix2 k j)) (fun k => x3 (ix2 0 k))
          (fun k j => x4 (ix2 k j)) (fun m f => x5 (ix3 0 m f)) (fun m f => x6 (ix3 0 m f)) (fun f j => x7 (ix2 f j)) j := by
  have hz : (![0, 0] : Fin 2 → Nat) = fun _ => 0 := funext fun a => by fin_cases a <;> rfl
  have hz3 : (![0, 0, 0] : Fin 3 → Nat) = fun _ => 0 := funext fun a => by fin_cases a <;> rfl
  unfold out0_8
  rw [View.canon_unit_zero hz3]
  unfold k0_pay9 r0_0 r0_1 r0_2 r0_3 r0_4
  rw [View.ld_unit_zero hz3 _ x0, View.ld_unit_zero hz3 _ x1, View.ld_unit_zero hz _ x2, View.ld_unit_zero hz _ x3,
    View.ld_unit_zero hz _ x4, View.ld_unit_zero hz _ x7]
  unfold k0_pay4 k0_pay5 k0_pay4
  have hq := pay3_apply x0 x1 x2 x3 x4 r
  have hh := pay2_apply x0 x1 x2 r
  generalize k0_pay3 x0 x1 x2 x3 x4 = q at hq ⊢
  generalize k0_pay2 x0 x1 x2 = h at hh ⊢
  pointwise [k0_pay1, k0_pay6, k0_pay7, k0_pay8, r0_5, r0_6, r0_7, r0_8]
  simp only [hq, hh]
  refine congrArg₂ (· + ·) rfl (Finset.sum_congr rfl fun f _ => congrArg₂ (· * ·) ?_ rfl)
  have key := heads_at (fun j => qry (res (fun k => x0 (ix3 0 r k)) (fun k => x1 (ix3 0 r k)) (fun k j => x2 (ix2 k j)))
      (fun k => x3 (ix2 0 k)) (fun k j => x4 (ix2 k j)) j * Ideal.ofBits FTy.f32 1031798784#32)
    (fun m f => x5 (ix3 0 m f)) (fun m f => x6 (ix3 0 m f)) f
  unfold soft peak at key
  exact key

/-! ## The kernel's array -/

variable (m : (ℓ : Loc nD τ sig) → Buf (Elt Ideal) ℓ) (c : Dev nD)

/-- The whole result as a function of the argument arrays. -/
def final (x0 : Vec Ideal S2x8192x1024 .f32) (x1 : Vec Ideal S2x8192x2048 .bf16) (x2 : Vec Ideal S2048x1024 .f32)
    (x3 : Vec Ideal S1024 .f32) (x4 : Vec Ideal S1024x1024 .f32) (x5 x6 : Vec Ideal S2x256x1024 .bf16)
    (x7 : Vec Ideal S1024x1024 .f32) (i : S2x8192x1024.Idx) : EReal :=
  row (fun k => x0 (ix3 (i 0) (i 1) k)) (fun k => x1 (ix3 (i 0) (i 1) k)) (fun k j => x2 (ix2 k j)) (fun k => x3 (ix1 k))
    (fun k j => x4 (ix2 k j)) (fun m f => x5 (ix3 (i 0) m f)) (fun m f => x6 (ix3 (i 0) m f)) (fun f j => x7 (ix2 f j)) (i 2)

/-- Where each window's block sits: the token windows walk through a batch entry, the memory follows the entry, the others stay. -/
theorem idx : ∀ t : Fin cfg0.N, win0_0.index t = ![t.val / 8, t.val % 8, 0] ∧ win0_1.index t = ![t.val / 8, t.val % 8, 0]
    ∧ win0_2.index t = ![0, 0] ∧ win0_3.index t = ![0, 0] ∧ win0_4.index t = ![0, 0] ∧ win0_5.index t = ![t.val / 8, 0, 0]
    ∧ win0_6.index t = ![t.val / 8, 0, 0] ∧ win0_7.index t = ![0, 0] ∧ win0_8.index t = ![t.val / 8, t.val % 8, 0] :=
  (by decide +kernel : ∀ t : Fin grid0.N, win0_0.index t = ![t.val / 8, t.val % 8, 0] ∧ win0_1.index t = ![t.val / 8, t.val % 8, 0]
    ∧ win0_2.index t = ![0, 0] ∧ win0_3.index t = ![0, 0] ∧ win0_4.index t = ![0, 0] ∧ win0_5.index t = ![t.val / 8, 0, 0]
    ∧ win0_6.index t = ![t.val / 8, 0, 0] ∧ win0_7.index t = ![0, 0] ∧ win0_8.index t = ![t.val / 8, t.val % 8, 0])

theorem blk0 (t : Fin cfg0.N) (r k : Fin 1024) (hb : t.val / 8 < 2) (ht : t.val % 8 * 1024 + r.val < 8192) :
    iblk m c 0 t (ix3 0 r k) = m ((c : Thread nD τ).loc main_arg0) (ix3 ⟨t.val / 8, hb⟩ ⟨t.val % 8 * 1024 + r, ht⟩ k) := by
  blk_ext! [iblk, V, idx t]
theorem blk1 (t : Fin cfg0.N) (r : Fin 1024) (k : Fin 2048) (hb : t.val / 8 < 2) (ht : t.val % 8 * 1024 + r.val < 8192) :
    iblk m c 1 t (ix3 0 r k) = m ((c : Thread nD τ).loc main_arg1) (ix3 ⟨t.val / 8, hb⟩ ⟨t.val % 8 * 1024 + r, ht⟩ k) := by
  blk_ext! [iblk, V, idx t]
theorem blk2 (t : Fin cfg0.N) (k : Fin 2048) (j : Fin 1024) :
    iblk m c 2 t (ix2 k j) = m ((c : Thread nD τ).loc main_arg2) (ix2 k j) := by
  blk_ext! [iblk, V, idx t]
theorem blk3 (t : Fin cfg0.N) (k : Fin 1024) : iblk m c 3 t (ix2 0 k) = m ((c : Thread nD τ).loc main_arg3) (ix1 k) := by
  blk_ext! [iblk, V, idx t]
theorem blk4 (t : Fin cfg0.N) (k j : Fin 1024) :
    iblk m c 4 t (ix2 k j) = m ((c : Thread nD τ).loc main_arg4) (ix2 k j) := by
  blk_ext! [iblk, V, idx t]
theorem blk5 (t : Fin cfg0.N) (k : Fin 256) (f : Fin 1024) (hb : t.val / 8 < 2) :
    iblk m c 5 t (ix3 0 k f) = m ((c : Thread nD τ).loc main_arg5) (ix3 ⟨t.val / 8, hb⟩ k f) := by
  blk_ext! [iblk, V, idx t]
theorem blk6 (t : Fin cfg0.N) (k : Fin 256) (f : Fin 1024) (hb : t.val / 8 < 2) :
    iblk m c 6 t (ix3 0 k f) = m ((c : Thread nD τ).loc main_arg6) (ix3 ⟨t.val / 8, hb⟩ k f) := by
  blk_ext! [iblk, V, idx t]
theorem blk7 (t : Fin cfg0.N) (k j : Fin 1024) :
    iblk m c 7 t (ix2 k j) = m ((c : Thread nD τ).loc main_arg7) (ix2 k j) := by
  blk_ext! [iblk, V, idx t]

/-- The kernel's array after the run. -/
theorem arr_eq : (dats m 0 c).arrAt 8 cfg0.N = final (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  idx_vars y
  obtain rfl : y0 = 0 := Subsingleton.elim (α := Fin 1) y0 0
  have hN : cfg0.grid.N = 16 := by decide +kernel
  have h16 := (t.isLt).trans_eq hN
  have hb : t.val / 8 < 2 := by omega
  have ht : t.val % 8 * 1024 + y1.val < 8192 := by
    have h := y1.isLt
    omega
  have e : ((View.whole main_v4).slice (win0_8.rect t)).emb (ix3 0 y1 y2)
      = ix3 (⟨t.val / 8, hb⟩ : Fin 2) (⟨t.val % 8 * 1024 + y1, ht⟩ : Fin 8192) y2 := by
    blk_ext [idx t]
  refine (out_apply _ _ _ _ _ _ _ _ y1 y2).trans ?_
  rw [e]
  unfold final
  simp only [blk0 m c t _ _ hb ht, blk1 m c t _ _ hb ht, blk2, blk3, blk4, blk5 m c t _ _ hb, blk6 m c t _ _ hb, blk7]
  rfl

end Cert.Xattn

/-! ## The reference, read at an index -/

namespace Cert.Xattn

open Cert.Reference4Ideal Cert.Reference4Ideal.Gen Cert.Reference4Ideal.Read
open Cert.Attend

theorem res_apply (x0 : Vec Ideal S2x8192x1024 .f32) (x1 : Vec Ideal S2x8192x2048 .bf16) (x2 : Vec Ideal S2048x1024 .f32)
    (b : Fin 2) (s : Fin 8192) (j : Fin 1024) :
    val_main_v2 (F := Ideal) x0 x1 x2 (ix3 b s j)
      = res (fun k => x0 (ix3 b s k)) (fun k => x1 (ix3 b s k)) (fun k j => x2 (ix2 k j)) j := by
  pointwise [val_main_v2, val_main_v1, val_main_v0]
  rfl

theorem qry_apply (x0 : Vec Ideal S2x8192x1024 .f32) (x1 : Vec Ideal S2x8192x2048 .bf16) (x2 : Vec Ideal S2048x1024 .f32)
    (x3 : Vec Ideal S1024 .f32) (x4 : Vec Ideal S1024x1024 .f32) (b : Fin 2) (s : Fin 8192) (j : Fin 1024) :
    val_main_v16 (F := Ideal) x0 x1 x2 x3 x4 (ix3 b s j)
      = qry (res (fun k => x0 (ix3 b s k)) (fun k => x1 (ix3 b s k)) (fun k j => x2 (ix2 k j))) (fun k => x3 (ix1 k))
          (fun k j => x4 (ix2 k j)) j := by
  have hr := res_apply x0 x1 x2 b s
  unfold val_main_v16 val_main_v15 val_main_v12 val_main_v14 val_main_v13 val_main_v11 val_main_v10 val_main_v9 val_main_v8
    val_main_v7 val_main_v6 val_main_v5 val_main_v4 val_main_v3 val_main_cst val_main_cst_0 val_main_cst_1
  generalize val_main_v2 (F := Ideal) x0 x1 x2 = r at hr ⊢
  pointwise []
  simp only [hr]
  rfl

/-- The scaled scores, from the queries. -/
theorem score_apply (x0 : Vec Ideal S2x8192x1024 .f32) (x1 : Vec Ideal S2x8192x2048 .bf16) (x2 : Vec Ideal S2048x1024 .f32)
    (x3 : Vec Ideal S1024 .f32) (x4 : Vec Ideal S1024x1024 .f32) (x5 : Vec Ideal S2x256x1024 .bf16)
    (b : Fin 2) (h : Fin 4) (s : Fin 8192) (m : Fin 256) :
    val_main_v24 (F := Ideal) x0 x1 x2 x3 x4 x5 (ix4 b h s m)
      = (∑ x : Fin 256, val_main_v16 (F := Ideal) x0 x1 x2 x3 x4 (ix3 b s ⟨h.val * 256 + x.val, by omega⟩)
          * x5 (ix3 b m ⟨h.val * 256 + x.val, by omega⟩)) * Ideal.ofBits FTy.f32 1031798784#32 := by
  unfold val_main_v24 val_main_v23 val_main_v22 val_main_v19 val_main_v18 val_main_v17 val_main_cst_2
  generalize val_main_v16 (F := Ideal) x0 x1 x2 x3 x4 = q
  pointwise []

theorem max_apply (x0 : Vec Ideal S2x8192x1024 .f32) (x1 : Vec Ideal S2x8192x2048 .bf16) (x2 : Vec Ideal S2048x1024 .f32)
    (x3 : Vec Ideal S1024 .f32) (x4 : Vec Ideal S1024x1024 .f32) (x5 : Vec Ideal S2x256x1024 .bf16)
    (b : Fin 2) (h : Fin 4) (s : Fin 8192) :
    val_main_v25 (F := Ideal) x0 x1 x2 x3 x4 x5 (ix3 b h s)
      = peak fun m => val_main_v24 (F := Ideal) x0 x1 x2 x3 x4 x5 (ix4 b h s m) := by
  unfold val_main_v25 peak
  generalize val_main_v24 (F := Ideal) x0 x1 x2 x3 x4 x5 = q
  simp only [pointwise, val_main_cst_3]

/-- The exponentials of the scores, the largest taken away. -/
theorem exp_apply (x0 : Vec Ideal S2x8192x1024 .f32) (x1 : Vec Ideal S2x8192x2048 .bf16) (x2 : Vec Ideal S2048x1024 .f32)
    (x3 : Vec Ideal S1024 .f32) (x4 : Vec Ideal S1024x1024 .f32) (x5 : Vec Ideal S2x256x1024 .bf16)
    (b : Fin 2) (h : Fin 4) (s : Fin 8192) (m : Fin 256) :
    val_main_v31 (F := Ideal) x0 x1 x2 x3 x4 x5 (ix4 b h s m)
      = Ideal.exp (val_main_v24 (F := Ideal) x0 x1 x2 x3 x4 x5 (ix4 b h s m)
          - max (Ideal.ofBits FTy.f32 4286578688#32) (peak fun m => val_main_v24 (F := Ideal) x0 x1 x2 x3 x4 x5 (ix4 b h s m))) := by
  have e : idx_main_v28 (idx_main_v29 (ix4 b h s m)) = ix3 b h s := by
    funext a; fin_cases a <;> rfl
  rw [val_main_v31_apply, val_main_v30_apply, val_main_v29_apply, val_main_v28_apply, val_main_v27_apply, val_main_v26_apply, e,
    max_apply]
  rfl

theorem weight_apply (x0 : Vec Ideal S2x8192x1024 .f32) (x1 : Vec Ideal S2x8192x2048 .bf16) (x2 : Vec Ideal S2048x1024 .f32)
    (x3 : Vec Ideal S1024 .f32) (x4 : Vec Ideal S1024x1024 .f32) (x5 : Vec Ideal S2x256x1024 .bf16)
    (b : Fin 2) (h : Fin 4) (s : Fin 8192) (m : Fin 256) :
    val_main_v35 (F := Ideal) x0 x1 x2 x3 x4 x5 (ix4 b h s m)
      = Ideal.div (val_main_v31 (F := Ideal) x0 x1 x2 x3 x4 x5 (ix4 b h s m))
          (∑ m : Fin 256, val_main_v31 (F := Ideal) x0 x1 x2 x3 x4 x5 (ix4 b h s m)) := by
  have e : idx_main_v33 (idx_main_v34 (ix4 b h s m)) = ix3 b h s := by
    funext a; fin_cases a <;> rfl
  have e' : ∀ k, idx_main_v32 (ix3 b h s) k = ix4 b h s k := fun k => by
    funext a; fin_cases a <;> rfl
  rw [val_main_v35_apply, val_main_v34_apply, val_main_v33_apply, e, val_main_v32_apply]
  simp only [e']
  rw [val_main_cst_5_apply]
  show Ideal.div _ (Ideal.ofBits FTy.f32 0x00000000#32 + _) = _
  rw [Ideal.ofBits_zero_f32, zero_add]

theorem mix_apply (x0 : Vec Ideal S2x8192x1024 .f32) (x1 : Vec Ideal S2x8192x2048 .bf16) (x2 : Vec Ideal S2048x1024 .f32)
    (x3 : Vec Ideal S1024 .f32) (x4 : Vec Ideal S1024x1024 .f32) (x5 x6 : Vec Ideal S2x256x1024 .bf16)
    (b : Fin 2) (h : Fin 4) (s : Fin 8192) (d : Fin 256) :
    val_main_v36 (F := Ideal) x0 x1 x2 x3 x4 x5 x6 (ix4 b h d s)
      = ∑ m : Fin 256, x6 (ix3 b m ⟨h.val * 256 + d.val, by omega⟩)
          * val_main_v35 (F := Ideal) x0 x1 x2 x3 x4 x5 (ix4 b h s m) := by
  unfold val_main_v36 val_main_v21 val_main_v20
  generalize val_main_v35 (F := Ideal) x0 x1 x2 x3 x4 x5 = q
  pointwise []

theorem ref_apply (x0 : Vec Ideal S2x8192x1024 .f32) (x1 : Vec Ideal S2x8192x2048 .bf16) (x2 : Vec Ideal S2048x1024 .f32)
    (x3 : Vec Ideal S1024 .f32) (x4 : Vec Ideal S1024x1024 .f32) (x5 x6 : Vec Ideal S2x256x1024 .bf16)
    (x7 : Vec Ideal S1024x1024 .f32) (b : Fin 2) (s : Fin 8192) (j : Fin 1024) :
    val_main_v40 (F := Ideal) x0 x1 x2 x3 x4 x5 x6 x7 (ix3 b s j)
      = hostRow (fun k => x0 (ix3 b s k)) (fun k => x1 (ix3 b s k)) (fun k j => x2 (ix2 k j)) (fun k => x3 (ix1 k))
          (fun k j => x4 (ix2 k j)) (fun m f => x5 (ix3 b m f)) (fun m f => x6 (ix3 b m f)) (fun f j => x7 (ix2 f j)) j := by
  have hr := res_apply x0 x1 x2 b s
  have hm := fun h d => mix_apply x0 x1 x2 x3 x4 x5 x6 b h s d
  simp only [weight_apply, exp_apply, score_apply, qry_apply] at hm
  unfold val_main_v40 val_main_v39 val_main_v38 val_main_v37
  generalize val_main_v36 (F := Ideal) x0 x1 x2 x3 x4 x5 x6 = o at hm ⊢
  generalize val_main_v2 (F := Ideal) x0 x1 x2 = r at hr ⊢
  pointwise []
  rw [hr]
  refine congrArg₂ (· + ·) rfl (Finset.sum_congr rfl fun f _ => congrArg₂ (· * ·) ?_ rfl)
  rw [hm]
  have hf : f.val / 256 * 256 + f.val % 256 = f.val := by omega
  have e : (⟨f.val / 256 * 256 + f.val % 256, by omega⟩ : Fin 1024) = f := Fin.ext hf
  simp only [e]
  rfl

end Cert.Xattn

/-! ## Arguments below infinity -/

namespace Cert.Xattn

open Cert.Kernel4Ideal Cert.Kernel4Ideal.Gen Cert.Pre_finite_after_ssd.Gen
open Cert.Attend Cert.Reals

instance : Subsingleton Cert.Pre_finite_after_ssd.S_.Idx := ⟨fun a b => funext fun i => i.elim0⟩

theorem and_apply {i : Cert.Pre_finite_after_ssd.S_.Idx} {x y : IVec Cert.Pre_finite_after_ssd.S_ 1} (h : andi x y i = 1#1) :
    x i = 1#1 ∧ y i = 1#1 := IntOp.andi_eq_one.1 h

theorem real_f32 {x : EReal} (h : Ideal.cmp .olt (max x (-x)) (Ideal.ofBits FTy.f32 0x7F800000#32) = 1#1) : IsReal x := by
  refine lt_top_of_abs ?_
  rw [show Ideal.ofBits FTy.f32 0x7F800000#32 = ⊤ from ofBits_inf] at h
  by_contra hn
  simp [Ideal.cmp, hn] at h

theorem real_bf16 {x : EReal} (h : Ideal.cmp .olt (max x (-x)) (Ideal.ofBits FTy.bf16 0x7F80#16) = 1#1) : IsReal x := by
  refine lt_top_of_abs ?_
  rw [show Ideal.ofBits FTy.bf16 0x7F80#16 = ⊤ from ofBits_inf_bf16] at h
  by_contra hn
  simp [Ideal.cmp, hn] at h

theorem reals (x0 : Vec Ideal S2x8192x1024 .f32) (x1 : Vec Ideal S2x8192x2048 .bf16) (x2 : Vec Ideal S2048x1024 .f32)
    (x3 : Vec Ideal S1024 .f32) (x4 : Vec Ideal S1024x1024 .f32) (x5 x6 : Vec Ideal S2x256x1024 .bf16)
    (x7 : Vec Ideal S1024x1024 .f32) (h : Cert.Pre_finite_after_ssd.fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i)) ∧ (∀ i, IsReal (x4 i))
      ∧ ∀ i, IsReal (x5 i) := by
  have h := congrFun h (fun i => i.elim0)
  dsimp only [Cert.Pre_finite_after_ssd.fn, Cert.Pre_finite_after_ssd.fn_part1] at h
  obtain ⟨h, h5⟩ := and_apply h
  obtain ⟨h, h4⟩ := and_apply h
  obtain ⟨h, h3⟩ := and_apply h
  obtain ⟨h, h2⟩ := and_apply h
  obtain ⟨h0, h1⟩ := and_apply h
  exact ⟨fun i => real_f32 (Host.reduce_andi_all _ _ _ _ _ h0 i), fun i => real_bf16 (Host.reduce_andi_all _ _ _ _ _ h1 i),
    fun i => real_f32 (Host.reduce_andi_all _ _ _ _ _ h2 i), fun i => real_f32 (Host.reduce_andi_all _ _ _ _ _ h3 i),
    fun i => real_f32 (Host.reduce_andi_all _ _ _ _ _ h4 i), fun i => real_bf16 (Host.reduce_andi_all _ _ _ _ _ h5 i)⟩

/-! ## The claim -/

/-- The tiled kernel and the plain lines leave the same array where the scores' arguments are finite. -/
theorem algebraic : Cert.algebraic_Kernel4Ideal_Reference4Ideal_pre_finite_after_ssd := by
  intro m ρ m' ρ' hpre hag
  refine ⟨fun c => (dats m 0 c).arrAt 8 Cert.Kernel4Ideal.cfg0.N, Cert.Kernel4Ideal.Value.run_blocks m ρ,
    (θ_run _ _ _).mono (fun _ h c => ⟨(h c).1.trans ?_, (h c).2⟩) (Cert.Reference4Ideal.Value.run m' ρ')⟩
  obtain ⟨h0, h1, h2, h3, h4, h5, h6, h7⟩ := hag c
  obtain ⟨r0, r1, r2, r3, r4, r5⟩ := reals _ _ _ _ _ _ _ _ (hpre c)
  refine Eq.trans ?_ (arr_eq m c).symm
  rw [Cert.Reference4Ideal.Read.val_main_v40_eq, h0, h1, h2, h3, h4, h5, h6, h7]
  funext i
  idx_vars i
  rw [ref_apply]
  exact (row_eq _ _ _ _ _ _ _ _ (fun _ => r0 _) (fun _ => r1 _) (fun _ _ => r2 _) (fun _ => r3 _) (fun _ _ => r4 _)
    (fun _ _ => r5 _) _).symm

/-- The plain lines run, and their arguments and counters end as they began. -/
theorem frame_ref : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The same where the arguments are finite. -/
theorem frame_ref_finite : Cert.quiescent_Reference4Ideal_pre_finite_after_ssd := fun m ρ _ => frame_ref m ρ trivial

end Cert.Xattn

end
-- ==== Proof.XattnDa.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite_after_da
public import proofs.«01_k».proof.Proof.Attend
public import Idealize.ShloMosaic.Lib.ReduceAll
public import Idealize.ShloMosaic.Lib.Pipeline.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # Attention over the memory, after the attention mixer -/

namespace Cert.XattnDa

open Cert.Kernel5Ideal Cert.Kernel5Ideal.Gen
open Cert.Attend

/-! ## The kernel's block -/

theorem pay2_apply (x0 : Vec Ideal S1x1024x1024 .f32) (x1 : Vec Ideal S1x1024x1024 .bf16) (x2 : Vec Ideal S1024x1024 .bf16)
    (r j : Fin 1024) : k0_pay2 (F := Ideal) x0 x1 x2 (ix2 r j)
      = res (fun k => x0 (ix3 0 r k)) (fun k => x1 (ix3 0 r k)) (fun k j => x2 (ix2 k j)) j := by
  pointwise [k0_pay2]
  rfl

theorem pay3_apply (x0 : Vec Ideal S1x1024x1024 .f32) (x1 : Vec Ideal S1x1024x1024 .bf16) (x2 : Vec Ideal S1024x1024 .bf16)
    (x3 : Vec Ideal S1x1024 .f32) (x4 : Vec Ideal S1024x1024 .bf16) (r j : Fin 1024) :
    k0_pay3 (F := Ideal) x0 x1 x2 x3 x4 (ix2 r j)
      = qry (res (fun k => x0 (ix3 0 r k)) (fun k => x1 (ix3 0 r k)) (fun k j => x2 (ix2 k j))) (fun k => x3 (ix2 0 k))
          (fun k j => x4 (ix2 k j)) j * Ideal.ofBits FTy.f32 1031798784#32 := by
  unfold k0_pay3
  have hh := pay2_apply x0 x1 x2 r
  generalize k0_pay2 x0 x1 x2 = h at hh ⊢
  pointwise []
  simp only [hh]
  rfl

set_option backward.isDefEq.respectTransparency false in
theorem out_apply (x0 : Vec Ideal S1x1024x1024 .f32) (x1 : Vec Ideal S1x1024x1024 .bf16) (x2 : Vec Ideal S1024x1024 .bf16)
    (x3 : Vec Ideal S1x1024 .f32) (x4 : Vec Ideal S1024x1024 .bf16) (x5 x6 : Vec Ideal S1x256x1024 .bf16)
    (x7 : Vec Ideal S1024x1024 .bf16) (r j : Fin 1024) :
    out0_8 (F := Ideal) x0 x1 x2 x3 x4 x5 x6 x7 (ix3 0 r j)
      = row (fun k => x0 (ix3 0 r k)) (fun k => x1 (ix3 0 r k)) (fun k j => x2 (ix2 k j)) (fun k => x3 (ix2 0 k))
          (fun k j => x4 (ix2 k j)) (fun m f => x5 (ix3 0 m f)) (fun m f => x6 (ix3 0 m f)) (fun f j => x7 (ix2 f j)) j := by
  have hz : (![0, 0] : Fin 2 → Nat) = fun _ => 0 := funext fun a => by fin_cases a <;> rfl
  have hz3 : (![0, 0, 0] : Fin 3 → Nat) = fun _ => 0 := funext fun a => by fin_cases a <;> rfl
  unfold out0_8
  rw [View.canon_unit_zero hz3]
  unfold k0_pay9 r0_0 r0_1 r0_2
  rw [View.ld_unit_zero hz3 _ x0, View.ld_unit_zero hz3 _ x1, View.ld_unit_zero hz _ x2, View.ld_unit_zero hz _ x3,
    View.ld_unit_zero hz _ x4, View.ld_unit_zero hz _ x7]
  unfold k0_pay4 k0_pay5 k0_pay4
  have hq := pay3_apply x0 x1 x2 x3 x4 r
  have hh := pay2_apply x0 x1 x2 r
  generalize k0_pay3 x0 x1 x2 x3 x4 = q at hq ⊢
  generalize k0_pay2 x0 x1 x2 = h at hh ⊢
  pointwise [k0_pay1, k0_pay6, k0_pay7, k0_pay8, r0_3, r0_4, r0_5, r0_6]
  simp only [hq, hh]
  refine congrArg₂ (· + ·) rfl (Finset.sum_congr rfl fun f _ => congrArg₂ (· * ·) ?_ rfl)
  have key := heads_at (fun j => qry (res (fun k => x0 (ix3 0 r k)) (fun k => x1 (ix3 0 r k)) (fun k j => x2 (ix2 k j)))
      (fun k => x3 (ix2 0 k)) (fun k j => x4 (ix2 k j)) j * Ideal.ofBits FTy.f32 1031798784#32)
    (fun m f => x5 (ix3 0 m f)) (fun m f => x6 (ix3 0 m f)) f
  unfold soft peak at key
  exact key

/-! ## The kernel's array -/

variable (m : (ℓ : Loc nD τ sig) → Buf (Elt Ideal) ℓ) (c : Dev nD)

/-- The whole result as a function of the argument arrays. -/
def final (x0 : Vec Ideal S2x8192x1024 .f32) (x1 : Vec Ideal S2x8192x1024 .bf16) (x2 : Vec Ideal S1024x1024 .f32)
    (x3 : Vec Ideal S1024 .f32) (x4 : Vec Ideal S1024x1024 .f32) (x5 x6 : Vec Ideal S2x256x1024 .bf16)
    (x7 : Vec Ideal S1024x1024 .f32) (i : S2x8192x1024.Idx) : EReal :=
  row (fun k => x0 (ix3 (i 0) (i 1) k)) (fun k => x1 (ix3 (i 0) (i 1) k)) (fun k j => x2 (ix2 k j)) (fun k => x3 (ix1 k))
    (fun k j => x4 (ix2 k j)) (fun m f => x5 (ix3 (i 0) m f)) (fun m f => x6 (ix3 (i 0) m f)) (fun f j => x7 (ix2 f j)) (i 2)

/-- Where each window's block sits: the token windows walk through a batch entry, the memory follows the entry, the others stay. -/
theorem idx : ∀ t : Fin cfg0.N, win0_0.index t = ![t.val / 8, t.val % 8, 0] ∧ win0_1.index t = ![t.val / 8, t.val % 8, 0]
    ∧ win0_2.index t = ![0, 0] ∧ win0_3.index t = ![0, 0] ∧ win0_4.index t = ![0, 0] ∧ win0_5.index t = ![t.val / 8, 0, 0]
    ∧ win0_6.index t = ![t.val / 8, 0, 0] ∧ win0_7.index t = ![0, 0] ∧ win0_8.index t = ![t.val / 8, t.val % 8, 0] :=
  (by decide +kernel : ∀ t : Fin grid0.N, win0_0.index t = ![t.val / 8, t.val % 8, 0] ∧ win0_1.index t = ![t.val / 8, t.val % 8, 0]
    ∧ win0_2.index t = ![0, 0] ∧ win0_3.index t = ![0, 0] ∧ win0_4.index t = ![0, 0] ∧ win0_5.index t = ![t.val / 8, 0, 0]
    ∧ win0_6.index t = ![t.val / 8, 0, 0] ∧ win0_7.index t = ![0, 0] ∧ win0_8.index t = ![t.val / 8, t.val % 8, 0])

theorem blk0 (t : Fin cfg0.N) (r k : Fin 1024) (hb : t.val / 8 < 2) (ht : t.val % 8 * 1024 + r.val < 8192) :
    iblk m c 0 t (ix3 0 r k) = m ((c : Thread nD τ).loc main_arg0) (ix3 ⟨t.val / 8, hb⟩ ⟨t.val % 8 * 1024 + r, ht⟩ k) := by
  blk_ext! [iblk, V, idx t]
theorem blk1 (t : Fin cfg0.N) (r : Fin 1024) (k : Fin 1024) (hb : t.val / 8 < 2) (ht : t.val % 8 * 1024 + r.val < 8192) :
    iblk m c 1 t (ix3 0 r k) = m ((c : Thread nD τ).loc main_arg1) (ix3 ⟨t.val / 8, hb⟩ ⟨t.val % 8 * 1024 + r, ht⟩ k) := by
  blk_ext! [iblk, V, idx t]
theorem blk2 (t : Fin cfg0.N) (k : Fin 1024) (j : Fin 1024) :
    iblk m c 2 t (ix2 k j) = m ((c : Thread nD τ).loc main_arg2) (ix2 k j) := by
  blk_ext! [iblk, V, idx t]
theorem blk3 (t : Fin cfg0.N) (k : Fin 1024) : iblk m c 3 t (ix2 0 k) = m ((c : Thread nD τ).loc main_arg3) (ix1 k) := by
  blk_ext! [iblk, V, idx t]
theorem blk4 (t : Fin cfg0.N) (k j : Fin 1024) :
    iblk m c 4 t (ix2 k j) = m ((c : Thread nD τ).loc main_arg4) (ix2 k j) := by
  blk_ext! [iblk, V, idx t]
theorem blk5 (t : Fin cfg0.N) (k : Fin 256) (f : Fin 1024) (hb : t.val / 8 < 2) :
    iblk m c 5 t (ix3 0 k f) = m ((c : Thread nD τ).loc main_arg5) (ix3 ⟨t.val / 8, hb⟩ k f) := by
  blk_ext! [iblk, V, idx t]
theorem blk6 (t : Fin cfg0.N) (k : Fin 256) (f : Fin 1024) (hb : t.val / 8 < 2) :
    iblk m c 6 t (ix3 0 k f) = m ((c : Thread nD τ).loc main_arg6) (ix3 ⟨t.val / 8, hb⟩ k f) := by
  blk_ext! [iblk, V, idx t]
theorem blk7 (t : Fin cfg0.N) (k j : Fin 1024) :
    iblk m c 7 t (ix2 k j) = m ((c : Thread nD τ).loc main_arg7) (ix2 k j) := by
  blk_ext! [iblk, V, idx t]

/-- The kernel's array after the run. -/
theorem arr_eq : (dats m 0 c).arrAt 8 cfg0.N = final (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  idx_vars y
  obtain rfl : y0 = 0 := Subsingleton.elim (α := Fin 1) y0 0
  have hN : cfg0.grid.N = 16 := by decide +kernel
  have h16 := (t.isLt).trans_eq hN
  have hb : t.val / 8 < 2 := by omega
  have ht : t.val % 8 * 1024 + y1.val < 8192 := by
    have h := y1.isLt
    omega
  have e : ((View.whole main_v4).slice (win0_8.rect t)).emb (ix3 0 y1 y2)
      = ix3 (⟨t.val / 8, hb⟩ : Fin 2) (⟨t.val % 8 * 1024 + y1, ht⟩ : Fin 8192) y2 := by
    blk_ext [idx t]
  refine (out_apply _ _ _ _ _ _ _ _ y1 y2).trans ?_
  rw [e]
  unfold final
  simp only [blk0 m c t _ _ hb ht, blk1 m c t _ _ hb ht, blk2, blk3, blk4, blk5 m c t _ _ hb, blk6 m c t _ _ hb, blk7]
  rfl

end Cert.XattnDa

/-! ## The reference, read at an index -/

namespace Cert.XattnDa

open Cert.Reference5Ideal Cert.Reference5Ideal.Gen Cert.Reference5Ideal.Read
open Cert.Attend

theorem res_apply (x0 : Vec Ideal S2x8192x1024 .f32) (x1 : Vec Ideal S2x8192x1024 .bf16) (x2 : Vec Ideal S1024x1024 .f32)
    (b : Fin 2) (s : Fin 8192) (j : Fin 1024) :
    val_main_v2 (F := Ideal) x0 x1 x2 (ix3 b s j)
      = res (fun k => x0 (ix3 b s k)) (fun k => x1 (ix3 b s k)) (fun k j => x2 (ix2 k j)) j := by
  pointwise [val_main_v2, val_main_v1, val_main_v0]
  rfl

theorem qry_apply (x0 : Vec Ideal S2x8192x1024 .f32) (x1 : Vec Ideal S2x8192x1024 .bf16) (x2 : Vec Ideal S1024x1024 .f32)
    (x3 : Vec Ideal S1024 .f32) (x4 : Vec Ideal S1024x1024 .f32) (b : Fin 2) (s : Fin 8192) (j : Fin 1024) :
    val_main_v16 (F := Ideal) x0 x1 x2 x3 x4 (ix3 b s j)
      = qry (res (fun k => x0 (ix3 b s k)) (fun k => x1 (ix3 b s k)) (fun k j => x2 (ix2 k j))) (fun k => x3 (ix1 k))
          (fun k j => x4 (ix2 k j)) j := by
  have hr := res_apply x0 x1 x2 b s
  unfold val_main_v16 val_main_v15 val_main_v12 val_main_v14 val_main_v13 val_main_v11 val_main_v10 val_main_v9 val_main_v8
    val_main_v7 val_main_v6 val_main_v5 val_main_v4 val_main_v3 val_main_cst val_main_cst_0 val_main_cst_1
  generalize val_main_v2 (F := Ideal) x0 x1 x2 = r at hr ⊢
  pointwise []
  simp only [hr]
  rfl

/-- The scaled scores, from the queries. -/
theorem score_apply (x0 : Vec Ideal S2x8192x1024 .f32) (x1 : Vec Ideal S2x8192x1024 .bf16) (x2 : Vec Ideal S1024x1024 .f32)
    (x3 : Vec Ideal S1024 .f32) (x4 : Vec Ideal S1024x1024 .f32) (x5 : Vec Ideal S2x256x1024 .bf16)
    (b : Fin 2) (h : Fin 4) (s : Fin 8192) (m : Fin 256) :
    val_main_v24 (F := Ideal) x0 x1 x2 x3 x4 x5 (ix4 b h s m)
      = (∑ x : Fin 256, val_main_v16 (F := Ideal) x0 x1 x2 x3 x4 (ix3 b s ⟨h.val * 256 + x.val, by omega⟩)
          * x5 (ix3 b m ⟨h.val * 256 + x.val, by omega⟩)) * Ideal.ofBits FTy.f32 1031798784#32 := by
  unfold val_main_v24 val_main_v23 val_main_v22 val_main_v19 val_main_v18 val_main_v17 val_main_cst_2
  generalize val_main_v16 (F := Ideal) x0 x1 x2 x3 x4 = q
  pointwise []

theorem max_apply (x0 : Vec Ideal S2x8192x1024 .f32) (x1 : Vec Ideal S2x8192x1024 .bf16) (x2 : Vec Ideal S1024x1024 .f32)
    (x3 : Vec Ideal S1024 .f32) (x4 : Vec Ideal S1024x1024 .f32) (x5 : Vec Ideal S2x256x1024 .bf16)
    (b : Fin 2) (h : Fin 4) (s : Fin 8192) :
    val_main_v25 (F := Ideal) x0 x1 x2 x3 x4 x5 (ix3 b h s)
      = peak fun m => val_main_v24 (F := Ideal) x0 x1 x2 x3 x4 x5 (ix4 b h s m) := by
  unfold val_main_v25 peak
  generalize val_main_v24 (F := Ideal) x0 x1 x2 x3 x4 x5 = q
  simp only [pointwise, val_main_cst_3]

/-- The exponentials of the scores, the largest taken away. -/
theorem exp_apply (x0 : Vec Ideal S2x8192x1024 .f32) (x1 : Vec Ideal S2x8192x1024 .bf16) (x2 : Vec Ideal S1024x1024 .f32)
    (x3 : Vec Ideal S1024 .f32) (x4 : Vec Ideal S1024x1024 .f32) (x5 : Vec Ideal S2x256x1024 .bf16)
    (b : Fin 2) (h : Fin 4) (s : Fin 8192) (m : Fin 256) :
    val_main_v31 (F := Ideal) x0 x1 x2 x3 x4 x5 (ix4 b h s m)
      = Ideal.exp (val_main_v24 (F := Ideal) x0 x1 x2 x3 x4 x5 (ix4 b h s m)
          - max (Ideal.ofBits FTy.f32 4286578688#32) (peak fun m => val_main_v24 (F := Ideal) x0 x1 x2 x3 x4 x5 (ix4 b h s m))) := by
  have e : idx_main_v28 (idx_main_v29 (ix4 b h s m)) = ix3 b h s := by
    funext a; fin_cases a <;> rfl
  rw [val_main_v31_apply, val_main_v30_apply, val_main_v29_apply, val_main_v28_apply, val_main_v27_apply, val_main_v26_apply, e,
    max_apply]
  rfl

theorem weight_apply (x0 : Vec Ideal S2x8192x1024 .f32) (x1 : Vec Ideal S2x8192x1024 .bf16) (x2 : Vec Ideal S1024x1024 .f32)
    (x3 : Vec Ideal S1024 .f32) (x4 : Vec Ideal S1024x1024 .f32) (x5 : Vec Ideal S2x256x1024 .bf16)
    (b : Fin 2) (h : Fin 4) (s : Fin 8192) (m : Fin 256) :
    val_main_v35 (F := Ideal) x0 x1 x2 x3 x4 x5 (ix4 b h s m)
      = Ideal.div (val_main_v31 (F := Ideal) x0 x1 x2 x3 x4 x5 (ix4 b h s m))
          (∑ m : Fin 256, val_main_v31 (F := Ideal) x0 x1 x2 x3 x4 x5 (ix4 b h s m)) := by
  have e : idx_main_v33 (idx_main_v34 (ix4 b h s m)) = ix3 b h s := by
    funext a; fin_cases a <;> rfl
  have e' : ∀ k, idx_main_v32 (ix3 b h s) k = ix4 b h s k := fun k => by
    funext a; fin_cases a <;> rfl
  rw [val_main_v35_apply, val_main_v34_apply, val_main_v33_apply, e, val_main_v32_apply]
  simp only [e']
  rw [val_main_cst_5_apply]
  show Ideal.div _ (Ideal.ofBits FTy.f32 0x00000000#32 + _) = _
  rw [Ideal.ofBits_zero_f32, zero_add]

theorem mix_apply (x0 : Vec Ideal S2x8192x1024 .f32) (x1 : Vec Ideal S2x8192x1024 .bf16) (x2 : Vec Ideal S1024x1024 .f32)
    (x3 : Vec Ideal S1024 .f32) (x4 : Vec Ideal S1024x1024 .f32) (x5 x6 : Vec Ideal S2x256x1024 .bf16)
    (b : Fin 2) (h : Fin 4) (s : Fin 8192) (d : Fin 256) :
    val_main_v36 (F := Ideal) x0 x1 x2 x3 x4 x5 x6 (ix4 b h d s)
      = ∑ m : Fin 256, x6 (ix3 b m ⟨h.val * 256 + d.val, by omega⟩)
          * val_main_v35 (F := Ideal) x0 x1 x2 x3 x4 x5 (ix4 b h s m) := by
  unfold val_main_v36 val_main_v21 val_main_v20
  generalize val_main_v35 (F := Ideal) x0 x1 x2 x3 x4 x5 = q
  pointwise []

theorem ref_apply (x0 : Vec Ideal S2x8192x1024 .f32) (x1 : Vec Ideal S2x8192x1024 .bf16) (x2 : Vec Ideal S1024x1024 .f32)
    (x3 : Vec Ideal S1024 .f32) (x4 : Vec Ideal S1024x1024 .f32) (x5 x6 : Vec Ideal S2x256x1024 .bf16)
    (x7 : Vec Ideal S1024x1024 .f32) (b : Fin 2) (s : Fin 8192) (j : Fin 1024) :
    val_main_v40 (F := Ideal) x0 x1 x2 x3 x4 x5 x6 x7 (ix3 b s j)
      = hostRow (fun k => x0 (ix3 b s k)) (fun k => x1 (ix3 b s k)) (fun k j => x2 (ix2 k j)) (fun k => x3 (ix1 k))
          (fun k j => x4 (ix2 k j)) (fun m f => x5 (ix3 b m f)) (fun m f => x6 (ix3 b m f)) (fun f j => x7 (ix2 f j)) j := by
  have hr := res_apply x0 x1 x2 b s
  have hm := fun h d => mix_apply x0 x1 x2 x3 x4 x5 x6 b h s d
  simp only [weight_apply, exp_apply, score_apply, qry_apply] at hm
  unfold val_main_v40 val_main_v39 val_main_v38 val_main_v37
  generalize val_main_v36 (F := Ideal) x0 x1 x2 x3 x4 x5 x6 = o at hm ⊢
  generalize val_main_v2 (F := Ideal) x0 x1 x2 = r at hr ⊢
  pointwise []
  rw [hr]
  refine congrArg₂ (· + ·) rfl (Finset.sum_congr rfl fun f _ => congrArg₂ (· * ·) ?_ rfl)
  rw [hm]
  have hf : f.val / 256 * 256 + f.val % 256 = f.val := by omega
  have e : (⟨f.val / 256 * 256 + f.val % 256, by omega⟩ : Fin 1024) = f := Fin.ext hf
  simp only [e]
  rfl

end Cert.XattnDa

/-! ## Arguments below infinity -/

namespace Cert.XattnDa

open Cert.Kernel5Ideal Cert.Kernel5Ideal.Gen Cert.Pre_finite_after_da.Gen
open Cert.Attend Cert.Reals

instance : Subsingleton Cert.Pre_finite_after_da.S_.Idx := ⟨fun a b => funext fun i => i.elim0⟩

theorem and_apply {i : Cert.Pre_finite_after_da.S_.Idx} {x y : IVec Cert.Pre_finite_after_da.S_ 1} (h : andi x y i = 1#1) :
    x i = 1#1 ∧ y i = 1#1 := IntOp.andi_eq_one.1 h

theorem real_f32 {x : EReal} (h : Ideal.cmp .olt (max x (-x)) (Ideal.ofBits FTy.f32 0x7F800000#32) = 1#1) : IsReal x := by
  refine lt_top_of_abs ?_
  rw [show Ideal.ofBits FTy.f32 0x7F800000#32 = ⊤ from ofBits_inf] at h
  by_contra hn
  simp [Ideal.cmp, hn] at h

theorem real_bf16 {x : EReal} (h : Ideal.cmp .olt (max x (-x)) (Ideal.ofBits FTy.bf16 0x7F80#16) = 1#1) : IsReal x := by
  refine lt_top_of_abs ?_
  rw [show Ideal.ofBits FTy.bf16 0x7F80#16 = ⊤ from ofBits_inf_bf16] at h
  by_contra hn
  simp [Ideal.cmp, hn] at h

theorem reals (x0 : Vec Ideal S2x8192x1024 .f32) (x1 : Vec Ideal S2x8192x1024 .bf16) (x2 : Vec Ideal S1024x1024 .f32)
    (x3 : Vec Ideal S1024 .f32) (x4 : Vec Ideal S1024x1024 .f32) (x5 x6 : Vec Ideal S2x256x1024 .bf16)
    (x7 : Vec Ideal S1024x1024 .f32) (h : Cert.Pre_finite_after_da.fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i)) ∧ (∀ i, IsReal (x4 i))
      ∧ ∀ i, IsReal (x5 i) := by
  have h := congrFun h (fun i => i.elim0)
  dsimp only [Cert.Pre_finite_after_da.fn, Cert.Pre_finite_after_da.fn_part1] at h
  obtain ⟨h, h5⟩ := and_apply h
  obtain ⟨h, h4⟩ := and_apply h
  obtain ⟨h, h3⟩ := and_apply h
  obtain ⟨h, h2⟩ := and_apply h
  obtain ⟨h0, h1⟩ := and_apply h
  exact ⟨fun i => real_f32 (Host.reduce_andi_all _ _ _ _ _ h0 i), fun i => real_bf16 (Host.reduce_andi_all _ _ _ _ _ h1 i),
    fun i => real_f32 (Host.reduce_andi_all _ _ _ _ _ h2 i), fun i => real_f32 (Host.reduce_andi_all _ _ _ _ _ h3 i),
    fun i => real_f32 (Host.reduce_andi_all _ _ _ _ _ h4 i), fun i => real_bf16 (Host.reduce_andi_all _ _ _ _ _ h5 i)⟩

/-! ## The claim -/

/-- The tiled kernel and the plain lines leave the same array where the scores' arguments are finite. -/
theorem algebraic : Cert.algebraic_Kernel5Ideal_Reference5Ideal_pre_finite_after_da := by
  intro m ρ m' ρ' hpre hag
  refine ⟨fun c => (dats m 0 c).arrAt 8 Cert.Kernel5Ideal.cfg0.N, Cert.Kernel5Ideal.Value.run_blocks m ρ,
    (θ_run _ _ _).mono (fun _ h c => ⟨(h c).1.trans ?_, (h c).2⟩) (Cert.Reference5Ideal.Value.run m' ρ')⟩
  obtain ⟨h0, h1, h2, h3, h4, h5, h6, h7⟩ := hag c
  obtain ⟨r0, r1, r2, r3, r4, r5⟩ := reals _ _ _ _ _ _ _ _ (hpre c)
  refine Eq.trans ?_ (arr_eq m c).symm
  rw [Cert.Reference5Ideal.Read.val_main_v40_eq, h0, h1, h2, h3, h4, h5, h6, h7]
  funext i
  idx_vars i
  rw [ref_apply]
  exact (row_eq _ _ _ _ _ _ _ _ (fun _ => r0 _) (fun _ => r1 _) (fun _ _ => r2 _) (fun _ => r3 _) (fun _ _ => r4 _)
    (fun _ _ => r5 _) _).symm

/-- The plain lines run, and their arguments and counters end as they began. -/
theorem frame_ref : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The same where the arguments are finite. -/
theorem frame_ref_finite : Cert.quiescent_Reference5Ideal_pre_finite_after_da := fun m ρ _ => frame_ref m ρ trivial

end Cert.XattnDa

end
-- ==== Proof.Memory.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Ffn
public import Idealize.ShloMosaic.Lib.Pipeline.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
/-! # The keys and values of the memory -/

namespace Cert.Memory

open Cert.Kernel6Ideal Cert.Kernel6Ideal.Gen
open Cert.Ffn (rms)

/-- A column of the normed memory row's product. -/
def col (x nw : Fin 1024 → EReal) (w : Fin 1024 → Fin 2048 → EReal) (j : Fin 2048) : EReal := ∑ k, rms x nw k * w k j

theorem pay1_apply (x0 : Vec Ideal S1x256x1024 .f32) (x1 : Vec Ideal S1x1x1024 .f32) (x2 : Vec Ideal S1x1024x2048 .bf16)
    (r : Fin 256) (j : Fin 2048) : k0_pay1 (F := Ideal) x0 x1 x2 (ix2 r j)
      = col (fun k => x0 (ix3 0 r k)) (fun k => x1 (ix3 0 0 k)) (fun k j => x2 (ix3 0 k j)) j := by
  pointwise [k0_pay1]
  rfl

theorem out3_apply (x0 : Vec Ideal S1x256x1024 .f32) (x1 : Vec Ideal S1x1x1024 .f32) (x2 : Vec Ideal S1x1024x2048 .bf16)
    (r : Fin 256) (j : Fin 1024) : out0_3 (F := Ideal) x0 x1 x2 (ix4 0 0 r j)
      = col (fun k => x0 (ix3 0 r k)) (fun k => x1 (ix3 0 0 k)) (fun k j => x2 (ix3 0 k j)) ⟨j.val, by omega⟩ := by
  have hz3 : (![0, 0, 0] : Fin 3 → Nat) = fun _ => 0 := funext fun a => by fin_cases a <;> rfl
  have hz4 : (![0, 0, 0, 0] : Fin 4 → Nat) = fun _ => 0 := funext fun a => by fin_cases a <;> rfl
  unfold out0_3
  rw [View.canon_unit_zero hz4]
  unfold r0_0 r0_1 r0_2 k0_pay2
  rw [View.ld_unit_zero hz3 _ x0, View.ld_unit_zero hz3 _ x1, View.ld_unit_zero hz3 _ x2]
  have h := pay1_apply x0 x1 x2 r
  generalize k0_pay1 x0 x1 x2 = p at h ⊢
  pointwise []
  exact h _

theorem out4_apply (x0 : Vec Ideal S1x256x1024 .f32) (x1 : Vec Ideal S1x1x1024 .f32) (x2 : Vec Ideal S1x1024x2048 .bf16)
    (r : Fin 256) (j : Fin 1024) : out0_4 (F := Ideal) x0 x1 x2 (ix4 0 0 r j)
      = col (fun k => x0 (ix3 0 r k)) (fun k => x1 (ix3 0 0 k)) (fun k j => x2 (ix3 0 k j)) ⟨1024 + j.val, by omega⟩ := by
  have hz3 : (![0, 0, 0] : Fin 3 → Nat) = fun _ => 0 := funext fun a => by fin_cases a <;> rfl
  have hz4 : (![0, 0, 0, 0] : Fin 4 → Nat) = fun _ => 0 := funext fun a => by fin_cases a <;> rfl
  unfold out0_4
  rw [View.canon_unit_zero hz4]
  unfold r0_0 r0_1 r0_2 k0_pay3
  rw [View.ld_unit_zero hz3 _ x0, View.ld_unit_zero hz3 _ x1, View.ld_unit_zero hz3 _ x2]
  have h := pay1_apply x0 x1 x2 r
  generalize k0_pay1 x0 x1 x2 = p at h ⊢
  pointwise []
  exact h _

variable (m : (ℓ : Loc nD τ sig) → Buf (Elt Ideal) ℓ) (c : Dev nD)

/-- One result as a function of the argument arrays: the columns from `o` on. -/
def final (o : Nat) (ho : o + 1024 ≤ 2048) (x : Vec Ideal S2x256x1024 .f32) (nw : Vec Ideal S2x1024 .f32)
    (w : Vec Ideal S2x1024x2048 .f32) (i : S2x2x256x1024.Idx) : EReal :=
  col (fun k => x (ix3 (i 1) (i 2) k)) (fun k => nw (ix2 (i 0) k)) (fun k j => w (ix3 (i 0) k j))
    ⟨o + (i 3).val, by have h : (i 3).val < 1024 := (i 3).isLt; omega⟩

/-- Where each window's block sits: one batch entry of one layer per point. -/
theorem idx : ∀ t : Fin cfg0.N, win0_0.index t = ![t.val % 2, 0, 0] ∧ win0_1.index t = ![t.val / 2, 0, 0]
    ∧ win0_2.index t = ![t.val / 2, 0, 0] ∧ win0_3.index t = ![t.val / 2, t.val % 2, 0, 0]
    ∧ win0_4.index t = ![t.val / 2, t.val % 2, 0, 0] :=
  (by decide +kernel : ∀ t : Fin grid0.N, win0_0.index t = ![t.val % 2, 0, 0] ∧ win0_1.index t = ![t.val / 2, 0, 0]
    ∧ win0_2.index t = ![t.val / 2, 0, 0] ∧ win0_3.index t = ![t.val / 2, t.val % 2, 0, 0]
    ∧ win0_4.index t = ![t.val / 2, t.val % 2, 0, 0])

theorem blk0 (t : Fin cfg0.N) (r : Fin 256) (k : Fin 1024) (hb : t.val % 2 < 2) :
    iblk m c 0 t (ix3 0 r k) = m ((c : Thread nD τ).loc main_arg0) (ix3 ⟨t.val % 2, hb⟩ r k) := by
  blk_ext! [iblk, V, idx t]
theorem blk1 (t : Fin cfg0.N) (k : Fin 1024) (hl : t.val / 2 < 2) :
    iblk m c 1 t (ix3 0 0 k) = m ((c : Thread nD τ).loc main_arg1) (ix2 ⟨t.val / 2, hl⟩ k) := by
  blk_ext! [iblk, V, idx t]
theorem blk2 (t : Fin cfg0.N) (k : Fin 1024) (j : Fin 2048) (hl : t.val / 2 < 2) :
    iblk m c 2 t (ix3 0 k j) = m ((c : Thread nD τ).loc main_arg2) (ix3 ⟨t.val / 2, hl⟩ k j) := by
  blk_ext! [iblk, V, idx t]

/-- The kernel's keys after the run. -/
theorem arr3_eq : (dats m 0 c).arrAt 3 cfg0.N = final 0 (by omega) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  idx_vars y
  obtain rfl : y0 = 0 := Subsingleton.elim (α := Fin 1) y0 0
  obtain rfl : y1 = 0 := Subsingleton.elim (α := Fin 1) y1 0
  have hN : cfg0.grid.N = 4 := by decide +kernel
  have h4 := (t.isLt).trans_eq hN
  have hl : t.val / 2 < 2 := by omega
  have hb : t.val % 2 < 2 := by omega
  have e : ((View.whole main_v2_0).slice (win0_3.rect t)).emb (ix4 0 0 y2 y3)
      = ix4 (⟨t.val / 2, hl⟩ : Fin 2) (⟨t.val % 2, hb⟩ : Fin 2) y2 y3 := by
    blk_ext [idx t]
  refine (out3_apply _ _ _ y2 y3).trans ?_
  rw [e]
  unfold final
  simp only [blk0 m c t _ _ hb, blk1 m c t _ hl, blk2 m c t _ _ hl]
  exact congrArg _ (Fin.ext (Nat.zero_add _).symm)

/-- The kernel's values after the run. -/
theorem arr4_eq : (dats m 0 c).arrAt 4 cfg0.N = final 1024 (by omega) (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  idx_vars y
  obtain rfl : y0 = 0 := Subsingleton.elim (α := Fin 1) y0 0
  obtain rfl : y1 = 0 := Subsingleton.elim (α := Fin 1) y1 0
  have hN : cfg0.grid.N = 4 := by decide +kernel
  have h4 := (t.isLt).trans_eq hN
  have hl : t.val / 2 < 2 := by omega
  have hb : t.val % 2 < 2 := by omega
  have e : ((View.whole main_v2_1).slice (win0_4.rect t)).emb (ix4 0 0 y2 y3)
      = ix4 (⟨t.val / 2, hl⟩ : Fin 2) (⟨t.val % 2, hb⟩ : Fin 2) y2 y3 := by
    blk_ext [idx t]
  refine (out4_apply _ _ _ y2 y3).trans ?_
  rw [e]
  unfold final
  simp only [blk0 m c t _ _ hb, blk1 m c t _ hl, blk2 m c t _ _ hl]
  rfl

end Cert.Memory

/-! ## The reference, read at an index -/

namespace Cert.Memory

open Cert.Reference6Ideal Cert.Reference6Ideal.Gen Cert.Reference6Ideal.Read Cert.Kernel6Ideal.Gen
open Cert.Ffn (rms)

theorem layer0_apply (x : Vec Ideal S2x256x1024 .f32) (nw : Vec Ideal S2x1024 .f32) (w : Vec Ideal S2x1024x2048 .f32)
    (b : Fin 2) (r : Fin 256) (j : Fin 2048) : val_main_v17 (F := Ideal) x nw w (ix3 b r j)
      = col (fun k => x (ix3 b r k)) (fun k => nw (ix2 0 k)) (fun k j => w (ix3 0 k j)) j := by
  pointwise [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  rfl

theorem layer1_apply (x : Vec Ideal S2x256x1024 .f32) (nw : Vec Ideal S2x1024 .f32) (w : Vec Ideal S2x1024x2048 .f32)
    (b : Fin 2) (r : Fin 256) (j : Fin 2048) : val_main_v35 (F := Ideal) x nw w (ix3 b r j)
      = col (fun k => x (ix3 b r k)) (fun k => nw (ix2 1 k)) (fun k j => w (ix3 1 k j)) j := by
  pointwise [val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18,
    val_main_cst_2, val_main_cst_3, val_main_cst_4]
  rfl

theorem ref3_apply (x : Vec Ideal S2x256x1024 .f32) (nw : Vec Ideal S2x1024 .f32) (w : Vec Ideal S2x1024x2048 .f32) :
    val_main_v41 (F := Ideal) x nw w = final 0 (by omega) x nw w := by
  funext i
  idx_vars i
  unfold val_main_v41 val_main_v39 val_main_v38 val_main_v37 val_main_v36
  have h0 := layer0_apply x nw w i1 i2
  have h1 := layer1_apply x nw w i1 i2
  generalize val_main_v17 (F := Ideal) x nw w = p at h0 ⊢
  generalize val_main_v35 (F := Ideal) x nw w = q at h1 ⊢
  pointwise []
  fin_cases i0
  · refine (h0 _).trans ?_
    exact congrArg _ (Fin.ext (Nat.zero_add _).symm)
  · refine (h1 _).trans ?_
    exact congrArg _ (Fin.ext (Nat.zero_add _).symm)

theorem ref4_apply (x : Vec Ideal S2x256x1024 .f32) (nw : Vec Ideal S2x1024 .f32) (w : Vec Ideal S2x1024x2048 .f32) :
    val_main_v42 (F := Ideal) x nw w = final 1024 (by omega) x nw w := by
  funext i
  idx_vars i
  unfold val_main_v42 val_main_v40 val_main_v38 val_main_v37 val_main_v36
  have h0 := layer0_apply x nw w i1 i2
  have h1 := layer1_apply x nw w i1 i2
  generalize val_main_v17 (F := Ideal) x nw w = p at h0 ⊢
  generalize val_main_v35 (F := Ideal) x nw w = q at h1 ⊢
  pointwise []
  fin_cases i0
  · exact h0 _
  · exact h1 _

/-- The kernel and the plain lines leave the same keys and values, whatever the arguments hold. -/
theorem algebraic : Cert.algebraic_Kernel6Ideal_Reference6Ideal := by
  intro m ρ m' ρ' _ hag
  refine ⟨fun c => (dats m 0 c).arrAt 3 Cert.Kernel6Ideal.cfg0.N, fun c => (dats m 0 c).arrAt 4 Cert.Kernel6Ideal.cfg0.N,
    Cert.Kernel6Ideal.Value.run_blocks m ρ,
    (θ_run _ _ _).mono (fun _ h c => ⟨(h c).1.trans ?_, (h c).2.1.trans ?_, (h c).2.2⟩) (Cert.Reference6Ideal.Value.run m' ρ')⟩
  · obtain ⟨h0, h1, h2⟩ := hag c
    refine Eq.trans ?_ (arr3_eq m c).symm
    rw [val_main_v41_eq, ref3_apply, h0, h1, h2]
  · obtain ⟨h0, h1, h2⟩ := hag c
    refine Eq.trans ?_ (arr4_eq m c).symm
    rw [val_main_v42_eq, ref4_apply, h0, h1, h2]

/-- The plain lines run, and their arguments and counters end as they began. -/
theorem frame_ref : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

end Cert.Memory

end
-- ==== Proof.SsdInGroup.lean ====
module

public import proofs.«01_k».proof.Proof.Gen.Kernel7Ideal.Frame
public import Idealize.ShloMosaic.Lib.Pipeline.Value
public import Idealize.ShloMosaic.Lib.Pipeline.CanonAppend
public import Idealize.ShloMosaic.Lib.Pipeline.ReadBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! ## Loads that find a few stores among many -/

namespace Cert.SsdIn

section Skip

variable {sig : RefSig} {κ : Kind} {sp : Space} {s : Shape} {e : EltTy} {Val : EltTy → Type} [∀ e, Nonempty (Val e)]

/-- The store before the last one does not matter to a load that does not touch it. -/
theorem readCov_skip2 (v : View sig κ sp s e) (p : View.Piece Val s e) (r : Rect s) (w : r.shape.Idx → Val e) (L : List (View.Piece Val s e))
    (B : LoadRect s) (h : LoadRect.disj r B = true) : v.readCov (p :: ⟨r, w⟩ :: L) B = v.readCov (p :: L) B := by
  rw [View.readCov_eq_canon', View.readCov_eq_canon']
  funext j
  by_cases hp : B.idx j ∈ p.1.set
  · obtain ⟨r', w'⟩ := p
    obtain ⟨x, hx⟩ : ∃ x, r'.emb x = B.idx j := r'.exists_idx_of_mem hp
    rw [← hx, View.canon_cons_emb, View.canon_cons_emb]
  · rw [View.canon_cons_of_not_mem p _ hp, View.canon_cons_of_not_mem p _ hp, View.canon_cons_of_not_mem ⟨r, w⟩ L (LoadRect.idx_not_mem_of_disj h j)]

theorem read_skip (v : View sig κ sp s e) (f : v.ty.Contents Val) (r : Rect s) (w : r.shape.Idx → Val e) (L : List (View.Piece Val s e)) (y : s.Idx)
    (h : y ∉ r.set) : v.read Val (v.writes Val f (⟨r, w⟩ :: L)) y = v.read Val (v.writes Val f L) y := by
  have hy' : y ∉ Finset.univ.map r.emb := by rwa [Rect.map_emb_univ]
  rw [View.writes_cons, View.read_slice_write_of_not_mem r _ _ _ hy']

/-- The last store does not matter to a load that does not touch it, over any contents. -/
theorem readAt_skip (v : View sig κ sp s e) (f : v.ty.Contents Val) (r : Rect s) (w : r.shape.Idx → Val e) (L : List (View.Piece Val s e))
    (B : LoadRect s) (h : LoadRect.disj r B = true) :
    v.readAt Val B (v.writes Val f (⟨r, w⟩ :: L)) = v.readAt Val B (v.writes Val f L) :=
  funext fun j => read_skip v f r w L _ (LoadRect.idx_not_mem_of_disj h j)

theorem readAt_skip2 (v : View sig κ sp s e) (f : v.ty.Contents Val) (p : View.Piece Val s e) (r : Rect s) (w : r.shape.Idx → Val e)
    (L : List (View.Piece Val s e)) (B : LoadRect s) (h : LoadRect.disj r B = true) :
    v.readAt Val B (v.writes Val f (p :: ⟨r, w⟩ :: L)) = v.readAt Val B (v.writes Val f (p :: L)) := by
  funext j
  show v.read Val (v.writes Val f (p :: ⟨r, w⟩ :: L)) (B.idx j) = v.read Val (v.writes Val f (p :: L)) (B.idx j)
  by_cases hp : B.idx j ∈ p.1.set
  · obtain ⟨r', w'⟩ := p
    obtain ⟨x, hx⟩ : ∃ x, r'.emb x = B.idx j := r'.exists_idx_of_mem hp
    rw [← hx, View.read_writes_cons_emb, View.read_writes_cons_emb]
  · obtain ⟨r', w'⟩ := p
    rw [read_skip v f r' w' _ _ hp, read_skip v f r' w' _ _ hp, read_skip v f r w _ _ (LoadRect.idx_not_mem_of_disj h j)]

/-- One store over a whole buffer's contents. -/
theorem read_one (m : Memref sig κ sp s e) (h : m.IsWhole) (X : s.Idx → Val e) (p : View.Piece Val s e) :
    m.view.read Val (m.view.writes Val (h.unread X) [p]) = p.1.overlay X p.2 := by
  funext y
  obtain ⟨r, w⟩ := p
  by_cases hp : y ∈ r.set
  · obtain ⟨x, rfl⟩ : ∃ x, r.emb x = y := r.exists_idx_of_mem hp
    rw [View.read_writes_cons_emb]
    exact (r.overlay_emb _ _ x).symm
  · rw [read_skip m.view _ r w _ _ hp]
    refine Eq.trans ?_ (r.overlay_of_not_mem _ _ hp).symm
    exact congrFun (h.read_unread X) y

end Skip

/-! ## One tile, column group by column group -/

open Cert.Kernel7Ideal Cert.Kernel7Ideal.Gen

theorem inb_u : ∀ q : Fin 8, ∀ a, (![8, 512 * q.val] : Fin 2 → Nat) a + S512x512.size a ≤ S520x4096.size a := by decide
theorem inb_w : ∀ q : Fin 8, ∀ a, (![0, 2048 + 512 * q.val] : Fin 2 → Nat) a + S1024x512.size a ≤ S1024x6176.size a := by decide
theorem inb_wz : ∀ q : Fin 8, ∀ a, (![0, 256 * q.val] : Fin 2 → Nat) a + S1024x256.size a ≤ S1024x6176.size a := by decide
theorem inb_z : ∀ q : Fin 8, ∀ a, (![0, 0, 256 * q.val] : Fin 3 → Nat) a + S1x512x256.size a ≤ S1x512x2048.size a := by decide
theorem inb_ld : ∀ (o : Fin 4) (g : Fin 32), ∀ a, (![5 + o.val, 128 * g.val] : Fin 2 → Nat) a + S512x128.size a ≤ S520x4096.size a := by decide
theorem inb_end : ∀ g : Fin 32, ∀ a, (![512, 128 * g.val] : Fin 2 → Nat) a + S8x128.size a ≤ S520x4096.size a := by decide
theorem inb_tail : ∀ g : Fin 32, ∀ a, (![0, 128 * g.val] : Fin 2 → Nat) a + S8x128.size a ≤ S520x4096.size a := by decide
theorem inb_cw : ∀ g : Fin 32, ∀ a, (![0, 128 * g.val] : Fin 2 → Nat) a + S4x128.size a ≤ S4x4096.size a := by decide
theorem inb_cb : ∀ g : Fin 32, ∀ a, (![0, 128 * g.val] : Fin 2 → Nat) a + S1x128.size a ≤ S1x4096.size a := by decide
theorem inb_x : ∀ g : Fin 16, ∀ a, (![0, 0, 128 * g.val] : Fin 3 → Nat) a + S1x512x128.size a ≤ S1x512x2048.size a := by decide
theorem inb_b : ∀ g : Fin 8, ∀ a, (![0, 0, 128 * g.val] : Fin 3 → Nat) a + S1x512x128.size a ≤ S1x512x1024.size a := by decide

/-- The projected columns that one step stores. -/
def chunkP (q : Fin 8) (x0 : Vec Ideal S1x512x1024 .f32) (x1 : Vec Ideal S1x1024 .f32) (x2 : Vec Ideal S1024x6176 .bf16) :
    View.Piece (Elt Ideal) S520x4096 .f32 :=
  ⟨Rect.unit ![8, 512 * q.val] S512x512.size (inb_u q),
    k0_pay8 (k0_pay2 x0 x1) (View.ld x2 (Rect.unit ![0, 2048 + 512 * q.val] S1024x512.size (inb_w q)))⟩

/-- The gate's columns that one step stores. -/
def gateP (q : Fin 8) (x0 : Vec Ideal S1x512x1024 .f32) (x1 : Vec Ideal S1x1024 .f32) (x2 : Vec Ideal S1024x6176 .bf16) :
    View.Piece (Elt Ideal) S1x512x2048 .f32 :=
  ⟨Rect.unit ![0, 0, 256 * q.val] S1x512x256.size (inb_z q),
    k0_pay9 (k0_pay2 x0 x1) (View.ld x2 (Rect.unit ![0, 256 * q.val] S1024x256.size (inb_wz q)))⟩

/-- The step that projects a group's columns. -/
def stepOf (g : Fin 32) : Fin 8 := ⟨g.val / 4, by omega⟩

/-- What one group's loads find: its projected columns over the rows kept from before. -/
def seen (g : Fin 32) (x0 : Vec Ideal S1x512x1024 .f32) (x1 : Vec Ideal S1x1024 .f32) (x2 : Vec Ideal S1024x6176 .bf16)
    (base : Vec Ideal S520x4096 .f32) : Vec Ideal S520x4096 .f32 :=
  (chunkP (stepOf g) x0 x1 x2).1.overlay base (chunkP (stepOf g) x0 x1 x2).2

/-- The last eight rows of a group, kept for the next tile. -/
def tailP (g : Fin 32) (x0 : Vec Ideal S1x512x1024 .f32) (x1 : Vec Ideal S1x1024 .f32) (x2 : Vec Ideal S1024x6176 .bf16) :
    View.Piece (Elt Ideal) S520x4096 .f32 :=
  ⟨Rect.unit ![0, 128 * g.val] S8x128.size (inb_tail g),
    k0_pay63 (View.ld (View.canon [chunkP (stepOf g) x0 x1 x2]) (Rect.unit ![512, 128 * g.val] S8x128.size (inb_end g)))⟩

/-- One group's convolved columns. -/
def convP (g : Fin 32) (x0 : Vec Ideal S1x512x1024 .f32) (x1 : Vec Ideal S1x1024 .f32) (x2 : Vec Ideal S1024x6176 .bf16)
    (x4 : Vec Ideal S4x4096 .f32) (x5 : Vec Ideal S1x4096 .f32) (base : Vec Ideal S520x4096 .f32) : FVec Ideal S512x128 .f32 :=
  k0_pay62 (View.ld x4 (Rect.unit ![0, 128 * g.val] S4x128.size (inb_cw g))) (View.ld x5 (Rect.unit ![0, 128 * g.val] S1x128.size (inb_cb g)))
    (View.ld (View.canon [chunkP (stepOf g) x0 x1 x2]) (Rect.unit ![5 + (3 : Fin 4).val, 128 * g.val] S512x128.size (inb_ld 3 g)))
    (View.ld (seen g x0 x1 x2 base) (Rect.unit ![5 + (2 : Fin 4).val, 128 * g.val] S512x128.size (inb_ld 2 g)))
    (View.ld (seen g x0 x1 x2 base) (Rect.unit ![5 + (1 : Fin 4).val, 128 * g.val] S512x128.size (inb_ld 1 g)))
    (View.ld (seen g x0 x1 x2 base) (Rect.unit ![5 + (0 : Fin 4).val, 128 * g.val] S512x128.size (inb_ld 0 g)))

def xP (g : Fin 16) (x0 : Vec Ideal S1x512x1024 .f32) (x1 : Vec Ideal S1x1024 .f32) (x2 : Vec Ideal S1024x6176 .bf16)
    (x4 : Vec Ideal S4x4096 .f32) (x5 : Vec Ideal S1x4096 .f32) (base : Vec Ideal S520x4096 .f32) : View.Piece (Elt Ideal) S1x512x2048 .f32 :=
  ⟨Rect.unit ![0, 0, 128 * g.val] S1x512x128.size (inb_x g), k0_pay64 (convP ⟨g.val, by omega⟩ x0 x1 x2 x4 x5 base)⟩

/-- An activated group, in the narrower format. -/
def actP (a : FVec Ideal S512x128 .f32) : FVec Ideal S1x512x128 .bf16 :=
  shapeCast S1x512x128 (truncf .bf16 (mulf a (logistic a)) bitsLt_bf16_f32) shapeCasts_S512x128_S1x512x128

def bP (g : Fin 8) (x0 : Vec Ideal S1x512x1024 .f32) (x1 : Vec Ideal S1x1024 .f32) (x2 : Vec Ideal S1024x6176 .bf16)
    (x4 : Vec Ideal S4x4096 .f32) (x5 : Vec Ideal S1x4096 .f32) (base : Vec Ideal S520x4096 .f32) : View.Piece (Elt Ideal) S1x512x1024 .bf16 :=
  ⟨Rect.unit ![0, 0, 128 * g.val] S1x512x128.size (inb_b g), actP (convP ⟨16 + g.val, by omega⟩ x0 x1 x2 x4 x5 base)⟩

def cP (g : Fin 8) (x0 : Vec Ideal S1x512x1024 .f32) (x1 : Vec Ideal S1x1024 .f32) (x2 : Vec Ideal S1024x6176 .bf16)
    (x4 : Vec Ideal S4x4096 .f32) (x5 : Vec Ideal S1x4096 .f32) (base : Vec Ideal S520x4096 .f32) : View.Piece (Elt Ideal) S1x512x1024 .bf16 :=
  ⟨Rect.unit ![0, 0, 128 * g.val] S1x512x128.size (inb_b g), actP (convP ⟨24 + g.val, by omega⟩ x0 x1 x2 x4 x5 base)⟩

def listZ (x0 : Vec Ideal S1x512x1024 .f32) (x1 : Vec Ideal S1x1024 .f32) (x2 : Vec Ideal S1024x6176 .bf16) :
    List (View.Piece (Elt Ideal) S1x512x2048 .f32) :=
  [gateP 7 x0 x1 x2, gateP 6 x0 x1 x2, gateP 5 x0 x1 x2, gateP 4 x0 x1 x2, gateP 3 x0 x1 x2, gateP 2 x0 x1 x2, gateP 1 x0 x1 x2, gateP 0 x0 x1 x2]

def listX (x0 : Vec Ideal S1x512x1024 .f32) (x1 : Vec Ideal S1x1024 .f32) (x2 : Vec Ideal S1024x6176 .bf16)
    (x4 : Vec Ideal S4x4096 .f32) (x5 : Vec Ideal S1x4096 .f32) (base : Vec Ideal S520x4096 .f32) : List (View.Piece (Elt Ideal) S1x512x2048 .f32) :=
  [xP 15 x0 x1 x2 x4 x5 base, xP 14 x0 x1 x2 x4 x5 base, xP 13 x0 x1 x2 x4 x5 base, xP 12 x0 x1 x2 x4 x5 base, xP 11 x0 x1 x2 x4 x5 base, xP 10 x0 x1 x2 x4 x5 base, xP 9 x0 x1 x2 x4 x5 base, xP 8 x0 x1 x2 x4 x5 base, xP 7 x0 x1 x2 x4 x5 base, xP 6 x0 x1 x2 x4 x5 base, xP 5 x0 x1 x2 x4 x5 base, xP 4 x0 x1 x2 x4 x5 base, xP 3 x0 x1 x2 x4 x5 base, xP 2 x0 x1 x2 x4 x5 base, xP 1 x0 x1 x2 x4 x5 base, xP 0 x0 x1 x2 x4 x5 base]

def listB (x0 : Vec Ideal S1x512x1024 .f32) (x1 : Vec Ideal S1x1024 .f32) (x2 : Vec Ideal S1024x6176 .bf16)
    (x4 : Vec Ideal S4x4096 .f32) (x5 : Vec Ideal S1x4096 .f32) (base : Vec Ideal S520x4096 .f32) : List (View.Piece (Elt Ideal) S1x512x1024 .bf16) :=
  [bP 7 x0 x1 x2 x4 x5 base, bP 6 x0 x1 x2 x4 x5 base, bP 5 x0 x1 x2 x4 x5 base, bP 4 x0 x1 x2 x4 x5 base, bP 3 x0 x1 x2 x4 x5 base, bP 2 x0 x1 x2 x4 x5 base, bP 1 x0 x1 x2 x4 x5 base, bP 0 x0 x1 x2 x4 x5 base]

def listC (x0 : Vec Ideal S1x512x1024 .f32) (x1 : Vec Ideal S1x1024 .f32) (x2 : Vec Ideal S1024x6176 .bf16)
    (x4 : Vec Ideal S4x4096 .f32) (x5 : Vec Ideal S1x4096 .f32) (base : Vec Ideal S520x4096 .f32) : List (View.Piece (Elt Ideal) S1x512x1024 .bf16) :=
  [cP 7 x0 x1 x2 x4 x5 base, cP 6 x0 x1 x2 x4 x5 base, cP 5 x0 x1 x2 x4 x5 base, cP 4 x0 x1 x2 x4 x5 base, cP 3 x0 x1 x2 x4 x5 base, cP 2 x0 x1 x2 x4 x5 base, cP 1 x0 x1 x2 x4 x5 base, cP 0 x0 x1 x2 x4 x5 base]

def listU (x0 : Vec Ideal S1x512x1024 .f32) (x1 : Vec Ideal S1x1024 .f32) (x2 : Vec Ideal S1024x6176 .bf16) :
    List (View.Piece (Elt Ideal) S520x4096 .f32) :=
  [tailP 31 x0 x1 x2, tailP 30 x0 x1 x2, tailP 29 x0 x1 x2, tailP 28 x0 x1 x2, tailP 27 x0 x1 x2,
    tailP 26 x0 x1 x2, tailP 25 x0 x1 x2, tailP 24 x0 x1 x2, chunkP 7 x0 x1 x2, tailP 23 x0 x1 x2,
    tailP 22 x0 x1 x2, tailP 21 x0 x1 x2, tailP 20 x0 x1 x2, chunkP 6 x0 x1 x2, tailP 19 x0 x1 x2,
    tailP 18 x0 x1 x2, tailP 17 x0 x1 x2, tailP 16 x0 x1 x2, chunkP 5 x0 x1 x2, tailP 15 x0 x1 x2,
    tailP 14 x0 x1 x2, tailP 13 x0 x1 x2, tailP 12 x0 x1 x2, chunkP 4 x0 x1 x2, tailP 11 x0 x1 x2,
    tailP 10 x0 x1 x2, tailP 9 x0 x1 x2, tailP 8 x0 x1 x2, chunkP 3 x0 x1 x2, tailP 7 x0 x1 x2,
    tailP 6 x0 x1 x2, tailP 5 x0 x1 x2, tailP 4 x0 x1 x2, chunkP 2 x0 x1 x2, tailP 3 x0 x1 x2,
    tailP 2 x0 x1 x2, tailP 1 x0 x1 x2, tailP 0 x0 x1 x2, chunkP 1 x0 x1 x2, chunkP 0 x0 x1 x2]

/-- The eight zero rows that begin a batch entry. -/
def zeroP : View.Piece (Elt Ideal) S520x4096 .f32 := ⟨Rect.unit ![0, 0] S8x4096.size inb_S520x4096_S8x4096_0_0, k0_pay1 (F := Ideal)⟩

/-- The step widths of one tile. -/
def dtP (x0 : Vec Ideal S1x512x1024 .f32) (x1 : Vec Ideal S1x1024 .f32) (x3 : Vec Ideal S1024x128 .bf16) (x6 : Vec Ideal S1x128 .f32) :
    FVec Ideal S1x512x128 .f32 :=
  k0_pay7 (k0_pay4 (k0_pay2 x0 x1) x3 x6) (k0_pay5 (k0_pay2 x0 x1) x3 x6) k0_pay6

end Cert.SsdIn

end
-- ==== Proof.SsdInRef.lean ====
module

public import proofs.«01_k».proof.Defs
public import proofs.«01_k».proof.Proof.Gen.Reference7Ideal.Run
public import proofs.«01_k».proof.Proof.Gen.Reference7Ideal.Read
public import proofs.«01_k».proof.Proof.Ffn
public import Idealize.ShloMosaic.Lib.Pipeline.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
/-! # The scan's input projection, and its plain lines read at an index -/

namespace Cert.SsdIn

open Cert.Ffn (rms)

/-- A column of the normed row's product. -/
def projE (x nw : Fin 1024 → EReal) (w : Fin 1024 → Fin 6176 → EReal) (j : Fin 6176) : EReal := ∑ k, rms x nw k * w k j

/-- The projected columns of one batch entry with eight zero rows before them: row `n` of that array. -/
def padE (x : Fin 8192 → Fin 1024 → EReal) (nw : Fin 1024 → EReal) (w : Fin 1024 → Fin 6176 → EReal) (n : ℕ) (j : Fin 4096) : EReal :=
  if h : 8 ≤ n ∧ n < 8200 then projE (x ⟨n - 8, by omega⟩) nw w ⟨2048 + j.val, by omega⟩ else 0

/-- The convolution's four taps and its bias, in the kernel's order. -/
def convE (u : ℕ → EReal) (w : Fin 4 → EReal) (b : EReal) : EReal := b + u 8 * w 3 + u 7 * w 2 + u 6 * w 1 + u 5 * w 0

def siluE (x : EReal) : EReal := x * Ideal.logistic x

def softplusE (x : EReal) : EReal := max x 0 + Ideal.log (1 + Ideal.exp (0 - max x (-x)))

/-- One activated column of the convolved projection. -/
def actE (x : Fin 8192 → Fin 1024 → EReal) (nw : Fin 1024 → EReal) (w : Fin 1024 → Fin 6176 → EReal) (cw : Fin 4 → Fin 4096 → EReal)
    (cb : Fin 4096 → EReal) (t : ℕ) (j : Fin 4096) : EReal :=
  siluE (convE (fun k => padE x nw w (t + k) j) (fun k => cw k j) (cb j))

/-- One step width, over 128 lanes. -/
def stepE (x nw : Fin 1024 → EReal) (w : Fin 1024 → Fin 6176 → EReal) (bias : Fin 32 → EReal) (l : Fin 128) : EReal :=
  softplusE ((if h : l.val < 32 then projE x nw w ⟨6144 + l.val, by omega⟩ else 0) + if h : l.val < 32 then bias ⟨l.val, h⟩ else 0)

end Cert.SsdIn

namespace Cert.SsdIn

open Cert.Reference7Ideal Cert.Reference7Ideal.Gen Cert.Reference7Ideal.Read
open Cert.Ffn (rms)

theorem taps (w0 w1 w2 w3 a5 a6 a7 a8 b : EReal) :
    w0 * a5 + w1 * a6 + w2 * a7 + w3 * a8 + b = b + a8 * w3 + a7 * w2 + a6 * w1 + a5 * w0 := by
  rw [mul_comm w0, mul_comm w1, mul_comm w2, mul_comm w3]
  abel

theorem plus_form (y : EReal) : max y 0 + Ideal.log1p (Ideal.exp (-max (y - 0) (-(y - 0))))
    = max y 0 + Ideal.log (1 + Ideal.exp (0 - max y (-y))) := by
  rw [sub_zero, zero_sub]
  rfl

variable (x0 : Vec Ideal S2x8192x1024 .f32) (x1 : Vec Ideal S1024 .f32) (x2 : Vec Ideal S1024x6176 .f32)
  (x3 : Vec Ideal S4x4096 .f32) (x4 : Vec Ideal S4096 .f32) (x5 : Vec Ideal S32 .f32)

theorem v13_apply (b : Fin 2) (t : Fin 8192) (j : Fin 6176) : val_main_v13 (F := Ideal) x0 x1 x2 (ix3 b t j)
    = projE (fun k => x0 (ix3 b t k)) (fun k => x1 (ix1 k)) (fun k j => x2 (ix2 k j)) j := by
  pointwise [val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  rfl

theorem v14_apply (b : Fin 2) (t : Fin 8192) (j : Fin 2048) : val_main_v14 (F := Ideal) x0 x1 x2 (ix3 b t j)
    = projE (fun k => x0 (ix3 b t k)) (fun k => x1 (ix1 k)) (fun k j => x2 (ix2 k j)) ⟨j.val, by omega⟩ := by
  unfold val_main_v14
  have h := v13_apply x0 x1 x2 b t
  generalize val_main_v13 (F := Ideal) x0 x1 x2 = p at h ⊢
  pointwise []
  exact h _

theorem v17_apply (b : Fin 2) (s : Fin 8195) (j : Fin 4096) : val_main_v17 (F := Ideal) x0 x1 x2 (ix3 b s j)
    = padE (fun t k => x0 (ix3 b t k)) (fun k => x1 (ix1 k)) (fun k j => x2 (ix2 k j)) (s.val + 5) j := by
  unfold val_main_v17 val_main_v15
  have h := v13_apply x0 x1 x2 b
  generalize val_main_v13 (F := Ideal) x0 x1 x2 = p at h ⊢
  pointwise [val_main_call0_v0]
  unfold padE
  by_cases h3 : 3 ≤ s.val
  · rw [dif_pos ⟨h3, by omega⟩, dif_pos (show 8 ≤ s.val + 5 ∧ s.val + 5 < 8200 from ⟨by omega, by omega⟩)]
    refine (h _ _).trans ?_
    exact congrArg (fun q => projE (fun k => x0 (ix3 b q k)) (fun k => x1 (ix1 k)) (fun k j => x2 (ix2 k j)) ⟨2048 + j.val, by omega⟩)
      (Fin.ext (by show s.val - 3 = s.val + 5 - 8; omega))
  · rw [dif_neg (fun q => h3 q.1), dif_neg (fun q => h3 (by omega))]
    show (((0#32).toInt : ℝ) : EReal) = 0
    simp

theorem v47_apply (b : Fin 2) (t : Fin 8192) (j : Fin 4096) : val_main_v47 (F := Ideal) x0 x1 x2 x3 x4 (ix3 b t j)
    = convE (fun k => padE (fun t k => x0 (ix3 b t k)) (fun k => x1 (ix1 k)) (fun k j => x2 (ix2 k j)) (t.val + k) j)
      (fun k => x3 (ix2 k j)) (x4 (ix1 j)) := by
  unfold val_main_v47 val_main_v44 val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26 val_main_v25
    val_main_v24 val_main_v23 val_main_v22 val_main_v21 val_main_v20 val_main_v19 val_main_v18
  have h := v17_apply x0 x1 x2 b
  generalize val_main_v17 (F := Ideal) x0 x1 x2 = p at h ⊢
  pointwise [val_main_v46, val_main_v45]
  rw [h, h, h, h]
  unfold convE
  show x3 (ix2 0 j) * padE _ _ _ (t.val + 5) j + x3 (ix2 1 j) * padE _ _ _ (1 + t.val + 5) j + x3 (ix2 2 j) * padE _ _ _ (2 + t.val + 5) j
    + x3 (ix2 3 j) * padE _ _ _ (3 + t.val + 5) j + x4 (ix1 j)
    = x4 (ix1 j) + padE _ _ _ (t.val + 8) j * x3 (ix2 3 j) + padE _ _ _ (t.val + 7) j * x3 (ix2 2 j) + padE _ _ _ (t.val + 6) j * x3 (ix2 1 j)
      + padE _ _ _ (t.val + 5) j * x3 (ix2 0 j)
  rw [show 1 + t.val + 5 = t.val + 6 by omega, show 2 + t.val + 5 = t.val + 7 by omega, show 3 + t.val + 5 = t.val + 8 by omega]
  exact taps _ _ _ _ _ _ _ _ _

theorem v48_apply (b : Fin 2) (t : Fin 8192) (j : Fin 4096) : val_main_v48 (F := Ideal) x0 x1 x2 x3 x4 (ix3 b t j)
    = actE (fun t k => x0 (ix3 b t k)) (fun k => x1 (ix1 k)) (fun k j => x2 (ix2 k j)) (fun k j => x3 (ix2 k j)) (fun j => x4 (ix1 j)) t.val j := by
  unfold val_main_v48 val_main_call1_v5 val_main_call1_v4 val_main_call1_v3 val_main_call1_v2 val_main_call1_v1 val_main_call1_v0
  have h := v47_apply x0 x1 x2 x3 x4 b
  generalize val_main_v47 (F := Ideal) x0 x1 x2 x3 x4 = p at h ⊢
  pointwise [val_main_call1_cst, val_main_call1_cst_0]
  rw [h]
  rfl

theorem v57_apply (b : Fin 2) (t : Fin 8192) (l : Fin 128) : val_main_v57 (F := Ideal) x0 x1 x2 x5 (ix3 b t l)
    = stepE (fun k => x0 (ix3 b t k)) (fun k => x1 (ix1 k)) (fun k j => x2 (ix2 k j)) (fun l => x5 (ix1 l)) l := by
  unfold val_main_v57 val_main_call4_v11 val_main_call4_v10 val_main_call4_v9 val_main_call4_v8 val_main_call4_v7 val_main_call4_v6
    val_main_call4_v5 val_main_call4_v4 val_main_call4_v3 val_main_call4_v2 val_main_call4_v1 val_main_call4_v0 val_main_v56 val_main_v52 val_main_v16
  have h := v13_apply x0 x1 x2 b t
  generalize val_main_v13 (F := Ideal) x0 x1 x2 = p at h ⊢
  pointwise [val_main_v55, val_main_v54, val_main_v53, val_main_call3_v0, val_main_call2_v0]
  have e2 : FloatOps.sitofp (F := Ideal) FTy.f32 (val_main_c_2 (F := Ideal) (Shape.Idx.first h_S_)) = (0 : EReal) := by
    show (((0#32).toInt : ℝ) : EReal) = 0
    simp
  have e3 : FloatOps.sitofp (F := Ideal) FTy.f32 (val_main_c_3 (F := Ideal) (Shape.Idx.first h_S_)) = (0 : EReal) := by
    show (((0#32).toInt : ℝ) : EReal) = 0
    simp
  have e4 : val_main_call4_cst (F := Ideal) ix0 = (0 : EReal) := by
    show Ideal.ofBits FTy.f32 0#32 = 0
    exact Ideal.ofBits_zero _
  rw [if_neg (fun q => q rfl), e2, e3, e4]
  simp only [h]
  unfold stepE softplusE
  generalize (if h : l.val < 32 then projE _ _ _ _ else (0 : EReal)) + (if h : l.val < 32 then _ else (0 : EReal)) = y
  exact plus_form y

/-! ## The five results as functions of the argument arrays -/

def zArr (x0 : Vec Ideal S2x8192x1024 .f32) (x1 : Vec Ideal S1024 .f32) (x2 : Vec Ideal S1024x6176 .f32) (i : S2x8192x2048.Idx) : EReal :=
  projE (fun k => x0 (ix3 (i 0) (i 1) k)) (fun k => x1 (ix1 k)) (fun k j => x2 (ix2 k j)) ⟨(i 2).val, by
    have h : (i 2).val < 2048 := (i 2).isLt
    omega⟩

def xArr (x0 : Vec Ideal S2x8192x1024 .f32) (x1 : Vec Ideal S1024 .f32) (x2 : Vec Ideal S1024x6176 .f32)
    (x3 : Vec Ideal S4x4096 .f32) (x4 : Vec Ideal S4096 .f32)
    (i : S2x8192x2048.Idx) : EReal :=
  actE (fun t k => x0 (ix3 (i 0) t k)) (fun k => x1 (ix1 k)) (fun k j => x2 (ix2 k j)) (fun k j => x3 (ix2 k j)) (fun j => x4 (ix1 j)) (i 1).val
    ⟨(i 2).val, by
      have h : (i 2).val < 2048 := (i 2).isLt
      omega⟩

/-- The columns from `o` on. -/
def bcArr (o : ℕ) (ho : o + 1024 ≤ 4096) (x0 : Vec Ideal S2x8192x1024 .f32) (x1 : Vec Ideal S1024 .f32) (x2 : Vec Ideal S1024x6176 .f32)
    (x3 : Vec Ideal S4x4096 .f32) (x4 : Vec Ideal S4096 .f32)
    (i : S2x8192x1024.Idx) : EReal :=
  actE (fun t k => x0 (ix3 (i 0) t k)) (fun k => x1 (ix1 k)) (fun k j => x2 (ix2 k j)) (fun k j => x3 (ix2 k j)) (fun j => x4 (ix1 j)) (i 1).val
    ⟨o + (i 2).val, by
      have h : (i 2).val < 1024 := (i 2).isLt
      omega⟩

def dtArr (x0 : Vec Ideal S2x8192x1024 .f32) (x1 : Vec Ideal S1024 .f32) (x2 : Vec Ideal S1024x6176 .f32) (x5 : Vec Ideal S32 .f32)
    (i : S2x8192x128.Idx) : EReal :=
  stepE (fun k => x0 (ix3 (i 0) (i 1) k)) (fun k => x1 (ix1 k)) (fun k j => x2 (ix2 k j)) (fun l => x5 (ix1 l)) (i 2)

theorem ref14 : val_main_v14 (F := Ideal) x0 x1 x2 = zArr x0 x1 x2 := by
  funext i
  idx_vars i
  exact v14_apply x0 x1 x2 i0 i1 i2

theorem ref49 : val_main_v49 (F := Ideal) x0 x1 x2 x3 x4 = xArr x0 x1 x2 x3 x4 := by
  funext i
  idx_vars i
  unfold val_main_v49
  have h := v48_apply x0 x1 x2 x3 x4 i0 i1
  generalize val_main_v48 (F := Ideal) x0 x1 x2 x3 x4 = p at h ⊢
  pointwise []
  exact h _

theorem ref58 : val_main_v58 (F := Ideal) x0 x1 x2 x3 x4 = bcArr 2048 (by omega) x0 x1 x2 x3 x4 := by
  funext i
  idx_vars i
  unfold val_main_v58 val_main_v50
  have h := v48_apply x0 x1 x2 x3 x4 i0 i1
  generalize val_main_v48 (F := Ideal) x0 x1 x2 x3 x4 = p at h ⊢
  pointwise []
  exact h _

theorem ref59 : val_main_v59 (F := Ideal) x0 x1 x2 x3 x4 = bcArr 3072 (by omega) x0 x1 x2 x3 x4 := by
  funext i
  idx_vars i
  unfold val_main_v59 val_main_v51
  have h := v48_apply x0 x1 x2 x3 x4 i0 i1
  generalize val_main_v48 (F := Ideal) x0 x1 x2 x3 x4 = p at h ⊢
  pointwise []
  exact h _

theorem ref57 : val_main_v57 (F := Ideal) x0 x1 x2 x5 = dtArr x0 x1 x2 x5 := by
  funext i
  idx_vars i
  exact v57_apply x0 x1 x2 x5 i0 i1 i2

/-- The plain lines run, and their arguments and counters end as they began. -/
theorem frame_ref : Cert.quiescent_Reference7Ideal := fun m ρ _ =>
  (θ_run Cert.Reference7Ideal.defs _ _).mono (fun r h => ⟨fun c => (h c).2.2.2.2.2, Idealize.ShloMosaic.sem_eq_zero_of_no_sems (by decide) r.2⟩)
    (Cert.Reference7Ideal.Value.run (F := Ideal) m ρ)

end Cert.SsdIn

end
-- ==== Proof.SsdInTile.lean ====
module

public import proofs.«01_k».proof.Proof.SsdInGroup
public import proofs.«01_k».proof.Proof.SsdInRef

@[expose] public section

set_option maxRecDepth 16384

noncomputable section

open Idealize.ShloMosaic Idealize.ShloMosaic.TcCoe Idealize.SL.Sem
open Idealize.ShloMosaic.Pipeline (Dat)

/-! ## One tile's stores, read at an index -/

namespace Cert.SsdIn

open Cert.Kernel7Ideal Cert.Kernel7Ideal.Gen
open Cert.Ffn (rms)

theorem idx_unit2 {a b p q : ℕ} (o0 o1 : ℕ)
    (inb : ∀ x, (![o0, o1] : Fin 2 → ℕ) x + (⟨2, ![p, q]⟩ : Shape).size x ≤ (⟨2, ![a, b]⟩ : Shape).size x)
    (i : Fin p) (l : Fin q) (h0 : o0 + i.val < a) (h1 : o1 + l.val < b) :
    (Rect.unit (s := ⟨2, ![a, b]⟩) ![o0, o1] (⟨2, ![p, q]⟩ : Shape).size inb).idx (ix2 i l) = ix2 ⟨o0 + i.val, h0⟩ ⟨o1 + l.val, h1⟩ := by
  funext x
  refine Fin.ext ((Rect.idx_unit_val _ _ _ _ x).trans ?_)
  match x with
  | ⟨0, _⟩ => rfl
  | ⟨1, _⟩ => rfl

theorem idx_unit3 {b p q : ℕ} (o : ℕ)
    (inb : ∀ x, (![0, 0, o] : Fin 3 → ℕ) x + (⟨3, ![1, p, q]⟩ : Shape).size x ≤ (⟨3, ![1, p, b]⟩ : Shape).size x)
    (i : Fin p) (l : Fin q) (h : o + l.val < b) :
    (Rect.unit (s := ⟨3, ![1, p, b]⟩) ![0, 0, o] (⟨3, ![1, p, q]⟩ : Shape).size inb).idx (ix3 0 i l) = ix3 0 i ⟨o + l.val, h⟩ := by
  funext x
  refine Fin.ext ((Rect.idx_unit_val _ _ _ _ x).trans ?_)
  match x with
  | ⟨0, _⟩ => rfl
  | ⟨1, _⟩ => exact Nat.zero_add _
  | ⟨2, _⟩ => rfl

/-- Column `l` of group `g`. -/
def gcol (g : Fin 32) (l : Fin 128) : Fin 4096 := ⟨128 * g.val + l.val, by omega⟩

section

variable (x0 : Vec Ideal S1x512x1024 .f32) (x1 : Vec Ideal S1x1024 .f32) (x2 : Vec Ideal S1024x6176 .bf16)

/-- One row's projected column. -/
abbrev tileE (x0 : Vec Ideal S1x512x1024 .f32) (x1 : Vec Ideal S1x1024 .f32) (x2 : Vec Ideal S1024x6176 .bf16) (i : Fin 512) (j : Fin 6176) : EReal :=
  projE (fun k => x0 (ix3 0 i k)) (fun k => x1 (ix2 0 k)) (fun k j => x2 (ix2 k j)) j

theorem norm_apply (i : Fin 512) (k : Fin 1024) : k0_pay2 (F := Ideal) x0 x1 (ix2 i k)
    = rms (fun k => x0 (ix3 0 i k)) (fun k => x1 (ix2 0 k)) k := by
  pointwise [k0_pay2]
  rfl

theorem dot8_apply (n : Vec Ideal S512x1024 .bf16) (w : Vec Ideal S1024x512 .bf16) (i : Fin 512) (j : Fin 512) :
    k0_pay8 (F := Ideal) n w (ix2 i j) = ∑ k, (n (ix2 i k) * w (ix2 k j) : EReal) := by
  pointwise [k0_pay8]

theorem dot9_apply (n : Vec Ideal S512x1024 .bf16) (w : Vec Ideal S1024x256 .bf16) (i : Fin 512) (j : Fin 256) :
    k0_pay9 (F := Ideal) n w (ix3 0 i j) = ∑ k, (n (ix2 i k) * w (ix2 k j) : EReal) := by
  pointwise [k0_pay9]

theorem chunk_apply (q : Fin 8) (i : Fin 512) (l : Fin 512) : (chunkP q x0 x1 x2).2 (ix2 i l)
    = tileE x0 x1 x2 i ⟨2048 + (512 * q.val + l.val), by omega⟩ := by
  refine (dot8_apply _ _ i l).trans (Finset.sum_congr rfl fun k _ => ?_)
  rw [norm_apply]
  refine congrArg (fun v : EReal => rms (fun k => x0 (ix3 0 i k)) (fun k => x1 (ix2 0 k)) k * v) ?_
  refine congrArg x2 ((idx_unit2 (a := 1024) (b := 6176) (p := 1024) (q := 512) 0 (2048 + 512 * q.val) (inb_w q) k l (by omega) (by omega)).trans ?_)
  exact congrArg₂ ix2 (Fin.ext (Nat.zero_add _)) (Fin.ext (Nat.add_assoc _ _ _))

theorem gate_apply (q : Fin 8) (i : Fin 512) (l : Fin 256) : (gateP q x0 x1 x2).2 (ix3 0 i l)
    = tileE x0 x1 x2 i ⟨256 * q.val + l.val, by omega⟩ := by
  refine (dot9_apply _ _ i l).trans (Finset.sum_congr rfl fun k _ => ?_)
  rw [norm_apply]
  refine congrArg (fun v : EReal => rms (fun k => x0 (ix3 0 i k)) (fun k => x1 (ix2 0 k)) k * v) ?_
  refine congrArg x2 ((idx_unit2 (a := 1024) (b := 6176) (p := 1024) (q := 256) 0 (256 * q.val) (inb_wz q) k l (by omega) (by omega)).trans ?_)
  exact congrArg₂ ix2 (Fin.ext (Nat.zero_add _)) rfl

theorem chunk_emb (q : Fin 8) (i l : Fin 512) : (chunkP q x0 x1 x2).1.emb (ix2 i l) = ix2 ⟨8 + i.val, by omega⟩ ⟨512 * q.val + l.val, by omega⟩ :=
  idx_unit2 (a := 520) (b := 4096) (p := 512) (q := 512) 8 (512 * q.val) (inb_u q) i l (by omega) (by omega)

theorem tail_emb (g : Fin 32) (i : Fin 8) (l : Fin 128) :
    (Rect.unit (s := S520x4096) ![0, 128 * g.val] S8x128.size (inb_tail g)).emb (ix2 i l) = ix2 ⟨0 + i.val, by omega⟩ (gcol g l) :=
  idx_unit2 (a := 520) (b := 4096) (p := 8) (q := 128) 0 (128 * g.val) (inb_tail g) i l (by omega) (by omega)

theorem gate_emb (q : Fin 8) (i : Fin 512) (l : Fin 256) : (gateP q x0 x1 x2).1.emb (ix3 0 i l) = ix3 0 i ⟨256 * q.val + l.val, by omega⟩ :=
  idx_unit3 (b := 2048) (p := 512) (q := 256) (256 * q.val) (inb_z q) i l (by omega)

end

/-- What a tile starts from: its projected rows and the rows kept before them are rows of one array. -/
structure Tile (x0 : Vec Ideal S1x512x1024 .f32) (x1 : Vec Ideal S1x1024 .f32) (x2 : Vec Ideal S1024x6176 .bf16) (base : Vec Ideal S520x4096 .f32)
    (U : ℕ → Fin 4096 → EReal) : Prop where
  proj : ∀ (i : Fin 512) (j : Fin 4096), tileE x0 x1 x2 i ⟨2048 + j.val, by omega⟩ = U (8 + i.val) j
  old : ∀ (r : Fin 520) (j : Fin 4096), r.val < 8 → base (ix2 r j) = U r.val j

section

variable {x0 : Vec Ideal S1x512x1024 .f32} {x1 : Vec Ideal S1x1024 .f32} {x2 : Vec Ideal S1024x6176 .bf16} {base : Vec Ideal S520x4096 .f32}
  {U : ℕ → Fin 4096 → EReal}

theorem chunk_val (H : Tile x0 x1 x2 base U) (q : Fin 8) (i l : Fin 512) : (chunkP q x0 x1 x2).2 (ix2 i l)
    = U (8 + i.val) ⟨512 * q.val + l.val, by omega⟩ :=
  (chunk_apply x0 x1 x2 q i l).trans (H.proj i ⟨512 * q.val + l.val, by omega⟩)

/-- A group's column among its step's. -/
theorem step_col (g : Fin 32) (l : Fin 128) : ∃ l' : Fin 512, 512 * (stepOf g).val + l'.val = (gcol g l).val :=
  ⟨⟨128 * (g.val % 4) + l.val, by omega⟩, by
    show 512 * (g.val / 4) + (128 * (g.val % 4) + l.val) = 128 * g.val + l.val
    omega⟩

theorem own_val (H : Tile x0 x1 x2 base U) (g : Fin 32) (X : Vec Ideal S520x4096 .f32) (r : Fin 520) (hr : 8 ≤ r.val) (l : Fin 128) :
    (chunkP (stepOf g) x0 x1 x2).1.overlay X (chunkP (stepOf g) x0 x1 x2).2 (ix2 r (gcol g l)) = U r.val (gcol g l) := by
  obtain ⟨l', hl⟩ := step_col g l
  have e : (ix2 r (gcol g l) : S520x4096.Idx) = (chunkP (stepOf g) x0 x1 x2).1.emb (ix2 ⟨r.val - 8, by omega⟩ l') := by
    rw [chunk_emb]
    exact congrArg₂ ix2 (Fin.ext (by show r.val = 8 + (r.val - 8); omega)) (Fin.ext hl.symm)
  rw [e]
  refine ((chunkP (stepOf g) x0 x1 x2).1.overlay_emb _ _ _).trans ((chunk_val H _ _ _).trans ?_)
  exact congrArg₂ U (by show 8 + (r.val - 8) = r.val; omega) (Fin.ext hl)

theorem seen_val (H : Tile x0 x1 x2 base U) (g : Fin 32) (r : Fin 520) (l : Fin 128) :
    seen g x0 x1 x2 base (ix2 r (gcol g l)) = U r.val (gcol g l) := by
  by_cases hr : 8 ≤ r.val
  · exact own_val H g base r hr l
  · refine (Rect.overlay_of_not_mem _ _ _ ?_).trans (H.old r _ (by omega))
    intro hm
    have h := (Rect.mem_set_unit (inb := inb_u (stepOf g))).mp hm ⟨0, by decide⟩
    exact hr h.1

theorem canon_val (H : Tile x0 x1 x2 base U) (g : Fin 32) (r : Fin 520) (hr : 8 ≤ r.val) (l : Fin 128) :
    View.canon [chunkP (stepOf g) x0 x1 x2] (ix2 r (gcol g l)) = U r.val (gcol g l) := own_val H g _ r hr l

theorem taps_apply (w : Vec Ideal S4x128 .f32) (b : Vec Ideal S1x128 .f32) (l8 l7 l6 l5 : Vec Ideal S512x128 .f32) (i : Fin 512) (l : Fin 128) :
    k0_pay62 (F := Ideal) w b l8 l7 l6 l5 (ix2 i l)
      = (b (ix2 0 l) + l8 (ix2 i l) * w (ix2 3 l) + l7 (ix2 i l) * w (ix2 2 l) + l6 (ix2 i l) * w (ix2 1 l) + l5 (ix2 i l) * w (ix2 0 l) : EReal) := by
  pointwise [k0_pay62]

theorem conv_apply (H : Tile x0 x1 x2 base U) (x4 : Vec Ideal S4x4096 .f32) (x5 : Vec Ideal S1x4096 .f32) (g : Fin 32) (i : Fin 512) (l : Fin 128) :
    convP g x0 x1 x2 x4 x5 base (ix2 i l)
      = convE (fun k => U (i.val + k) (gcol g l)) (fun k => x4 (ix2 k (gcol g l))) (x5 (ix2 0 (gcol g l))) := by
  refine (taps_apply _ _ _ _ _ _ i l).trans ?_
  have hw : ∀ k : Fin 4, View.ld x4 (Rect.unit ![0, 128 * g.val] S4x128.size (inb_cw g)) (ix2 k l) = x4 (ix2 k (gcol g l)) := fun k =>
    congrArg x4 ((idx_unit2 (a := 4) (b := 4096) (p := 4) (q := 128) 0 (128 * g.val) (inb_cw g) k l (by omega) (by omega)).trans
      (congrArg₂ ix2 (Fin.ext (Nat.zero_add _)) rfl))
  have hb : View.ld x5 (Rect.unit ![0, 128 * g.val] S1x128.size (inb_cb g)) (ix2 0 l) = x5 (ix2 0 (gcol g l)) :=
    congrArg x5 ((idx_unit2 (a := 1) (b := 4096) (p := 1) (q := 128) 0 (128 * g.val) (inb_cb g) 0 l (by decide) (by omega)).trans
      (congrArg₂ ix2 (Fin.ext (Nat.zero_add _)) rfl))
  have hs : ∀ o : Fin 4, View.ld (seen g x0 x1 x2 base) (Rect.unit ![5 + o.val, 128 * g.val] S512x128.size (inb_ld o g)) (ix2 i l)
      = U (i.val + (5 + o.val)) (gcol g l) := fun o =>
    (congrArg (seen g x0 x1 x2 base) (idx_unit2 (a := 520) (b := 4096) (p := 512) (q := 128) (5 + o.val) (128 * g.val) (inb_ld o g) i l
      (by omega) (by omega))).trans ((seen_val H g _ l).trans (congrArg (fun n => U n (gcol g l)) (Nat.add_comm _ _)))
  have h8 : View.ld (View.canon [chunkP (stepOf g) x0 x1 x2]) (Rect.unit ![5 + (3 : Fin 4).val, 128 * g.val] S512x128.size (inb_ld 3 g)) (ix2 i l)
      = U (i.val + 8) (gcol g l) :=
    (congrArg (View.canon [chunkP (stepOf g) x0 x1 x2]) (idx_unit2 (a := 520) (b := 4096) (p := 512) (q := 128) 8 (128 * g.val) (inb_ld 3 g) i l
      (by omega) (by omega))).trans ((canon_val H g _ (by show 8 ≤ 8 + i.val; omega) l).trans (congrArg (fun n => U n (gcol g l)) (Nat.add_comm _ _)))
  rw [hw, hw, hw, hw, hb, h8, hs, hs, hs]
  rfl

theorem cast8_apply (v : Vec Ideal S8x128 .f32) (r : Fin 8) (l : Fin 128) : k0_pay63 (F := Ideal) v (ix2 r l) = v (ix2 r l) := by
  pointwise [k0_pay63]

theorem tail_apply (g : Fin 32) (X : Vec Ideal S520x4096 .f32) (r : Fin 8) (l : Fin 128) :
    k0_pay63 (F := Ideal) (View.ld X (Rect.unit ![512, 128 * g.val] S8x128.size (inb_end g))) (ix2 r l) = X (ix2 ⟨512 + r.val, by omega⟩ (gcol g l)) :=
  (cast8_apply _ r l).trans (congrArg X (idx_unit2 (a := 520) (b := 4096) (p := 8) (q := 128) 512 (128 * g.val) (inb_end g) r l (by omega) (by omega)))

/-- The kept rows of one group. -/
def tailV (g : Fin 32) (x0 : Vec Ideal S1x512x1024 .f32) (x1 : Vec Ideal S1x1024 .f32) (x2 : Vec Ideal S1024x6176 .bf16) : Vec Ideal S8x128 .f32 :=
  k0_pay63 (F := Ideal) (View.ld (View.canon [chunkP (stepOf g) x0 x1 x2]) (Rect.unit ![512, 128 * g.val] S8x128.size (inb_end g)))

theorem tail_def (g : Fin 32) : tailP g x0 x1 x2 = ⟨Rect.unit ![0, 128 * g.val] S8x128.size (inb_tail g), tailV g x0 x1 x2⟩ := rfl

theorem tailV_val (H : Tile x0 x1 x2 base U) (g : Fin 32) (r : Fin 8) (l : Fin 128) : tailV g x0 x1 x2 (ix2 r l) = U (512 + r.val) (gcol g l) := by
  have h := canon_val H g ⟨512 + r.val, by omega⟩ (by show 8 ≤ 512 + r.val; omega) l
  have e := tail_apply g (View.canon [chunkP (stepOf g) x0 x1 x2]) r l
  rw [h] at e
  exact e

theorem act64_apply (a : FVec Ideal S512x128 .f32) (i : Fin 512) (l : Fin 128) : k0_pay64 (F := Ideal) a (ix3 0 i l) = siluE (a (ix2 i l)) := by
  pointwise [k0_pay64]
  rfl

theorem act_apply (a : FVec Ideal S512x128 .f32) (i : Fin 512) (l : Fin 128) : actP a (ix3 0 i l) = siluE (a (ix2 i l)) := by
  pointwise [actP]
  rfl

theorem step_apply (x0 : Vec Ideal S1x512x1024 .f32) (x1 : Vec Ideal S1x1024 .f32) (x3 : Vec Ideal S1024x128 .bf16) (x6 : Vec Ideal S1x128 .f32)
    (i : Fin 512) (l : Fin 128) : dtP x0 x1 x3 x6 (ix3 0 i l)
      = softplusE ((∑ k, rms (fun k => x0 (ix3 0 i k)) (fun k => x1 (ix2 0 k)) k * x3 (ix2 k l)) + x6 (ix2 0 l)) := by
  unfold dtP
  have h := norm_apply x0 x1 i
  generalize k0_pay2 (F := Ideal) x0 x1 = n at h ⊢
  pointwise [k0_pay7, k0_pay6, k0_pay5, k0_pay4, k0_pay3]
  simp only [h]
  rfl

end

end Cert.SsdIn

end
-- ==== Proof.SsdInList.lean ====
module

public import proofs.«01_k».proof.Proof.SsdInTile
public import Idealize.ShloMosaic.Lib.Pipeline.CanonAppend

@[expose] public section

set_option maxRecDepth 16384

noncomputable section

open Idealize.ShloMosaic Idealize.ShloMosaic.TcCoe Idealize.SL.Sem
open Idealize.ShloMosaic.Pipeline (Dat)

/-! ## One tile's arrays, read at an index -/

namespace Cert.SsdIn

open Cert.Kernel7Ideal Cert.Kernel7Ideal.Gen

/-- An activated column over the rows `U`. -/
def actV (U : ℕ → Fin 4096 → EReal) (x4 : Vec Ideal S4x4096 .f32) (x5 : Vec Ideal S1x4096 .f32) (i : ℕ) (j : Fin 4096) : EReal :=
  siluE (convE (fun k => U (i + k) j) (fun k => x4 (ix2 k j)) (x5 (ix2 0 j)))

def gateG (x0 : Vec Ideal S1x512x1024 .f32) (x1 : Vec Ideal S1x1024 .f32) (x2 : Vec Ideal S1024x6176 .bf16) : Vec Ideal S1x512x2048 .f32 :=
  fun y => tileE x0 x1 x2 (y 1) ⟨(y 2).val, by
    have h : (y 2).val < 2048 := (y 2).isLt
    omega⟩

def colG (U : ℕ → Fin 4096 → EReal) (x4 : Vec Ideal S4x4096 .f32) (x5 : Vec Ideal S1x4096 .f32) : Vec Ideal S1x512x2048 .f32 :=
  fun y => actV U x4 x5 (y 1).val ⟨(y 2).val, by
    have h : (y 2).val < 2048 := (y 2).isLt
    omega⟩

def colH (o : ℕ) (ho : o + 1024 ≤ 4096) (U : ℕ → Fin 4096 → EReal) (x4 : Vec Ideal S4x4096 .f32) (x5 : Vec Ideal S1x4096 .f32) :
    Vec Ideal S1x512x1024 .bf16 :=
  fun y => actV U x4 x5 (y 1).val ⟨o + (y 2).val, by
    have h : (y 2).val < 1024 := (y 2).isLt
    omega⟩

section

variable {x0 : Vec Ideal S1x512x1024 .f32} {x1 : Vec Ideal S1x1024 .f32} {x2 : Vec Ideal S1024x6176 .bf16} {base : Vec Ideal S520x4096 .f32}
  {U : ℕ → Fin 4096 → EReal}

theorem listZ_apply (x0 : Vec Ideal S1x512x1024 .f32) (x1 : Vec Ideal S1x1024 .f32) (x2 : Vec Ideal S1024x6176 .bf16) (i : Fin 512) (L : Fin 2048) :
    View.canon (listZ x0 x1 x2) (ix3 0 i L) = tileE x0 x1 x2 i ⟨L.val, by omega⟩ := by
  have e : listZ x0 x1 x2 = ([7, 6, 5, 4, 3, 2, 1, 0] : List (Fin 8)).map fun q => gateP q x0 x1 x2 := rfl
  rw [e]
  refine View.canon_apply_of_pieces (gateG x0 x1 x2) _ ?_ _ ?_
  · intro p hp
    obtain ⟨g, _, rfl⟩ := List.mem_map.mp hp
    intro (y : S1x512x256.Idx)
    idx_vars y
    obtain rfl : y0 = 0 := Subsingleton.elim (α := Fin 1) y0 0
    refine (gate_apply x0 x1 x2 g y1 y2).trans ?_
    exact (congrArg (gateG x0 x1 x2) (gate_emb x0 x1 x2 g y1 y2)).symm
  · have hq : ∀ g : Fin 8, g ∈ ([7, 6, 5, 4, 3, 2, 1, 0] : List (Fin 8)) := by decide
    refine ⟨_, List.mem_map.mpr ⟨⟨L.val / 256, by omega⟩, hq _, rfl⟩, (Rect.mem_set_unit (inb := inb_z ⟨L.val / 256, by omega⟩)).mpr fun a => ?_⟩
    match a with
    | ⟨0, _⟩ => exact ⟨Nat.zero_le _, Nat.lt_succ_self 0⟩
    | ⟨1, _⟩ => exact ⟨Nat.zero_le _, by show i.val < 0 + 512; omega⟩
    | ⟨2, _⟩ => exact ⟨by show 256 * (L.val / 256) ≤ L.val; omega, by show L.val < 256 * (L.val / 256) + 256; omega⟩

theorem listX_apply (H : Tile x0 x1 x2 base U) (x4 : Vec Ideal S4x4096 .f32) (x5 : Vec Ideal S1x4096 .f32) (i : Fin 512) (L : Fin 2048) :
    View.canon (listX x0 x1 x2 x4 x5 base) (ix3 0 i L) = actV U x4 x5 i.val ⟨L.val, by omega⟩ := by
  have e : listX x0 x1 x2 x4 x5 base = ([15, 14, 13, 12, 11, 10, 9, 8, 7, 6, 5, 4, 3, 2, 1, 0] : List (Fin 16)).map fun q => xP q x0 x1 x2 x4 x5 base := rfl
  rw [e]
  refine View.canon_apply_of_pieces (colG U x4 x5) _ ?_ _ ?_
  · intro p hp
    obtain ⟨g, _, rfl⟩ := List.mem_map.mp hp
    intro (y : S1x512x128.Idx)
    idx_vars y
    obtain rfl : y0 = 0 := Subsingleton.elim (α := Fin 1) y0 0
    refine (act64_apply _ y1 y2).trans ((congrArg siluE (conv_apply H x4 x5 _ y1 y2)).trans ?_)
    exact (congrArg (colG U x4 x5) (idx_unit3 (b := 2048) (p := 512) (q := 128) (128 * g.val) (inb_x g) y1 y2 (by omega))).symm
  · have hq : ∀ g : Fin 16, g ∈ ([15, 14, 13, 12, 11, 10, 9, 8, 7, 6, 5, 4, 3, 2, 1, 0] : List (Fin 16)) := by decide
    refine ⟨_, List.mem_map.mpr ⟨⟨L.val / 128, by omega⟩, hq _, rfl⟩, (Rect.mem_set_unit (inb := inb_x ⟨L.val / 128, by omega⟩)).mpr fun a => ?_⟩
    match a with
    | ⟨0, _⟩ => exact ⟨Nat.zero_le _, Nat.lt_succ_self 0⟩
    | ⟨1, _⟩ => exact ⟨Nat.zero_le _, by show i.val < 0 + 512; omega⟩
    | ⟨2, _⟩ => exact ⟨by show 128 * (L.val / 128) ≤ L.val; omega, by show L.val < 128 * (L.val / 128) + 128; omega⟩

theorem listB_apply (H : Tile x0 x1 x2 base U) (x4 : Vec Ideal S4x4096 .f32) (x5 : Vec Ideal S1x4096 .f32) (i : Fin 512) (L : Fin 1024) :
    View.canon (listB x0 x1 x2 x4 x5 base) (ix3 0 i L) = actV U x4 x5 i.val ⟨2048 + L.val, by omega⟩ := by
  have e : listB x0 x1 x2 x4 x5 base = ([7, 6, 5, 4, 3, 2, 1, 0] : List (Fin 8)).map fun q => bP q x0 x1 x2 x4 x5 base := rfl
  rw [e]
  refine View.canon_apply_of_pieces (colH 2048 (by decide) U x4 x5) _ ?_ _ ?_
  · intro p hp
    obtain ⟨g, _, rfl⟩ := List.mem_map.mp hp
    intro (y : S1x512x128.Idx)
    idx_vars y
    obtain rfl : y0 = 0 := Subsingleton.elim (α := Fin 1) y0 0
    refine (act_apply _ y1 y2).trans ((congrArg siluE (conv_apply H x4 x5 _ y1 y2)).trans ?_)
    refine Eq.trans ?_ (congrArg (colH 2048 (by decide) U x4 x5) (idx_unit3 (b := 1024) (p := 512) (q := 128) (128 * g.val) (inb_b g) y1 y2 (by omega))).symm
    exact congrArg (actV U x4 x5 y1.val) (Fin.ext (by show 128 * (16 + g.val) + y2.val = 2048 + (128 * g.val + y2.val); omega))
  · have hq : ∀ g : Fin 8, g ∈ ([7, 6, 5, 4, 3, 2, 1, 0] : List (Fin 8)) := by decide
    refine ⟨_, List.mem_map.mpr ⟨⟨L.val / 128, by omega⟩, hq _, rfl⟩, (Rect.mem_set_unit (inb := inb_b ⟨L.val / 128, by omega⟩)).mpr fun a => ?_⟩
    match a with
    | ⟨0, _⟩ => exact ⟨Nat.zero_le _, Nat.lt_succ_self 0⟩
    | ⟨1, _⟩ => exact ⟨Nat.zero_le _, by show i.val < 0 + 512; omega⟩
    | ⟨2, _⟩ => exact ⟨by show 128 * (L.val / 128) ≤ L.val; omega, by show L.val < 128 * (L.val / 128) + 128; omega⟩

theorem listC_apply (H : Tile x0 x1 x2 base U) (x4 : Vec Ideal S4x4096 .f32) (x5 : Vec Ideal S1x4096 .f32) (i : Fin 512) (L : Fin 1024) :
    View.canon (listC x0 x1 x2 x4 x5 base) (ix3 0 i L) = actV U x4 x5 i.val ⟨3072 + L.val, by omega⟩ := by
  have e : listC x0 x1 x2 x4 x5 base = ([7, 6, 5, 4, 3, 2, 1, 0] : List (Fin 8)).map fun q => cP q x0 x1 x2 x4 x5 base := rfl
  rw [e]
  refine View.canon_apply_of_pieces (colH 3072 (by decide) U x4 x5) _ ?_ _ ?_
  · intro p hp
    obtain ⟨g, _, rfl⟩ := List.mem_map.mp hp
    intro (y : S1x512x128.Idx)
    idx_vars y
    obtain rfl : y0 = 0 := Subsingleton.elim (α := Fin 1) y0 0
    refine (act_apply _ y1 y2).trans ((congrArg siluE (conv_apply H x4 x5 _ y1 y2)).trans ?_)
    refine Eq.trans ?_ (congrArg (colH 3072 (by decide) U x4 x5) (idx_unit3 (b := 1024) (p := 512) (q := 128) (128 * g.val) (inb_b g) y1 y2 (by omega))).symm
    exact congrArg (actV U x4 x5 y1.val) (Fin.ext (by show 128 * (24 + g.val) + y2.val = 3072 + (128 * g.val + y2.val); omega))
  · have hq : ∀ g : Fin 8, g ∈ ([7, 6, 5, 4, 3, 2, 1, 0] : List (Fin 8)) := by decide
    refine ⟨_, List.mem_map.mpr ⟨⟨L.val / 128, by omega⟩, hq _, rfl⟩, (Rect.mem_set_unit (inb := inb_b ⟨L.val / 128, by omega⟩)).mpr fun a => ?_⟩
    match a with
    | ⟨0, _⟩ => exact ⟨Nat.zero_le _, Nat.lt_succ_self 0⟩
    | ⟨1, _⟩ => exact ⟨Nat.zero_le _, by show i.val < 0 + 512; omega⟩
    | ⟨2, _⟩ => exact ⟨by show 128 * (L.val / 128) ≤ L.val; omega, by show L.val < 128 * (L.val / 128) + 128; omega⟩

/-- A stored piece of the kept rows: a step's projected columns, or a group's last rows. -/
def keptP (x0 : Vec Ideal S1x512x1024 .f32) (x1 : Vec Ideal S1x1024 .f32) (x2 : Vec Ideal S1024x6176 .bf16) :
    Fin 8 ⊕ Fin 32 → View.Piece (Elt Ideal) S520x4096 .f32
  | .inl q => chunkP q x0 x1 x2
  | .inr g => ⟨Rect.unit ![0, 128 * g.val] S8x128.size (inb_tail g), tailV g x0 x1 x2⟩

def keptL : List (Fin 8 ⊕ Fin 32) :=
  [.inr 31, .inr 30, .inr 29, .inr 28, .inr 27, .inr 26, .inr 25, .inr 24, .inl 7, .inr 23, .inr 22, .inr 21, .inr 20, .inl 6,
    .inr 19, .inr 18, .inr 17, .inr 16, .inl 5, .inr 15, .inr 14, .inr 13, .inr 12, .inl 4, .inr 11, .inr 10, .inr 9, .inr 8, .inl 3,
    .inr 7, .inr 6, .inr 5, .inr 4, .inl 2, .inr 3, .inr 2, .inr 1, .inr 0, .inl 1, .inl 0]

theorem listU_def (x0 : Vec Ideal S1x512x1024 .f32) (x1 : Vec Ideal S1x1024 .f32) (x2 : Vec Ideal S1024x6176 .bf16) :
    listU x0 x1 x2 = keptL.map (keptP x0 x1 x2) := rfl

attribute [local irreducible] tailV

theorem keptL_mem : ∀ g : Fin 32, (.inr g : Fin 8 ⊕ Fin 32) ∈ keptL := by
  intro g
  fin_cases g <;> simp [keptL]

/-- What the kept rows hold after a tile. -/
def keptV (U : ℕ → Fin 4096 → EReal) (r : ℕ) (j : Fin 4096) : EReal := if r < 8 then U (512 + r) j else U r j

def keptG (U : ℕ → Fin 4096 → EReal) : Vec Ideal S520x4096 .f32 := fun y => keptV U (y 0).val (y 1)

theorem tail_agree (g : Fin 32) (T : Vec Ideal S8x128 .f32) (hT : ∀ (r : Fin 8) (l : Fin 128), T (ix2 r l) = U (512 + r.val) (gcol g l)) (y : S8x128.Idx) :
    T y = keptG U ((Rect.unit (s := S520x4096) ![0, 128 * g.val] S8x128.size (inb_tail g)).emb y) := by
  idx_vars y
  rw [hT, tail_emb]
  refine Eq.trans ?_ (if_pos (by show 0 + y0.val < 8; omega)).symm
  exact congrArg (fun n => U (512 + n) (gcol g y1)) (Nat.zero_add _).symm

theorem listU_apply (H : Tile x0 x1 x2 base U) (L' : List (View.Piece (Elt Ideal) S520x4096 .f32)) (r : Fin 520) (hr : r.val < 8) (j : Fin 4096) :
    View.canon (listU x0 x1 x2 ++ L') (ix2 r j) = U (512 + r.val) j := by
  have hc : ∃ p ∈ listU x0 x1 x2, (ix2 r j : S520x4096.Idx) ∈ p.1.set := by
    rw [listU_def]
    refine ⟨_, List.mem_map.mpr ⟨.inr ⟨j.val / 128, by omega⟩, keptL_mem _, rfl⟩, (Rect.mem_set_unit (inb := inb_tail ⟨j.val / 128, by omega⟩)).mpr fun a => ?_⟩
    match a with
    | ⟨0, _⟩ => exact ⟨Nat.zero_le _, by show r.val < 0 + 8; omega⟩
    | ⟨1, _⟩ => exact ⟨by show 128 * (j.val / 128) ≤ j.val; omega, by show j.val < 128 * (j.val / 128) + 128; omega⟩
  refine (View.canon_append_of_pieces (keptG U) L' _ ?_ _ hc).trans (if_pos hr)
  rw [listU_def]
  intro p hp
  obtain ⟨s, _, rfl⟩ := List.mem_map.mp hp
  cases s with
  | inl q =>
    intro (y : S512x512.Idx)
    idx_vars y
    refine (chunk_val H q y0 y1).trans ?_
    refine Eq.trans ?_ (congrArg (keptG U) (chunk_emb x0 x1 x2 q y0 y1)).symm
    exact (if_neg (by show ¬ 8 + y0.val < 8; omega)).symm
  | inr g =>
    exact tail_agree g (tailV g x0 x1 x2) (tailV_val H g)

theorem zero_apply (r : Fin 520) (hr : r.val < 8) (j : Fin 4096) : View.canon [zeroP] (ix2 r j) = (0 : EReal) := by
  have e : (ix2 r j : S520x4096.Idx) = zeroP.1.emb (ix2 (⟨r.val, hr⟩ : Fin 8) j) :=
    ((idx_unit2 (a := 520) (b := 4096) (p := 8) (q := 4096) 0 0 inb_S520x4096_S8x4096_0_0 ⟨r.val, hr⟩ j (by omega) (by omega)).trans
      (congrArg₂ ix2 (Fin.ext (Nat.zero_add _)) (Fin.ext (Nat.zero_add _)))).symm
  rw [e]
  refine (View.canon_cons_emb _ _ _ _).trans ?_
  have z : ∀ (a : Fin 8), k0_pay1 (F := Ideal) (ix2 a j) = 0 := fun a => by
    pointwise [k0_pay1]
  exact z _

end

end Cert.SsdIn

end
-- ==== Proof.SsdInRunA.lean ====
module

public import proofs.«01_k».proof.Proof.SsdInGroup

@[expose] public section

set_option maxRecDepth 16384
set_option maxHeartbeats 4000000

noncomputable section

open Idealize.ShloMosaic Idealize.ShloMosaic.TcCoe Idealize.SL.Sem
open Idealize.ShloMosaic.Pipeline (Dat)

/-! ## The first tile of a batch entry, store by store -/

namespace Cert.SsdIn

open Cert.Kernel7Ideal Cert.Kernel7Ideal.Gen

section Cases

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .f32) (harg9 : arg9.IsWhole) (arg10 : Memref sig .tc .vmem S1x512x2048 .f32) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S520x4096 .f32) (harg14 : arg14.IsWhole) (arg15 : Memref sig .tc .vmem S512x1024 .bf16) (harg15 : arg15.IsWhole)
  (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32)

theorem gate_A (hc0 : cond0_0 i) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (listZ x0 x1 x2) := by
  frame_open
  simp (disch := decide) only [↓ View.readCov_skip, ↓ readCov_skip2, ↓ readAt_skip, ↓ readAt_skip2]
  frame_out
  unfold listZ
  refine congrArg View.canon ((congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))))
  all_goals rfl

theorem xcol_A (hc0 : cond0_0 i) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (listX x0 x1 x2 x4 x5 (View.canon [zeroP])) := by
  frame_open
  simp (disch := decide) only [↓ View.readCov_skip, ↓ readCov_skip2, ↓ readAt_skip, ↓ readAt_skip2]
  frame_out
  simp only [View.readCov_eq_canon', read_one]
  unfold listX
  refine congrArg View.canon ((congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))))))))))))
  all_goals rfl

theorem bcol_A (hc0 : cond0_0 i) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (listB x0 x1 x2 x4 x5 (View.canon [zeroP])) := by
  frame_open
  simp (disch := decide) only [↓ View.readCov_skip, ↓ readCov_skip2, ↓ readAt_skip, ↓ readAt_skip2]
  frame_out
  simp only [View.readCov_eq_canon', read_one]
  unfold listB
  refine congrArg View.canon ((congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))))
  all_goals rfl

theorem ccol_A (hc0 : cond0_0 i) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (listC x0 x1 x2 x4 x5 (View.canon [zeroP])) := by
  frame_open
  simp (disch := decide) only [↓ View.readCov_skip, ↓ readCov_skip2, ↓ readAt_skip, ↓ readAt_skip2]
  frame_out
  simp only [View.readCov_eq_canon', read_one]
  unfold listC
  refine congrArg View.canon ((congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))))
  all_goals rfl

theorem step_A (hc0 : cond0_0 i) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = dtP x0 x1 x3 x6 := by
  frame_open
  simp (disch := decide) only [↓ View.readCov_skip, ↓ readCov_skip2, ↓ readAt_skip, ↓ readAt_skip2]
  frame_out
  rfl

theorem kept_A (hc0 : cond0_0 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (listU x0 x1 x2 ++ [zeroP]) := by
  frame_open
  simp (disch := decide) only [↓ View.readCov_skip, ↓ readCov_skip2, ↓ readAt_skip, ↓ readAt_skip2]
  frame_out
  simp only [View.readCov_eq_canon', read_one]
  unfold listU
  refine congrArg View.canon ((congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))))))))))))))))))))))))))))))))))))
  all_goals rfl

end Cases

end Cert.SsdIn

end
-- ==== Proof.SsdInRunB.lean ====
module

public import proofs.«01_k».proof.Proof.SsdInGroup

@[expose] public section

set_option maxRecDepth 16384
set_option maxHeartbeats 4000000

noncomputable section

open Idealize.ShloMosaic Idealize.ShloMosaic.TcCoe Idealize.SL.Sem
open Idealize.ShloMosaic.Pipeline (Dat)

/-! ## A later tile, store by store -/

namespace Cert.SsdIn

open Cert.Kernel7Ideal Cert.Kernel7Ideal.Gen

section Cases

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .f32) (harg9 : arg9.IsWhole) (arg10 : Memref sig .tc .vmem S1x512x2048 .f32) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S520x4096 .f32) (harg14 : arg14.IsWhole) (arg15 : Memref sig .tc .vmem S512x1024 .bf16) (harg15 : arg15.IsWhole)
  (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32)

theorem gate_B (hc0 : ¬cond0_0 i) (xs0 : Vec Ideal S520x4096 .f32) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (listZ x0 x1 x2) := by
  frame_open
  simp (disch := decide) only [↓ View.readCov_skip, ↓ readCov_skip2, ↓ readAt_skip, ↓ readAt_skip2]
  frame_out
  unfold listZ
  refine congrArg View.canon ((congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))))
  all_goals rfl

theorem xcol_B (hc0 : ¬cond0_0 i) (xs0 : Vec Ideal S520x4096 .f32) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (listX x0 x1 x2 x4 x5 xs0) := by
  frame_open
  simp (disch := decide) only [↓ View.readCov_skip, ↓ readCov_skip2, ↓ readAt_skip, ↓ readAt_skip2]
  frame_out
  simp only [View.readCov_eq_canon', read_one]
  unfold listX
  refine congrArg View.canon ((congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))))))))))))
  all_goals rfl

theorem bcol_B (hc0 : ¬cond0_0 i) (xs0 : Vec Ideal S520x4096 .f32) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (listB x0 x1 x2 x4 x5 xs0) := by
  frame_open
  simp (disch := decide) only [↓ View.readCov_skip, ↓ readCov_skip2, ↓ readAt_skip, ↓ readAt_skip2]
  frame_out
  simp only [View.readCov_eq_canon', read_one]
  unfold listB
  refine congrArg View.canon ((congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))))
  all_goals rfl

theorem ccol_B (hc0 : ¬cond0_0 i) (xs0 : Vec Ideal S520x4096 .f32) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (listC x0 x1 x2 x4 x5 xs0) := by
  frame_open
  simp (disch := decide) only [↓ View.readCov_skip, ↓ readCov_skip2, ↓ readAt_skip, ↓ readAt_skip2]
  frame_out
  simp only [View.readCov_eq_canon', read_one]
  unfold listC
  refine congrArg View.canon ((congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))))
  all_goals rfl

theorem step_B (hc0 : ¬cond0_0 i) (xs0 : Vec Ideal S520x4096 .f32) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = dtP x0 x1 x3 x6 := by
  frame_open
  simp (disch := decide) only [↓ View.readCov_skip, ↓ readCov_skip2, ↓ readAt_skip, ↓ readAt_skip2]
  frame_out
  rfl

theorem kept_B (hc0 : ¬cond0_0 i) (xs0 : Vec Ideal S520x4096 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (listU x0 x1 x2) := by
  frame_open
  simp (disch := decide) only [↓ View.readCov_skip, ↓ readCov_skip2, ↓ readAt_skip, ↓ readAt_skip2]
  frame_out
  simp only [View.readCov_eq_canon', read_one]
  unfold listU
  refine congrArg View.canon ((congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))))))))))))))))))))))))))))))))))))
  all_goals rfl

end Cases

end Cert.SsdIn

end
-- ==== Proof.SsdIn.lean ====
module

public import proofs.«01_k».proof.Proof.SsdInList
public import proofs.«01_k».proof.Proof.SsdInRunA
public import proofs.«01_k».proof.Proof.SsdInRunB
public import proofs.«01_k».proof.Proof.Gen.Kernel7Ideal.Value
public import Idealize.ShloMosaic.Lib.Pipeline.Value
public import Idealize.ShloMosaic.Lib.Pointwise
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

/-! ## The blocks and the prepared arrays -/

namespace Cert.SsdIn

open Cert.Kernel7Ideal Cert.Kernel7Ideal.Gen
open Cert.Ffn (rms)

variable (m : (ℓ : Loc nD τ sig) → Buf (Elt Ideal) ℓ) (c : Dev nD)

theorem idx : ∀ t : Fin cfg0.N, win0_0.index t = ![t.val / 16, t.val % 16, 0] ∧ win0_1.index t = ![0, 0]
    ∧ win0_2.index t = ![0, 0] ∧ win0_3.index t = ![0, 0] ∧ win0_4.index t = ![0, 0] ∧ win0_5.index t = ![0, 0] ∧ win0_6.index t = ![0, 0]
    ∧ win0_7.index t = ![t.val / 16, t.val % 16, 0] ∧ win0_8.index t = ![t.val / 16, t.val % 16, 0]
    ∧ win0_9.index t = ![t.val / 16, t.val % 16, 0] ∧ win0_10.index t = ![t.val / 16, t.val % 16, 0]
    ∧ win0_11.index t = ![t.val / 16, t.val % 16, 0] :=
  (by decide +kernel : ∀ t : Fin grid0.N, win0_0.index t = ![t.val / 16, t.val % 16, 0] ∧ win0_1.index t = ![0, 0]
    ∧ win0_2.index t = ![0, 0] ∧ win0_3.index t = ![0, 0] ∧ win0_4.index t = ![0, 0] ∧ win0_5.index t = ![0, 0] ∧ win0_6.index t = ![0, 0]
    ∧ win0_7.index t = ![t.val / 16, t.val % 16, 0] ∧ win0_8.index t = ![t.val / 16, t.val % 16, 0]
    ∧ win0_9.index t = ![t.val / 16, t.val % 16, 0] ∧ win0_10.index t = ![t.val / 16, t.val % 16, 0]
    ∧ win0_11.index t = ![t.val / 16, t.val % 16, 0])

/-- Row `i` of tile `k`. -/
def row (k : ℕ) (i : Fin 512) : Fin 8192 := ⟨(512 * k + i.val) % 8192, Nat.mod_lt _ (by decide)⟩

theorem row_val (k : ℕ) (hk : k < 16) (i : Fin 512) : (row k i).val = 512 * k + i.val := Nat.mod_eq_of_lt (by omega)

theorem blk0 (t : Fin cfg0.N) (i : Fin 512) (k : Fin 1024) (hb : t.val / 16 < 2) :
    iblk m c 0 t (ix3 0 i k) = m ((c : Thread nD τ).loc main_arg0) (ix3 ⟨t.val / 16, hb⟩ (row (t.val % 16) i) k) := by
  have h := row_val (t.val % 16) (Nat.mod_lt _ (by decide)) i
  generalize row (t.val % 16) i = q at h ⊢
  blk_ext! [iblk, V, idx t]
theorem blk1 (t : Fin cfg0.N) (k : Fin 1024) : iblk m c 1 t (ix2 0 k) = V m c main_v5 (ix2 0 k) := by
  blk_ext! [iblk, idx t]
theorem blk2 (t : Fin cfg0.N) (k : Fin 1024) (j : Fin 6176) : iblk m c 2 t (ix2 k j) = V m c main_v6 (ix2 k j) := by
  blk_ext! [iblk, idx t]
theorem blk3 (t : Fin cfg0.N) (k : Fin 1024) (l : Fin 128) : iblk m c 3 t (ix2 k l) = V m c main_v2 (ix2 k l) := by
  blk_ext! [iblk, idx t]
theorem blk4 (t : Fin cfg0.N) (k : Fin 4) (j : Fin 4096) : iblk m c 4 t (ix2 k j) = m ((c : Thread nD τ).loc main_arg3) (ix2 k j) := by
  blk_ext! [iblk, V, idx t]
theorem blk5 (t : Fin cfg0.N) (j : Fin 4096) : iblk m c 5 t (ix2 0 j) = V m c main_v7 (ix2 0 j) := by
  blk_ext! [iblk, idx t]
theorem blk6 (t : Fin cfg0.N) (l : Fin 128) : iblk m c 6 t (ix2 0 l) = V m c main_v4 (ix2 0 l) := by
  blk_ext! [iblk, idx t]

theorem prep1 (k : Fin 1024) : V m c main_v5 (ix2 0 k) = (m ((c : Thread nD τ).loc main_arg1) (ix1 k) : EReal) := by
  unfold V
  after_reads_at
theorem prep2 (k : Fin 1024) (j : Fin 6176) : V m c main_v6 (ix2 k j) = (m ((c : Thread nD τ).loc main_arg2) (ix2 k j) : EReal) := by
  unfold V
  after_reads_at
theorem prep3 (k : Fin 1024) (l : Fin 128) : V m c main_v2 (ix2 k l)
    = if h : l.val < 32 then m ((c : Thread nD τ).loc main_arg2) (ix2 k ⟨6144 + l.val, by omega⟩) else (0 : EReal) := by
  unfold V
  after_reads_at
  have e : (FloatOps.sitofp (F := Ideal) FTy.f32 0#32 : EReal) = 0 := by
    show (((0#32).toInt : ℝ) : EReal) = 0
    simp
  rw [e]
theorem prep5 (j : Fin 4096) : V m c main_v7 (ix2 0 j) = (m ((c : Thread nD τ).loc main_arg4) (ix1 j) : EReal) := by
  unfold V
  after_reads_at
theorem prep6 (l : Fin 128) : V m c main_v4 (ix2 0 l)
    = if h : l.val < 32 then m ((c : Thread nD τ).loc main_arg5) (ix1 ⟨l.val, h⟩) else (0 : EReal) := by
  unfold V
  after_reads_at
  have e : (FloatOps.sitofp (F := Ideal) FTy.f32 0#32 : EReal) = 0 := by
    show (((0#32).toInt : ℝ) : EReal) = 0
    simp
  rw [e]

/-! ## The run over the tiles -/

abbrev aX (b : Fin 2) (t : Fin 8192) (k : Fin 1024) : EReal := m ((c : Thread nD τ).loc main_arg0) (ix3 b t k)
abbrev aN (k : Fin 1024) : EReal := m ((c : Thread nD τ).loc main_arg1) (ix1 k)
abbrev aW (k : Fin 1024) (j : Fin 6176) : EReal := m ((c : Thread nD τ).loc main_arg2) (ix2 k j)
abbrev aC (k : Fin 4) (j : Fin 4096) : EReal := m ((c : Thread nD τ).loc main_arg3) (ix2 k j)
abbrev aB (j : Fin 4096) : EReal := m ((c : Thread nD τ).loc main_arg4) (ix1 j)
abbrev aD (l : Fin 32) : EReal := m ((c : Thread nD τ).loc main_arg5) (ix1 l)

/-- The rows a tile sees: the padded projected columns from the tile's first row. -/
def rowsU (b : Fin 2) (k : ℕ) (n : ℕ) (j : Fin 4096) : EReal := padE (aX m c b) (aN m c) (aW m c) (512 * k + n) j

theorem tile_col (t : Fin cfg0.N) (b : Fin 2) (hb : t.val / 16 = b.val) (i : Fin 512) (j : Fin 6176) :
    tileE (iblk m c 0 t) (iblk m c 1 t) (iblk m c 2 t) i j = projE (aX m c b (row (t.val % 16) i)) (aN m c) (aW m c) j := by
  have hb2 : t.val / 16 < 2 := by omega
  have eb : (⟨t.val / 16, hb2⟩ : Fin 2) = b := Fin.ext hb
  have e0 : (fun k => iblk m c 0 t (ix3 0 i k)) = aX m c b (row (t.val % 16) i) := funext fun k => (blk0 m c t i k hb2).trans (by rw [eb])
  have e1 : (fun k => iblk m c 1 t (ix2 0 k)) = aN m c := funext fun k => (blk1 m c t k).trans (prep1 m c k)
  have e2 : (fun (k : Fin 1024) (j : Fin 6176) => iblk m c 2 t (ix2 k j)) = aW m c :=
    funext fun k => funext fun j => (blk2 m c t k j).trans (prep2 m c k j)
  unfold tileE
  rw [e0, e1, e2]

theorem tile (t : Fin cfg0.N) (b : Fin 2) (hb : t.val / 16 = b.val) (base : Vec Ideal S520x4096 .f32)
    (hold : ∀ (r : Fin 520) (j : Fin 4096), r.val < 8 → base (ix2 r j) = rowsU m c b (t.val % 16) r.val j) :
    Tile (iblk m c 0 t) (iblk m c 1 t) (iblk m c 2 t) base (rowsU m c b (t.val % 16)) := by
  refine ⟨fun i j => (tile_col m c t b hb i _).trans ?_, hold⟩
  have hk : t.val % 16 < 16 := Nat.mod_lt _ (by decide)
  have hr := row_val (t.val % 16) hk i
  unfold rowsU padE
  rw [dif_pos (by omega)]
  exact congrArg (fun r => projE (aX m c b r) (aN m c) (aW m c) ⟨2048 + j.val, by omega⟩)
    (Fin.ext (by show (row (t.val % 16) i).val = 512 * (t.val % 16) + (8 + i.val) - 8; omega))

theorem outs_A (t : Fin cfg0.N) (h0 : t.val % 16 = 0) : outsAt0 m c t.val t.isLt
    = (View.canon (listZ (iblk m c 0 t) (iblk m c 1 t) (iblk m c 2 t)),
      View.canon (listX (iblk m c 0 t) (iblk m c 1 t) (iblk m c 2 t) (iblk m c 4 t) (iblk m c 5 t) (View.canon [zeroP])),
      View.canon (listB (iblk m c 0 t) (iblk m c 1 t) (iblk m c 2 t) (iblk m c 4 t) (iblk m c 5 t) (View.canon [zeroP])),
      View.canon (listC (iblk m c 0 t) (iblk m c 1 t) (iblk m c 2 t) (iblk m c 4 t) (iblk m c 5 t) (View.canon [zeroP])),
      dtP (iblk m c 0 t) (iblk m c 1 t) (iblk m c 3 t) (iblk m c 6 t),
      View.canon (listU (iblk m c 0 t) (iblk m c 1 t) (iblk m c 2 t) ++ [zeroP])) := by
  rw [outsAt0_A m c t h0, gate_A, xcol_A, bcol_A, ccol_A, step_A, kept_A]

theorem outs_B (t : Fin cfg0.N) (h0 : ¬t.val % 16 = 0) (st : Vec Ideal S520x4096 .f32)
    (hst : (outsAt0 m c (t.val - 1) (Nat.lt_of_le_of_lt (Nat.sub_le _ _) t.isLt)).2.2.2.2.2 = st) : outsAt0 m c t.val t.isLt
    = (View.canon (listZ (iblk m c 0 t) (iblk m c 1 t) (iblk m c 2 t)),
      View.canon (listX (iblk m c 0 t) (iblk m c 1 t) (iblk m c 2 t) (iblk m c 4 t) (iblk m c 5 t) st),
      View.canon (listB (iblk m c 0 t) (iblk m c 1 t) (iblk m c 2 t) (iblk m c 4 t) (iblk m c 5 t) st),
      View.canon (listC (iblk m c 0 t) (iblk m c 1 t) (iblk m c 2 t) (iblk m c 4 t) (iblk m c 5 t) st),
      dtP (iblk m c 0 t) (iblk m c 1 t) (iblk m c 3 t) (iblk m c 6 t),
      View.canon (listU (iblk m c 0 t) (iblk m c 1 t) (iblk m c 2 t) ++ [])) := by
  rw [outsAt0_B m c t h0, gate_B, xcol_B, bcol_B, ccol_B, step_B, kept_B, List.append_nil, hst]

theorem zero_rows (b : Fin 2) (r : Fin 520) (j : Fin 4096) (hr : r.val < 8) : View.canon [zeroP] (ix2 r j) = rowsU m c b 0 r.val j := by
  refine (zero_apply r hr j).trans ?_
  unfold rowsU padE
  rw [dif_neg (by omega)]

/-- The rows a tile leaves for the next one. -/
theorem kept_at : ∀ (n : ℕ) (hn : n < cfg0.N) (b : Fin 2) (_ : n / 16 = b.val) (r : Fin 520) (j : Fin 4096) (_ : r.val < 8),
    (outsAt0 m c n hn).2.2.2.2.2 (ix2 r j) = rowsU m c b (n % 16 + 1) r.val j := by
  have next : ∀ (b : Fin 2) (k : ℕ) (r : ℕ) (j : Fin 4096), rowsU m c b k (512 + r) j = rowsU m c b (k + 1) r j := fun b k r j => by
    unfold rowsU
    exact congrArg (fun n => padE (aX m c b) (aN m c) (aW m c) n j) (by omega)
  have first : ∀ (t : Fin cfg0.N) (b : Fin 2) (_ : t.val / 16 = b.val) (_ : t.val % 16 = 0) (r : Fin 520) (j : Fin 4096) (_ : r.val < 8),
      (outsAt0 m c t.val t.isLt).2.2.2.2.2 (ix2 r j) = rowsU m c b (t.val % 16 + 1) r.val j := fun t b hb h0 r j hr => by
    rw [outs_A m c t h0]
    dsimp only
    refine (listU_apply (tile m c t b hb (View.canon [zeroP]) ?_) _ r hr j).trans (next _ _ _ _)
    rw [h0]
    exact zero_rows m c b
  intro n
  induction n with
  | zero => exact fun hn b hb r j hr => first ⟨0, hn⟩ b hb rfl r j hr
  | succ n ih =>
    intro hn b hb r j hr
    by_cases h0 : (n + 1) % 16 = 0
    · exact first ⟨n + 1, hn⟩ b hb h0 r j hr
    · rw [outs_B m c ⟨n + 1, hn⟩ h0 _ rfl]
      dsimp only
      refine (listU_apply (tile m c ⟨n + 1, hn⟩ b hb (outsAt0 m c n (by omega)).2.2.2.2.2 ?_) _ r hr j).trans (next _ _ _ _)
      intro r j hr
      have hm : (n + 1) % 16 = n % 16 + 1 := by omega
      show _ = rowsU m c b ((n + 1) % 16) r.val j
      rw [hm]
      exact ih (by omega) b (by omega) r j hr

/-- What one point leaves, over rows that begin as the padded columns do. -/
theorem outs_at (t : Fin cfg0.N) (b : Fin 2) (hb : t.val / 16 = b.val) : ∃ (st : Vec Ideal S520x4096 .f32) (L' : List (View.Piece (Elt Ideal) S520x4096 .f32)),
    Tile (iblk m c 0 t) (iblk m c 1 t) (iblk m c 2 t) st (rowsU m c b (t.val % 16)) ∧ outsAt0 m c t.val t.isLt
    = (View.canon (listZ (iblk m c 0 t) (iblk m c 1 t) (iblk m c 2 t)),
      View.canon (listX (iblk m c 0 t) (iblk m c 1 t) (iblk m c 2 t) (iblk m c 4 t) (iblk m c 5 t) st),
      View.canon (listB (iblk m c 0 t) (iblk m c 1 t) (iblk m c 2 t) (iblk m c 4 t) (iblk m c 5 t) st),
      View.canon (listC (iblk m c 0 t) (iblk m c 1 t) (iblk m c 2 t) (iblk m c 4 t) (iblk m c 5 t) st),
      dtP (iblk m c 0 t) (iblk m c 1 t) (iblk m c 3 t) (iblk m c 6 t),
      View.canon (listU (iblk m c 0 t) (iblk m c 1 t) (iblk m c 2 t) ++ L')) := by
  by_cases h0 : t.val % 16 = 0
  · refine ⟨_, _, tile m c t b hb (View.canon [zeroP]) ?_, outs_A m c t h0⟩
    rw [h0]
    exact zero_rows m c b
  · refine ⟨_, _, tile m c t b hb (outsAt0 m c (t.val - 1) (Nat.lt_of_le_of_lt (Nat.sub_le _ _) t.isLt)).2.2.2.2.2 ?_, outs_B m c t h0 _ rfl⟩
    intro r j hr
    have hm : t.val % 16 = (t.val - 1) % 16 + 1 := by omega
    rw [hm]
    exact kept_at m c (t.val - 1) _ b (by omega) r j hr

theorem act_at (t : Fin cfg0.N) (b : Fin 2) (i : Fin 512) (j : Fin 4096) :
    actV (rowsU m c b (t.val % 16)) (iblk m c 4 t) (iblk m c 5 t) i.val j
      = actE (aX m c b) (aN m c) (aW m c) (aC m c) (aB m c) (row (t.val % 16) i).val j := by
  have hr := row_val (t.val % 16) (Nat.mod_lt _ (by decide)) i
  unfold actV actE
  rw [hr]
  have e4 : (fun k => iblk m c 4 t (ix2 k j)) = fun k => aC m c k j := funext fun k => blk4 m c t k j
  have e5 : iblk m c 5 t (ix2 0 j) = aB m c j := (blk5 m c t j).trans (prep5 m c j)
  have eu : (fun k => rowsU m c b (t.val % 16) (i.val + k) j) = fun k => padE (aX m c b) (aN m c) (aW m c) (512 * (t.val % 16) + i.val + k) j :=
    funext fun k => by
      unfold rowsU
      exact congrArg (fun n => padE (aX m c b) (aN m c) (aW m c) n j) (by omega)
  rw [e4, e5, eu]

theorem step_at (t : Fin cfg0.N) (b : Fin 2) (hb : t.val / 16 = b.val) (i : Fin 512) (l : Fin 128) :
    dtP (iblk m c 0 t) (iblk m c 1 t) (iblk m c 3 t) (iblk m c 6 t) (ix3 0 i l)
      = stepE (aX m c b (row (t.val % 16) i)) (aN m c) (aW m c) (aD m c) l := by
  have hb2 : t.val / 16 < 2 := by omega
  have eb : (⟨t.val / 16, hb2⟩ : Fin 2) = b := Fin.ext hb
  refine (step_apply _ _ _ _ i l).trans ?_
  have e0 : (fun k => iblk m c 0 t (ix3 0 i k)) = aX m c b (row (t.val % 16) i) := funext fun k => (blk0 m c t i k hb2).trans (by rw [eb])
  have e1 : (fun k => iblk m c 1 t (ix2 0 k)) = aN m c := funext fun k => (blk1 m c t k).trans (prep1 m c k)
  have e3 : ∀ k : Fin 1024, iblk m c 3 t (ix2 k l) = if h : l.val < 32 then aW m c k ⟨6144 + l.val, by omega⟩ else (0 : EReal) :=
    fun k => (blk3 m c t k l).trans (prep3 m c k l)
  have e6 : iblk m c 6 t (ix2 0 l) = if h : l.val < 32 then aD m c ⟨l.val, h⟩ else (0 : EReal) := (blk6 m c t l).trans (prep6 m c l)
  rw [e0, e1, e6]
  unfold stepE
  refine congrArg (fun s : EReal => softplusE (s + if h : l.val < 32 then aD m c ⟨l.val, h⟩ else (0 : EReal))) ?_
  by_cases h : l.val < 32
  · rw [dif_pos h]
    refine Finset.sum_congr rfl fun k _ => ?_
    rw [e3 k, dif_pos h]
  · rw [dif_neg h]
    refine (Finset.sum_congr rfl fun k _ => ?_).trans Finset.sum_const_zero
    rw [e3 k, dif_neg h, mul_zero]

end Cert.SsdIn

end
-- ==== Proof.SsdInEq.lean ====
module

public import proofs.«01_k».proof.Proof.SsdIn

@[expose] public section

set_option maxRecDepth 16384

noncomputable section

open Idealize.ShloMosaic Idealize.ShloMosaic.TcCoe Idealize.SL.Sem
open Idealize.ShloMosaic.Pipeline (Dat)

/-! ## The five results after the run -/

namespace Cert.SsdIn

open Cert.Kernel7Ideal Cert.Kernel7Ideal.Gen

variable (m : (ℓ : Loc nD τ sig) → Buf (Elt Ideal) ℓ) (c : Dev nD)

/-- The gate columns. -/
theorem arr7_eq : (dats m 0 c).arrAt 7 cfg0.N = zArr (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  idx_vars y
  obtain rfl : y0 = 0 := Subsingleton.elim (α := Fin 1) y0 0
  have hN : cfg0.grid.N = 32 := by decide +kernel
  have h4 := (t.isLt).trans_eq hN
  have hb : t.val / 16 < 2 := by omega
  have e : ((View.whole main_v8_0).slice (win0_7.rect t)).emb (ix3 0 y1 y2) = ix3 (⟨t.val / 16, hb⟩ : Fin 2) (row (t.val % 16) y1) y2 := by
    have h := row_val (t.val % 16) (Nat.mod_lt _ (by decide)) y1
    generalize row (t.val % 16) y1 = q at h ⊢
    blk_ext [idx t]
  rw [e]
  obtain ⟨st, L', H, ho⟩ := outs_at m c t ⟨t.val / 16, hb⟩ rfl
  rw [ho]
  dsimp only
  exact (listZ_apply _ _ _ y1 y2).trans (tile_col m c t _ rfl y1 _)

/-- The convolved and activated `x` columns. -/
theorem arr8_eq : (dats m 0 c).arrAt 8 cfg0.N = xArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  idx_vars y
  obtain rfl : y0 = 0 := Subsingleton.elim (α := Fin 1) y0 0
  have hN : cfg0.grid.N = 32 := by decide +kernel
  have h4 := (t.isLt).trans_eq hN
  have hb : t.val / 16 < 2 := by omega
  have e : ((View.whole main_v8_1).slice (win0_8.rect t)).emb (ix3 0 y1 y2) = ix3 (⟨t.val / 16, hb⟩ : Fin 2) (row (t.val % 16) y1) y2 := by
    have h := row_val (t.val % 16) (Nat.mod_lt _ (by decide)) y1
    generalize row (t.val % 16) y1 = q at h ⊢
    blk_ext [idx t]
  rw [e]
  obtain ⟨st, L', H, ho⟩ := outs_at m c t ⟨t.val / 16, hb⟩ rfl
  rw [ho]
  dsimp only
  exact (listX_apply H _ _ y1 y2).trans (act_at m c t _ y1 _)

/-- The `b` columns. -/
theorem arr9_eq : (dats m 0 c).arrAt 9 cfg0.N = bcArr 2048 (by omega) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  idx_vars y
  obtain rfl : y0 = 0 := Subsingleton.elim (α := Fin 1) y0 0
  have hN : cfg0.grid.N = 32 := by decide +kernel
  have h4 := (t.isLt).trans_eq hN
  have hb : t.val / 16 < 2 := by omega
  have e : ((View.whole main_v8_2).slice (win0_9.rect t)).emb (ix3 0 y1 y2) = ix3 (⟨t.val / 16, hb⟩ : Fin 2) (row (t.val % 16) y1) y2 := by
    have h := row_val (t.val % 16) (Nat.mod_lt _ (by decide)) y1
    generalize row (t.val % 16) y1 = q at h ⊢
    blk_ext [idx t]
  rw [e]
  obtain ⟨st, L', H, ho⟩ := outs_at m c t ⟨t.val / 16, hb⟩ rfl
  rw [ho]
  dsimp only
  exact (listB_apply H _ _ y1 y2).trans (act_at m c t _ y1 _)

/-- The `c` columns. -/
theorem arr10_eq : (dats m 0 c).arrAt 10 cfg0.N = bcArr 3072 (by omega) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after0_10]
  idx_vars y
  obtain rfl : y0 = 0 := Subsingleton.elim (α := Fin 1) y0 0
  have hN : cfg0.grid.N = 32 := by decide +kernel
  have h4 := (t.isLt).trans_eq hN
  have hb : t.val / 16 < 2 := by omega
  have e : ((View.whole main_v8_3).slice (win0_10.rect t)).emb (ix3 0 y1 y2) = ix3 (⟨t.val / 16, hb⟩ : Fin 2) (row (t.val % 16) y1) y2 := by
    have h := row_val (t.val % 16) (Nat.mod_lt _ (by decide)) y1
    generalize row (t.val % 16) y1 = q at h ⊢
    blk_ext [idx t]
  rw [e]
  obtain ⟨st, L', H, ho⟩ := outs_at m c t ⟨t.val / 16, hb⟩ rfl
  rw [ho]
  dsimp only
  exact (listC_apply H _ _ y1 y2).trans (act_at m c t _ y1 _)

/-- The step widths. -/
theorem arr11_eq : (dats m 0 c).arrAt 11 cfg0.N = dtArr (m ((c : Thread nD τ).loc main_arg0)) (m ((c : Thread nD τ).loc main_arg1)) (m ((c : Thread nD τ).loc main_arg2)) (m ((c : Thread nD τ).loc main_arg5)) := by
  refine (dats m 0 c).arrAt_eq_of_covers 11 _ (by decide +kernel) fun t hf y => ?_
  blk_simp
  rw [after0_11]
  idx_vars y
  obtain rfl : y0 = 0 := Subsingleton.elim (α := Fin 1) y0 0
  have hN : cfg0.grid.N = 32 := by decide +kernel
  have h4 := (t.isLt).trans_eq hN
  have hb : t.val / 16 < 2 := by omega
  have e : ((View.whole main_v8_4).slice (win0_11.rect t)).emb (ix3 0 y1 y2) = ix3 (⟨t.val / 16, hb⟩ : Fin 2) (row (t.val % 16) y1) y2 := by
    have h := row_val (t.val % 16) (Nat.mod_lt _ (by decide)) y1
    generalize row (t.val % 16) y1 = q at h ⊢
    blk_ext [idx t]
  rw [e]
  obtain ⟨st, L', H, ho⟩ := outs_at m c t ⟨t.val / 16, hb⟩ rfl
  rw [ho]
  dsimp only
  exact step_at m c t _ rfl y1 y2

end Cert.SsdIn

namespace Cert.SsdIn

open Cert.Reference7Ideal Cert.Reference7Ideal.Gen Cert.Reference7Ideal.Read Cert.Kernel7Ideal.Gen

/-- The kernel and the plain lines leave the same five arrays, whatever the arguments hold. -/
theorem algebraic : Cert.algebraic_Kernel7Ideal_Reference7Ideal := by
  intro m ρ m' ρ' _ hag
  refine ⟨fun c => (dats m 0 c).arrAt 7 Cert.Kernel7Ideal.cfg0.N, fun c => (dats m 0 c).arrAt 8 Cert.Kernel7Ideal.cfg0.N,
    fun c => (dats m 0 c).arrAt 9 Cert.Kernel7Ideal.cfg0.N, fun c => (dats m 0 c).arrAt 10 Cert.Kernel7Ideal.cfg0.N,
    fun c => (dats m 0 c).arrAt 11 Cert.Kernel7Ideal.cfg0.N,
    Cert.Kernel7Ideal.Value.run_blocks m ρ,
    (θ_run _ _ _).mono (fun _ h c => ⟨(h c).1.trans ?_, (h c).2.1.trans ?_, (h c).2.2.1.trans ?_, (h c).2.2.2.1.trans ?_, (h c).2.2.2.2.1.trans ?_,
      (h c).2.2.2.2.2⟩) (Cert.Reference7Ideal.Value.run m' ρ')⟩
  · obtain ⟨h0, h1, h2, h3, h4, h5⟩ := hag c
    refine Eq.trans ?_ (arr7_eq m c).symm
    rw [val_main_v14_eq, ref14, h0, h1, h2]
  · obtain ⟨h0, h1, h2, h3, h4, h5⟩ := hag c
    refine Eq.trans ?_ (arr8_eq m c).symm
    rw [val_main_v49_eq, ref49, h0, h1, h2, h3, h4]
  · obtain ⟨h0, h1, h2, h3, h4, h5⟩ := hag c
    refine Eq.trans ?_ (arr9_eq m c).symm
    rw [val_main_v58_eq, ref58, h0, h1, h2, h3, h4]
  · obtain ⟨h0, h1, h2, h3, h4, h5⟩ := hag c
    refine Eq.trans ?_ (arr10_eq m c).symm
    rw [val_main_v59_eq, ref59, h0, h1, h2, h3, h4]
  · obtain ⟨h0, h1, h2, h3, h4, h5⟩ := hag c
    refine Eq.trans ?_ (arr11_eq m c).symm
    rw [val_main_v57_eq, ref57, h0, h1, h2, h5]

end Cert.SsdIn

end
-- ==== Proof.DaQkvSpec.lean ====
module

public import proofs.«01_k».proof.Defs
public import proofs.«01_k».proof.Proof.Gen.Reference8Ideal.Read
public import proofs.«01_k».proof.Proof.Ffn
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The attention mixer's input projection, as plain functions -/

namespace Cert.DaQkv

open Cert.Ffn (rms)

/-- A column of the normed row's product. -/
def projE (x nw : Fin 1024 → EReal) (w : Fin 1024 → Fin 3072 → EReal) (j : Fin 3072) : EReal := ∑ k, rms x nw k * w k j

/-- The columns from `o` on of one row's product. -/
def colsE (o : ℕ) (ho : o + 1024 ≤ 3072) (x nw : Fin 1024 → EReal) (w : Fin 1024 → Fin 3072 → EReal) (j : Fin 1024) : EReal :=
  projE x nw w ⟨o + j.val, by omega⟩

/-- One lane of a row rotated: each head of 64 lanes turns its lower half against its upper half. -/
def ropeE (y : Fin 1024 → EReal) (c s : Fin 32 → EReal) (L : Fin 1024) : EReal :=
  if h : L.val % 64 < 32 then y L * c ⟨L.val % 32, by omega⟩ - y ⟨L.val + 32, by omega⟩ * s ⟨L.val % 32, by omega⟩
  else y L * c ⟨L.val % 32, by omega⟩ + y ⟨L.val - 32, by omega⟩ * s ⟨L.val % 32, by omega⟩

/-- The angles' rates. -/
def rate (i : Fin 32) : EReal := Cert.Reference8Ideal.Read.val_main_v10 (F := Ideal) (ix1 i)

def cosE (p : BitVec 32) (i : Fin 32) : EReal := Ideal.cos (((p.toInt : ℝ) : EReal) * rate i)
def sinE (p : BitVec 32) (i : Fin 32) : EReal := Ideal.sin (((p.toInt : ℝ) : EReal) * rate i)

/-- The scale of the queries. -/
def scale : EReal := Ideal.ofBits FTy.f32 1043900987#32

/-- A query lane: rotated and scaled. -/
def qryE (y : Fin 1024 → EReal) (c s : Fin 32 → EReal) (L : Fin 1024) : EReal := ropeE y c s L * scale

end Cert.DaQkv

end
-- ==== Proof.DaQkvLane.lean ====
module

public import proofs.«01_k».proof.Proof.DaQkvSpec
public import proofs.«01_k».proof.Proof.Gen.Kernel8Ideal.Value
public import Idealize.ShloMosaic.Lib.Pipeline.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The lanes of one head, turned -/

namespace Cert.DaQkv

open Cert.Kernel8Ideal Cert.Kernel8Ideal.Gen

/-- A lane of head `g`: times its cosine, plus its partner lane times its signed sine. -/
def turnE (y : Fin 1024 → EReal) (c s : EReal) (mk : BitVec 1) (g : Fin 8) (l : Fin 128) : EReal :=
  y ⟨128 * g.val + l.val, by omega⟩ * c
    + (if mk = 1#1 then y ⟨128 * g.val + (l.val + 128 - 96) % 128, by omega⟩ else y ⟨128 * g.val + (l.val + 128 - 32) % 128, by omega⟩) * s

theorem turn_of (F : Fin 1024 → EReal) (c s : EReal) (mk : BitVec 1) (g : Fin 8) (l : Fin 128) (a b d : Fin 1024)
    (ha : a.val = 128 * g.val + l.val) (hb : b.val = 128 * g.val + (l.val + 128 - 96) % 128)
    (hd : d.val = 128 * g.val + (l.val + 128 - 32) % 128) : F a * c + Scalar.select mk (F b) (F d) * s = turnE F c s mk g l := by
  unfold turnE
  rw [← Fin.ext (a := a) (b := ⟨128 * g.val + l.val, by omega⟩) ha, ← Fin.ext (a := b) (b := ⟨128 * g.val + (l.val + 128 - 96) % 128, by omega⟩) hb,
    ← Fin.ext (a := d) (b := ⟨128 * g.val + (l.val + 128 - 32) % 128, by omega⟩) hd]
  rfl

variable (c s : Vec Ideal S512x128 .f32) (mk : IVec S512x128 1) (y : Vec Ideal S512x1024 .f32) (r : Fin 512) (l : Fin 128)

theorem key0_apply : k0_pay17 (F := Ideal) c s mk y (ix3 0 r l)
    = turnE (fun j => y (ix2 r j)) (c (ix2 r l)) (s (ix2 r l)) (mk (ix2 r l)) 0 l := by
  pointwise [k0_pay17]
  exact turn_of (fun j => y (ix2 r j)) _ _ _ 0 l _ _ _ (by show l.val = 128 * 0 + l.val; omega)
    (by show (l.val + 128 - 96) % 128 = 128 * 0 + (l.val + 128 - 96) % 128; omega)
    (by show (l.val + 128 - 32) % 128 = 128 * 0 + (l.val + 128 - 32) % 128; omega)

theorem key1_apply : k0_pay22 (F := Ideal) c s mk y (ix3 0 r l)
    = turnE (fun j => y (ix2 r j)) (c (ix2 r l)) (s (ix2 r l)) (mk (ix2 r l)) 1 l := by
  pointwise [k0_pay22]
  exact turn_of (fun j => y (ix2 r j)) _ _ _ 1 l _ _ _ (by show 128 + l.val = 128 * 1 + l.val; omega)
    (by show 128 + (l.val + 128 - 96) % 128 = 128 * 1 + (l.val + 128 - 96) % 128; omega)
    (by show 128 + (l.val + 128 - 32) % 128 = 128 * 1 + (l.val + 128 - 32) % 128; omega)

theorem key2_apply : k0_pay27 (F := Ideal) c s mk y (ix3 0 r l)
    = turnE (fun j => y (ix2 r j)) (c (ix2 r l)) (s (ix2 r l)) (mk (ix2 r l)) 2 l := by
  pointwise [k0_pay27]
  exact turn_of (fun j => y (ix2 r j)) _ _ _ 2 l _ _ _ (by show 256 + l.val = 128 * 2 + l.val; omega)
    (by show 256 + (l.val + 128 - 96) % 128 = 128 * 2 + (l.val + 128 - 96) % 128; omega)
    (by show 256 + (l.val + 128 - 32) % 128 = 128 * 2 + (l.val + 128 - 32) % 128; omega)

theorem key3_apply : k0_pay32 (F := Ideal) c s mk y (ix3 0 r l)
    = turnE (fun j => y (ix2 r j)) (c (ix2 r l)) (s (ix2 r l)) (mk (ix2 r l)) 3 l := by
  pointwise [k0_pay32]
  exact turn_of (fun j => y (ix2 r j)) _ _ _ 3 l _ _ _ (by show 384 + l.val = 128 * 3 + l.val; omega)
    (by show 384 + (l.val + 128 - 96) % 128 = 128 * 3 + (l.val + 128 - 96) % 128; omega)
    (by show 384 + (l.val + 128 - 32) % 128 = 128 * 3 + (l.val + 128 - 32) % 128; omega)

theorem key4_apply : k0_pay37 (F := Ideal) c s mk y (ix3 0 r l)
    = turnE (fun j => y (ix2 r j)) (c (ix2 r l)) (s (ix2 r l)) (mk (ix2 r l)) 4 l := by
  pointwise [k0_pay37]
  exact turn_of (fun j => y (ix2 r j)) _ _ _ 4 l _ _ _ (by show 512 + l.val = 128 * 4 + l.val; omega)
    (by show 512 + (l.val + 128 - 96) % 128 = 128 * 4 + (l.val + 128 - 96) % 128; omega)
    (by show 512 + (l.val + 128 - 32) % 128 = 128 * 4 + (l.val + 128 - 32) % 128; omega)

theorem key5_apply : k0_pay42 (F := Ideal) c s mk y (ix3 0 r l)
    = turnE (fun j => y (ix2 r j)) (c (ix2 r l)) (s (ix2 r l)) (mk (ix2 r l)) 5 l := by
  pointwise [k0_pay42]
  exact turn_of (fun j => y (ix2 r j)) _ _ _ 5 l _ _ _ (by show 640 + l.val = 128 * 5 + l.val; omega)
    (by show 640 + (l.val + 128 - 96) % 128 = 128 * 5 + (l.val + 128 - 96) % 128; omega)
    (by show 640 + (l.val + 128 - 32) % 128 = 128 * 5 + (l.val + 128 - 32) % 128; omega)

theorem key6_apply : k0_pay47 (F := Ideal) c s mk y (ix3 0 r l)
    = turnE (fun j => y (ix2 r j)) (c (ix2 r l)) (s (ix2 r l)) (mk (ix2 r l)) 6 l := by
  pointwise [k0_pay47]
  exact turn_of (fun j => y (ix2 r j)) _ _ _ 6 l _ _ _ (by show 768 + l.val = 128 * 6 + l.val; omega)
    (by show 768 + (l.val + 128 - 96) % 128 = 128 * 6 + (l.val + 128 - 96) % 128; omega)
    (by show 768 + (l.val + 128 - 32) % 128 = 128 * 6 + (l.val + 128 - 32) % 128; omega)

theorem key7_apply : k0_pay2 (F := Ideal) c s mk y (ix3 0 r l)
    = turnE (fun j => y (ix2 r j)) (c (ix2 r l)) (s (ix2 r l)) (mk (ix2 r l)) 7 l := by
  pointwise [k0_pay2]
  exact turn_of (fun j => y (ix2 r j)) _ _ _ 7 l _ _ _ (by show 896 + l.val = 128 * 7 + l.val; omega)
    (by show 896 + (l.val + 128 - 96) % 128 = 128 * 7 + (l.val + 128 - 96) % 128; omega)
    (by show 896 + (l.val + 128 - 32) % 128 = 128 * 7 + (l.val + 128 - 32) % 128; omega)

theorem qry0_apply (v16 : Vec Ideal S512x1024 .bf16) (v34 : BitVec 32) (v36 : IVec S512x128 32) (v38 : IVec S512x128 1)
    (v51 : Vec Ideal S1024x1024 .bf16) : k0_pay13 (F := Ideal) v16 c s v34 v36 v38 v51 (ix2 l r)
    = turnE (fun j => k0_pay11 (F := Ideal) v16 v51 (ix2 r j)) (c (ix2 r l)) (s (ix2 r l)) (k0_pay10 v34 v36 v38 (ix2 r l)) 0 l * scale := by
  unfold k0_pay13
  generalize k0_pay11 (F := Ideal) v16 v51 = y
  generalize k0_pay10 v34 v36 v38 = mk
  pointwise []
  exact congrArg (· * scale) (turn_of (fun j => y (ix2 r j)) _ _ _ 0 l _ _ _ (by show l.val = 128 * 0 + l.val; omega)
    (by show (l.val + 128 - 96) % 128 = 128 * 0 + (l.val + 128 - 96) % 128; omega)
    (by show (l.val + 128 - 32) % 128 = 128 * 0 + (l.val + 128 - 32) % 128; omega))

theorem qry1_apply : k0_pay18 (F := Ideal) c s mk y (ix2 l r)
    = turnE (fun j => y (ix2 r j)) (c (ix2 r l)) (s (ix2 r l)) (mk (ix2 r l)) 1 l * scale := by
  pointwise [k0_pay18]
  exact congrArg (· * scale) (turn_of (fun j => y (ix2 r j)) _ _ _ 1 l _ _ _ (by show 128 + l.val = 128 * 1 + l.val; omega)
    (by show 128 + (l.val + 128 - 96) % 128 = 128 * 1 + (l.val + 128 - 96) % 128; omega)
    (by show 128 + (l.val + 128 - 32) % 128 = 128 * 1 + (l.val + 128 - 32) % 128; omega))

theorem qry2_apply : k0_pay23 (F := Ideal) c s mk y (ix2 l r)
    = turnE (fun j => y (ix2 r j)) (c (ix2 r l)) (s (ix2 r l)) (mk (ix2 r l)) 2 l * scale := by
  pointwise [k0_pay23]
  exact congrArg (· * scale) (turn_of (fun j => y (ix2 r j)) _ _ _ 2 l _ _ _ (by show 256 + l.val = 128 * 2 + l.val; omega)
    (by show 256 + (l.val + 128 - 96) % 128 = 128 * 2 + (l.val + 128 - 96) % 128; omega)
    (by show 256 + (l.val + 128 - 32) % 128 = 128 * 2 + (l.val + 128 - 32) % 128; omega))

theorem qry3_apply : k0_pay28 (F := Ideal) c s mk y (ix2 l r)
    = turnE (fun j => y (ix2 r j)) (c (ix2 r l)) (s (ix2 r l)) (mk (ix2 r l)) 3 l * scale := by
  pointwise [k0_pay28]
  exact congrArg (· * scale) (turn_of (fun j => y (ix2 r j)) _ _ _ 3 l _ _ _ (by show 384 + l.val = 128 * 3 + l.val; omega)
    (by show 384 + (l.val + 128 - 96) % 128 = 128 * 3 + (l.val + 128 - 96) % 128; omega)
    (by show 384 + (l.val + 128 - 32) % 128 = 128 * 3 + (l.val + 128 - 32) % 128; omega))

theorem qry4_apply : k0_pay33 (F := Ideal) c s mk y (ix2 l r)
    = turnE (fun j => y (ix2 r j)) (c (ix2 r l)) (s (ix2 r l)) (mk (ix2 r l)) 4 l * scale := by
  pointwise [k0_pay33]
  exact congrArg (· * scale) (turn_of (fun j => y (ix2 r j)) _ _ _ 4 l _ _ _ (by show 512 + l.val = 128 * 4 + l.val; omega)
    (by show 512 + (l.val + 128 - 96) % 128 = 128 * 4 + (l.val + 128 - 96) % 128; omega)
    (by show 512 + (l.val + 128 - 32) % 128 = 128 * 4 + (l.val + 128 - 32) % 128; omega))

theorem qry5_apply : k0_pay38 (F := Ideal) c s mk y (ix2 l r)
    = turnE (fun j => y (ix2 r j)) (c (ix2 r l)) (s (ix2 r l)) (mk (ix2 r l)) 5 l * scale := by
  pointwise [k0_pay38]
  exact congrArg (· * scale) (turn_of (fun j => y (ix2 r j)) _ _ _ 5 l _ _ _ (by show 640 + l.val = 128 * 5 + l.val; omega)
    (by show 640 + (l.val + 128 - 96) % 128 = 128 * 5 + (l.val + 128 - 96) % 128; omega)
    (by show 640 + (l.val + 128 - 32) % 128 = 128 * 5 + (l.val + 128 - 32) % 128; omega))

theorem qry6_apply : k0_pay43 (F := Ideal) c s mk y (ix2 l r)
    = turnE (fun j => y (ix2 r j)) (c (ix2 r l)) (s (ix2 r l)) (mk (ix2 r l)) 6 l * scale := by
  pointwise [k0_pay43]
  exact congrArg (· * scale) (turn_of (fun j => y (ix2 r j)) _ _ _ 6 l _ _ _ (by show 768 + l.val = 128 * 6 + l.val; omega)
    (by show 768 + (l.val + 128 - 96) % 128 = 128 * 6 + (l.val + 128 - 96) % 128; omega)
    (by show 768 + (l.val + 128 - 32) % 128 = 128 * 6 + (l.val + 128 - 32) % 128; omega))

theorem qry7_apply : k0_pay48 (F := Ideal) c s mk y (ix2 l r)
    = turnE (fun j => y (ix2 r j)) (c (ix2 r l)) (s (ix2 r l)) (mk (ix2 r l)) 7 l * scale := by
  pointwise [k0_pay48]
  exact congrArg (· * scale) (turn_of (fun j => y (ix2 r j)) _ _ _ 7 l _ _ _ (by show 896 + l.val = 128 * 7 + l.val; omega)
    (by show 896 + (l.val + 128 - 96) % 128 = 128 * 7 + (l.val + 128 - 96) % 128; omega)
    (by show 896 + (l.val + 128 - 32) % 128 = 128 * 7 + (l.val + 128 - 32) % 128; omega))

/-- A masked lane. -/
def maskE (b : BitVec 1) (x : EReal) : EReal := if b = 1#1 then x else 0

theorem mask_of (b : BitVec 1) (x : EReal) : Scalar.select b x 0 = maskE b x := rfl

theorem lo0_apply (v16 : Vec Ideal S512x1024 .bf16) (v34 : BitVec 32) (v36 : IVec S512x128 32) (v38 : IVec S512x128 1)
    (v51 : Vec Ideal S1024x1024 .bf16) : k0_pay14 (F := Ideal) v16 c s v34 v36 v38 v51 (ix4 0 0 l r)
    = maskE (IntOp.cmpi .slt (BitVec.ofNat 32 l.val) 64#32) (turnE (fun j => k0_pay11 (F := Ideal) v16 v51 (ix2 r j)) (c (ix2 r l)) (s (ix2 r l))
      (k0_pay10 v34 v36 v38 (ix2 r l)) 0 l * scale) := by
  unfold k0_pay14
  have h := qry0_apply c s r l v16 v34 v36 v38 v51
  generalize k0_pay13 (F := Ideal) v16 c s v34 v36 v38 v51 = q at h ⊢
  pointwise []
  rw [h]
  exact mask_of _ _

theorem lo1_apply (w : IVec S128x512 32) : k0_pay19 (F := Ideal) c s mk y w (ix4 0 0 l r)
    = maskE (IntOp.cmpi .slt (w (ix2 l r)) 64#32) (turnE (fun j => y (ix2 r j)) (c (ix2 r l)) (s (ix2 r l)) (mk (ix2 r l)) 1 l * scale) := by
  unfold k0_pay19
  have h := qry1_apply c s mk y r l
  generalize k0_pay18 (F := Ideal) c s mk y = q at h ⊢
  pointwise []
  rw [h]
  exact mask_of _ _

theorem lo2_apply (w : IVec S128x512 32) : k0_pay24 (F := Ideal) c s mk y w (ix4 0 0 l r)
    = maskE (IntOp.cmpi .slt (w (ix2 l r)) 64#32) (turnE (fun j => y (ix2 r j)) (c (ix2 r l)) (s (ix2 r l)) (mk (ix2 r l)) 2 l * scale) := by
  unfold k0_pay24
  have h := qry2_apply c s mk y r l
  generalize k0_pay23 (F := Ideal) c s mk y = q at h ⊢
  pointwise []
  rw [h]
  exact mask_of _ _

theorem lo3_apply (w : IVec S128x512 32) : k0_pay29 (F := Ideal) c s mk y w (ix4 0 0 l r)
    = maskE (IntOp.cmpi .slt (w (ix2 l r)) 64#32) (turnE (fun j => y (ix2 r j)) (c (ix2 r l)) (s (ix2 r l)) (mk (ix2 r l)) 3 l * scale) := by
  unfold k0_pay29
  have h := qry3_apply c s mk y r l
  generalize k0_pay28 (F := Ideal) c s mk y = q at h ⊢
  pointwise []
  rw [h]
  exact mask_of _ _

theorem lo4_apply (w : IVec S128x512 32) : k0_pay34 (F := Ideal) c s mk y w (ix4 0 0 l r)
    = maskE (IntOp.cmpi .slt (w (ix2 l r)) 64#32) (turnE (fun j => y (ix2 r j)) (c (ix2 r l)) (s (ix2 r l)) (mk (ix2 r l)) 4 l * scale) := by
  unfold k0_pay34
  have h := qry4_apply c s mk y r l
  generalize k0_pay33 (F := Ideal) c s mk y = q at h ⊢
  pointwise []
  rw [h]
  exact mask_of _ _

theorem lo5_apply (w : IVec S128x512 32) : k0_pay39 (F := Ideal) c s mk y w (ix4 0 0 l r)
    = maskE (IntOp.cmpi .slt (w (ix2 l r)) 64#32) (turnE (fun j => y (ix2 r j)) (c (ix2 r l)) (s (ix2 r l)) (mk (ix2 r l)) 5 l * scale) := by
  unfold k0_pay39
  have h := qry5_apply c s mk y r l
  generalize k0_pay38 (F := Ideal) c s mk y = q at h ⊢
  pointwise []
  rw [h]
  exact mask_of _ _

theorem lo6_apply (w : IVec S128x512 32) : k0_pay44 (F := Ideal) c s mk y w (ix4 0 0 l r)
    = maskE (IntOp.cmpi .slt (w (ix2 l r)) 64#32) (turnE (fun j => y (ix2 r j)) (c (ix2 r l)) (s (ix2 r l)) (mk (ix2 r l)) 6 l * scale) := by
  unfold k0_pay44
  have h := qry6_apply c s mk y r l
  generalize k0_pay43 (F := Ideal) c s mk y = q at h ⊢
  pointwise []
  rw [h]
  exact mask_of _ _

theorem lo7_apply (w : IVec S128x512 32) : k0_pay49 (F := Ideal) c s mk y w (ix4 0 0 l r)
    = maskE (IntOp.cmpi .slt (w (ix2 l r)) 64#32) (turnE (fun j => y (ix2 r j)) (c (ix2 r l)) (s (ix2 r l)) (mk (ix2 r l)) 7 l * scale) := by
  unfold k0_pay49
  have h := qry7_apply c s mk y r l
  generalize k0_pay48 (F := Ideal) c s mk y = q at h ⊢
  pointwise []
  rw [h]
  exact mask_of _ _

theorem hi0_apply (q : Vec Ideal S128x512 .f32) (w : IVec S128x512 1) : k0_pay16 (F := Ideal) q w (Scalar.ofBits .f32 0x00000000#32) (ix4 0 0 l r)
    = maskE (w (ix2 l r)) (q (ix2 l r)) := by
  pointwise [k0_pay16]
  exact mask_of _ _

theorem hi1_apply (q : Vec Ideal S128x512 .f32) (w : IVec S128x512 1) : k0_pay21 (F := Ideal) q w (Scalar.ofBits .f32 0x00000000#32) (ix4 0 0 l r)
    = maskE (w (ix2 l r)) (q (ix2 l r)) := by
  pointwise [k0_pay21]
  exact mask_of _ _

theorem mk1_apply (w : IVec S128x512 32) : k0_pay20 w (ix2 l r) = IntOp.cmpi .sge (w (ix2 l r)) 64#32 := rfl

theorem hi2_apply (q : Vec Ideal S128x512 .f32) (w : IVec S128x512 1) : k0_pay26 (F := Ideal) q w (Scalar.ofBits .f32 0x00000000#32) (ix4 0 0 l r)
    = maskE (w (ix2 l r)) (q (ix2 l r)) := by
  pointwise [k0_pay26]
  exact mask_of _ _

theorem mk2_apply (w : IVec S128x512 32) : k0_pay25 w (ix2 l r) = IntOp.cmpi .sge (w (ix2 l r)) 64#32 := rfl

theorem hi3_apply (q : Vec Ideal S128x512 .f32) (w : IVec S128x512 1) : k0_pay31 (F := Ideal) q w (Scalar.ofBits .f32 0x00000000#32) (ix4 0 0 l r)
    = maskE (w (ix2 l r)) (q (ix2 l r)) := by
  pointwise [k0_pay31]
  exact mask_of _ _

theorem mk3_apply (w : IVec S128x512 32) : k0_pay30 w (ix2 l r) = IntOp.cmpi .sge (w (ix2 l r)) 64#32 := rfl

theorem hi4_apply (q : Vec Ideal S128x512 .f32) (w : IVec S128x512 1) : k0_pay36 (F := Ideal) q w (Scalar.ofBits .f32 0x00000000#32) (ix4 0 0 l r)
    = maskE (w (ix2 l r)) (q (ix2 l r)) := by
  pointwise [k0_pay36]
  exact mask_of _ _

theorem mk4_apply (w : IVec S128x512 32) : k0_pay35 w (ix2 l r) = IntOp.cmpi .sge (w (ix2 l r)) 64#32 := rfl

theorem hi5_apply (q : Vec Ideal S128x512 .f32) (w : IVec S128x512 1) : k0_pay41 (F := Ideal) q w (Scalar.ofBits .f32 0x00000000#32) (ix4 0 0 l r)
    = maskE (w (ix2 l r)) (q (ix2 l r)) := by
  pointwise [k0_pay41]
  exact mask_of _ _

theorem mk5_apply (w : IVec S128x512 32) : k0_pay40 w (ix2 l r) = IntOp.cmpi .sge (w (ix2 l r)) 64#32 := rfl

theorem hi6_apply (q : Vec Ideal S128x512 .f32) (w : IVec S128x512 1) : k0_pay46 (F := Ideal) q w (Scalar.ofBits .f32 0x00000000#32) (ix4 0 0 l r)
    = maskE (w (ix2 l r)) (q (ix2 l r)) := by
  pointwise [k0_pay46]
  exact mask_of _ _

theorem mk6_apply (w : IVec S128x512 32) : k0_pay45 w (ix2 l r) = IntOp.cmpi .sge (w (ix2 l r)) 64#32 := rfl

theorem hi7_apply (q : Vec Ideal S128x512 .f32) (w : IVec S128x512 1) : k0_pay1 (F := Ideal) q w (Scalar.ofBits .f32 0x00000000#32) (ix4 0 0 l r)
    = maskE (w (ix2 l r)) (q (ix2 l r)) := by
  pointwise [k0_pay1]
  exact mask_of _ _

theorem mk7_apply (w : IVec S128x512 32) : k0_pay50 w (ix2 l r) = IntOp.cmpi .sge (w (ix2 l r)) 64#32 := rfl

theorem mk0_apply : k0_pay15 (ix2 l r) = IntOp.cmpi .sge (BitVec.ofNat 32 l.val) 64#32 := by
  pointwise [k0_pay15]

theorem low_word : ∀ l : Fin 128, IntOp.cmpi .slt (BitVec.ofNat 32 l.val) 64#32 = if l.val < 64 then 1#1 else 0#1 := by decide +kernel
theorem high_word : ∀ l : Fin 128, IntOp.cmpi .sge (BitVec.ofNat 32 l.val) 64#32 = if 64 ≤ l.val then 1#1 else 0#1 := by decide +kernel

end Cert.DaQkv

end
-- ==== Proof.DaQkvTile.lean ====
module

public import proofs.«01_k».proof.Proof.DaQkvLane
public import Idealize.ShloMosaic.Lib.Pipeline.CanonAppend

@[expose] public section

set_option maxRecDepth 16384

noncomputable section

open Idealize.ShloMosaic Idealize.ShloMosaic.TcCoe Idealize.SL.Sem
open Idealize.ShloMosaic.Pipeline (Dat)

/-! # One tile's arrays, read at an index -/

namespace Cert.DaQkv

open Cert.Kernel8Ideal Cert.Kernel8Ideal.Gen
open Cert.Ffn (rms)

section

variable (x0 : Vec Ideal S1x512x1024 .f32) (x1 : Vec Ideal S1x1x512 .f32) (x2 : Vec Ideal S1x1024 .f32) (x3 : Vec Ideal S1024x3072 .bf16)
  (x4 x5 : Vec Ideal S1x128 .f32)

theorem norm_apply (i : Fin 512) (k : Fin 1024) : k0_pay51 (F := Ideal) x0 x1 x2 x3 x4 x5 (ix2 i k)
    = rms (fun k => x0 (ix3 0 i k)) (fun k => x2 (ix2 0 k)) k := by
  pointwise [k0_pay51, k0_pay4, r0_0, r0_1]
  rfl

theorem cos_apply (i : Fin 512) (l : Fin 128) : k0_pay52 (F := Ideal) x0 x1 x2 x3 x4 x5 (ix2 i l)
    = Ideal.cos (x1 (ix3 0 0 i) * x4 (ix2 0 l)) := by
  pointwise [k0_pay52, k0_pay6, k0_pay5, r0_2, r0_3]

theorem sin_apply (i : Fin 512) (l : Fin 128) : k0_pay53 (F := Ideal) x0 x1 x2 x3 x4 x5 (ix2 i l)
    = Ideal.sin (x1 (ix3 0 0 i) * x4 (ix2 0 l)) * x5 (ix2 0 l) := by
  pointwise [k0_pay53, k0_pay7, k0_pay5, r0_2, r0_3]

theorem half_word : ∀ l : Fin 128, k0_pay10 (Scalar.select (Scalar.cmpi .eq 64#32 0#32) 1#32 64#32) k0_pay8 k0_pay9 (ix2 (0 : Fin 512) l)
    = if l.val % 64 < 32 then 1#1 else 0#1 := by
  intro l
  pointwise [k0_pay10, k0_pay8, k0_pay9]
  revert l
  decide +kernel

theorem half_apply (i : Fin 512) (l : Fin 128) : k0_pay57 (F := Ideal) x0 x1 x2 x3 x4 x5 (ix2 i l)
    = if l.val % 64 < 32 then 1#1 else 0#1 := by
  refine Eq.trans ?_ (half_word l)
  pointwise [k0_pay57, k0_pay54, k0_pay55, k0_pay10, k0_pay8, k0_pay9]

theorem dotQ_apply (i : Fin 512) (j : Fin 1024) : k0_pay58 (F := Ideal) x0 x1 x2 x3 x4 x5 (ix2 i j)
    = colsE 0 (by omega) (fun k => x0 (ix3 0 i k)) (fun k => x2 (ix2 0 k)) (fun k j => x3 (ix2 k j)) j := by
  unfold k0_pay58
  have hn := norm_apply x0 x1 x2 x3 x4 x5 i
  generalize k0_pay51 (F := Ideal) x0 x1 x2 x3 x4 x5 = n at hn ⊢
  pointwise [k0_pay11, r0_4]
  simp only [hn]
  exact Finset.sum_congr rfl fun k _ => congrArg (rms _ _ k * ·) (congrArg (fun j => x3 (ix2 k j)) (Fin.ext (Nat.zero_add _).symm))

theorem dotK_apply (i : Fin 512) (j : Fin 1024) : k0_pay59 (F := Ideal) x0 x1 x2 x3 x4 x5 (ix2 i j)
    = colsE 1024 (by omega) (fun k => x0 (ix3 0 i k)) (fun k => x2 (ix2 0 k)) (fun k j => x3 (ix2 k j)) j := by
  unfold k0_pay59
  have hn := norm_apply x0 x1 x2 x3 x4 x5 i
  generalize k0_pay51 (F := Ideal) x0 x1 x2 x3 x4 x5 = n at hn ⊢
  pointwise [k0_pay12, r0_5]
  simp only [hn]
  rfl

theorem out8_apply (i : Fin 512) (j : Fin 1024) : out0_8 (F := Ideal) x0 x1 x2 x3 x4 x5 (ix3 0 i j)
    = colsE 2048 (by omega) (fun k => x0 (ix3 0 i k)) (fun k => x2 (ix2 0 k)) (fun k j => x3 (ix2 k j)) j := by
  have hz3 : (![0, 0, 0] : Fin 3 → Nat) = fun _ => 0 := funext fun a => by fin_cases a <;> rfl
  unfold out0_8
  rw [View.canon_unit_zero hz3]
  have hn := norm_apply x0 x1 x2 x3 x4 x5 i
  generalize k0_pay51 (F := Ideal) x0 x1 x2 x3 x4 x5 = n at hn ⊢
  pointwise [k0_pay3, r0_30]
  simp only [hn]
  rfl

end

/-- A turned lane is the rotated lane, where the block's rates and signs are the ones prepared for it. -/
theorem turn_rope (y : Fin 1024 → EReal) (p : BitVec 32) (pos rt sg : EReal) (g : Fin 8) (l : Fin 128) (hp : pos = ((p.toInt : ℝ) : EReal))
    (hr : rt = rate ⟨l.val % 32, by omega⟩) (hs : sg = if l.val % 64 < 32 then -1 else 1) :
    turnE y (Ideal.cos (pos * rt)) (Ideal.sin (pos * rt) * sg) (if l.val % 64 < 32 then 1#1 else 0#1) g l
      = ropeE y (cosE p) (sinE p) ⟨128 * g.val + l.val, by omega⟩ := by
  subst hp hr hs
  have e : (⟨(128 * g.val + l.val) % 32, by omega⟩ : Fin 32) = ⟨l.val % 32, by omega⟩ := Fin.ext (by
    show (128 * g.val + l.val) % 32 = l.val % 32
    omega)
  unfold turnE ropeE
  by_cases h : l.val % 64 < 32
  · rw [dif_pos (show (128 * g.val + l.val) % 64 < 32 by omega)]
    simp only [if_pos h]
    rw [e, mul_neg, mul_one, mul_neg, ← sub_eq_add_neg]
    refine congrArg₂ (· - ·) rfl (congrArg (· * _) (congrArg y (Fin.ext ?_)))
    show 128 * g.val + (l.val + 128 - 96) % 128 = 128 * g.val + l.val + 32
    omega
  · rw [dif_neg (show ¬(128 * g.val + l.val) % 64 < 32 by omega)]
    simp only [if_neg h]
    rw [e, mul_one, if_neg (by decide)]
    refine congrArg₂ (· + ·) rfl (congrArg (· * _) (congrArg y (Fin.ext ?_)))
    show 128 * g.val + (l.val + 128 - 32) % 128 = 128 * g.val + l.val - 32
    omega

end Cert.DaQkv

end
-- ==== Proof.DaQkvList.lean ====
module

public import proofs.«01_k».proof.Proof.DaQkvLane
public import proofs.«01_k».proof.Proof.DaQkvTile
public import Idealize.ShloMosaic.Lib.Pipeline.CanonAppend

@[expose] public section

set_option maxRecDepth 16384

noncomputable section

open Idealize.ShloMosaic Idealize.ShloMosaic.TcCoe Idealize.SL.Sem
open Idealize.ShloMosaic.Pipeline (Dat)

/-! # The heads' pieces put together -/

namespace Cert.DaQkv

open Cert.Kernel8Ideal Cert.Kernel8Ideal.Gen

theorem inb_key (g : Fin 8) : ∀ a, (![0, 0, 128 * g.val] : Fin 3 → ℕ) a + S1x512x128.size a ≤ S1x512x1024.size a := by
  intro a
  match a with
  | ⟨0, _⟩ => exact Nat.le_refl 1
  | ⟨1, _⟩ => exact Nat.le_refl 512
  | ⟨2, _⟩ => show 128 * g.val + 128 ≤ 1024; omega

theorem inb_qry (g : Fin 8) (o : ℕ) (ho : o ≤ 512) : ∀ a, (![0, g.val, 0, o] : Fin 4 → ℕ) a + S1x1x128x512.size a ≤ S1x8x128x1024.size a := by
  intro a
  match a with
  | ⟨0, _⟩ => exact Nat.le_refl 1
  | ⟨1, _⟩ => show g.val + 1 ≤ 8; omega
  | ⟨2, _⟩ => exact Nat.le_refl 128
  | ⟨3, _⟩ => show o + 512 ≤ 1024; omega

theorem idx_key (g : Fin 8) (r : Fin 512) (l : Fin 128) : (Rect.unit (s := S1x512x1024) ![0, 0, 128 * g.val] S1x512x128.size (inb_key g)).idx (ix3 0 r l)
    = ix3 0 r ⟨128 * g.val + l.val, by omega⟩ := by
  funext x
  refine Fin.ext ((Rect.idx_unit_val _ _ _ _ x).trans ?_)
  match x with
  | ⟨0, _⟩ => rfl
  | ⟨1, _⟩ => exact Nat.zero_add _
  | ⟨2, _⟩ => rfl

theorem idx_qry (g : Fin 8) (o : ℕ) (ho : o ≤ 512) (l : Fin 128) (r : Fin 512) :
    (Rect.unit (s := S1x8x128x1024) ![0, g.val, 0, o] S1x1x128x512.size (inb_qry g o ho)).idx (ix4 0 0 l r)
      = ix4 0 g l ⟨o + r.val, by omega⟩ := by
  funext x
  refine Fin.ext ((Rect.idx_unit_val _ _ _ _ x).trans ?_)
  match x with
  | ⟨0, _⟩ => rfl
  | ⟨1, _⟩ => rfl
  | ⟨2, _⟩ => exact Nat.zero_add _
  | ⟨3, _⟩ => rfl

/-- The keys' lanes over a tile. -/
def keysG (c s : Vec Ideal S512x128 .f32) (mk : IVec S512x128 1) (y : Vec Ideal S512x1024 .f32) : Vec Ideal S1x512x1024 .bf16 := fun i =>
  turnE (fun j => y (ix2 (i 1) j)) (c (ix2 (i 1) ⟨(i 2).val % 128, Nat.mod_lt _ (by decide)⟩)) (s (ix2 (i 1) ⟨(i 2).val % 128, Nat.mod_lt _ (by decide)⟩))
    (mk (ix2 (i 1) ⟨(i 2).val % 128, Nat.mod_lt _ (by decide)⟩)) ⟨(i 2).val / 128, by
      have h : (i 2).val < 1024 := (i 2).isLt
      omega⟩ ⟨(i 2).val % 128, Nat.mod_lt _ (by decide)⟩

theorem keysG_at (c s : Vec Ideal S512x128 .f32) (mk : IVec S512x128 1) (y : Vec Ideal S512x1024 .f32) (g : Fin 8) (r : Fin 512) (l : Fin 128) :
    keysG c s mk y (ix3 0 r ⟨128 * g.val + l.val, by omega⟩)
      = turnE (fun j => y (ix2 r j)) (c (ix2 r l)) (s (ix2 r l)) (mk (ix2 r l)) g l := by
  have e1 : (⟨(128 * g.val + l.val) % 128, Nat.mod_lt _ (by decide)⟩ : Fin 128) = l := Fin.ext (by
    show (128 * g.val + l.val) % 128 = l.val
    omega)
  have e2 : (⟨(128 * g.val + l.val) / 128, by omega⟩ : Fin 8) = g := Fin.ext (by
    show (128 * g.val + l.val) / 128 = g.val
    omega)
  show turnE (fun j => y (ix2 r j)) (c (ix2 r ⟨(128 * g.val + l.val) % 128, Nat.mod_lt _ (by decide)⟩))
    (s (ix2 r ⟨(128 * g.val + l.val) % 128, Nat.mod_lt _ (by decide)⟩)) (mk (ix2 r ⟨(128 * g.val + l.val) % 128, Nat.mod_lt _ (by decide)⟩))
    ⟨(128 * g.val + l.val) / 128, by omega⟩ ⟨(128 * g.val + l.val) % 128, Nat.mod_lt _ (by decide)⟩ = _
  rw [e1, e2]

/-- A query lane of a half: the first half keeps the first 64 lanes of a head, the second the last 64. -/
def halfE (n : ℕ) (l : ℕ) (z : EReal) : EReal := if n < 512 then if l < 64 then z else 0 else if 64 ≤ l then z else 0

/-- The queries' lanes over a tile. -/
def qrysG (c s : Vec Ideal S512x128 .f32) (mk : IVec S512x128 1) (y : Vec Ideal S512x1024 .f32) : Vec Ideal S1x8x128x1024 .bf16 := fun i =>
  halfE (i 3).val (i 2).val
    (turnE (fun j => y (ix2 ⟨(i 3).val % 512, Nat.mod_lt _ (by decide)⟩ j)) (c (ix2 ⟨(i 3).val % 512, Nat.mod_lt _ (by decide)⟩ (i 2)))
      (s (ix2 ⟨(i 3).val % 512, Nat.mod_lt _ (by decide)⟩ (i 2))) (mk (ix2 ⟨(i 3).val % 512, Nat.mod_lt _ (by decide)⟩ (i 2))) (i 1) (i 2) * scale)

theorem qrysG_at (c s : Vec Ideal S512x128 .f32) (mk : IVec S512x128 1) (y : Vec Ideal S512x1024 .f32) (g : Fin 8) (l : Fin 128) (n : Fin 1024)
    (r : Fin 512) (h : n.val % 512 = r.val) : qrysG c s mk y (ix4 0 g l n)
      = halfE n.val l.val (turnE (fun j => y (ix2 r j)) (c (ix2 r l)) (s (ix2 r l)) (mk (ix2 r l)) g l * scale) := by
  have e1 : (⟨n.val % 512, Nat.mod_lt _ (by decide)⟩ : Fin 512) = r := Fin.ext h
  show halfE n.val l.val (turnE (fun j => y (ix2 ⟨n.val % 512, Nat.mod_lt _ (by decide)⟩ j)) (c (ix2 ⟨n.val % 512, Nat.mod_lt _ (by decide)⟩ l))
      (s (ix2 ⟨n.val % 512, Nat.mod_lt _ (by decide)⟩ l)) (mk (ix2 ⟨n.val % 512, Nat.mod_lt _ (by decide)⟩ l)) g l * scale) = _
  rw [e1]

theorem low_half (w : BitVec 32) (n : ℕ) (hn : n < 512) (l : Fin 128) (hw : w = BitVec.ofNat 32 l.val) (z : EReal) :
    maskE (IntOp.cmpi .slt w 64#32) z = halfE n l.val z := by
  rw [hw, low_word l]
  unfold maskE halfE
  rw [if_pos hn]
  by_cases h : l.val < 64
  · simp only [if_pos h, if_true]
  · simp only [if_neg h]
    exact if_neg (by decide)

theorem high_half (b : BitVec 1) (n : ℕ) (hn : ¬n < 512) (l : Fin 128) (hw : b = IntOp.cmpi .sge (BitVec.ofNat 32 l.val) 64#32) (z : EReal) :
    maskE b z = halfE n l.val z := by
  rw [hw, high_word l]
  unfold maskE halfE
  rw [if_neg hn]
  by_cases h : 64 ≤ l.val
  · simp only [if_pos h, if_true]
  · simp only [if_neg h]
    exact if_neg (by decide)

section

variable (x0 : Vec Ideal S1x512x1024 .f32) (x1 : Vec Ideal S1x1x512 .f32) (x2 : Vec Ideal S1x1024 .f32) (x3 : Vec Ideal S1024x3072 .bf16)
  (x4 : Vec Ideal S1x128 .f32) (x5 : Vec Ideal S1x128 .f32)

theorem row_word (l : Fin 128) (r : Fin 512) : k0_pay56 (F := Ideal) x0 x1 x2 x3 x4 x5 (ix2 l r) = BitVec.ofNat 32 l.val := by
  pointwise [k0_pay56]

/-- The keys of head `g`. -/
def keyV : Fin 8 → Vec Ideal S1x512x128 .bf16
  | 0 => k0_pay17 (k0_pay52 x0 x1 x2 x3 x4 x5) (k0_pay53 x0 x1 x2 x3 x4 x5) (k0_pay57 x0 x1 x2 x3 x4 x5) (k0_pay59 x0 x1 x2 x3 x4 x5)
  | 1 => k0_pay22 (k0_pay52 x0 x1 x2 x3 x4 x5) (k0_pay53 x0 x1 x2 x3 x4 x5) (k0_pay57 x0 x1 x2 x3 x4 x5) (k0_pay59 x0 x1 x2 x3 x4 x5)
  | 2 => k0_pay27 (k0_pay52 x0 x1 x2 x3 x4 x5) (k0_pay53 x0 x1 x2 x3 x4 x5) (k0_pay57 x0 x1 x2 x3 x4 x5) (k0_pay59 x0 x1 x2 x3 x4 x5)
  | 3 => k0_pay32 (k0_pay52 x0 x1 x2 x3 x4 x5) (k0_pay53 x0 x1 x2 x3 x4 x5) (k0_pay57 x0 x1 x2 x3 x4 x5) (k0_pay59 x0 x1 x2 x3 x4 x5)
  | 4 => k0_pay37 (k0_pay52 x0 x1 x2 x3 x4 x5) (k0_pay53 x0 x1 x2 x3 x4 x5) (k0_pay57 x0 x1 x2 x3 x4 x5) (k0_pay59 x0 x1 x2 x3 x4 x5)
  | 5 => k0_pay42 (k0_pay52 x0 x1 x2 x3 x4 x5) (k0_pay53 x0 x1 x2 x3 x4 x5) (k0_pay57 x0 x1 x2 x3 x4 x5) (k0_pay59 x0 x1 x2 x3 x4 x5)
  | 6 => k0_pay47 (k0_pay52 x0 x1 x2 x3 x4 x5) (k0_pay53 x0 x1 x2 x3 x4 x5) (k0_pay57 x0 x1 x2 x3 x4 x5) (k0_pay59 x0 x1 x2 x3 x4 x5)
  | 7 => k0_pay2 (k0_pay52 x0 x1 x2 x3 x4 x5) (k0_pay53 x0 x1 x2 x3 x4 x5) (k0_pay57 x0 x1 x2 x3 x4 x5) (k0_pay59 x0 x1 x2 x3 x4 x5)

/-- The first half of the queries of head `g`. -/
def loV : Fin 8 → Vec Ideal S1x1x128x512 .bf16
  | 0 => k0_pay14 (k0_pay51 x0 x1 x2 x3 x4 x5) (k0_pay52 x0 x1 x2 x3 x4 x5) (k0_pay53 x0 x1 x2 x3 x4 x5) (Scalar.select (Scalar.cmpi .eq 64#32 0#32) 1#32 64#32) (k0_pay54 x0 x1 x2 x3 x4 x5) (k0_pay55 x0 x1 x2 x3 x4 x5) (View.ld x3 r0_4)
  | 1 => k0_pay19 (k0_pay52 x0 x1 x2 x3 x4 x5) (k0_pay53 x0 x1 x2 x3 x4 x5) (k0_pay57 x0 x1 x2 x3 x4 x5) (k0_pay58 x0 x1 x2 x3 x4 x5) (k0_pay56 x0 x1 x2 x3 x4 x5)
  | 2 => k0_pay24 (k0_pay52 x0 x1 x2 x3 x4 x5) (k0_pay53 x0 x1 x2 x3 x4 x5) (k0_pay57 x0 x1 x2 x3 x4 x5) (k0_pay58 x0 x1 x2 x3 x4 x5) (k0_pay56 x0 x1 x2 x3 x4 x5)
  | 3 => k0_pay29 (k0_pay52 x0 x1 x2 x3 x4 x5) (k0_pay53 x0 x1 x2 x3 x4 x5) (k0_pay57 x0 x1 x2 x3 x4 x5) (k0_pay58 x0 x1 x2 x3 x4 x5) (k0_pay56 x0 x1 x2 x3 x4 x5)
  | 4 => k0_pay34 (k0_pay52 x0 x1 x2 x3 x4 x5) (k0_pay53 x0 x1 x2 x3 x4 x5) (k0_pay57 x0 x1 x2 x3 x4 x5) (k0_pay58 x0 x1 x2 x3 x4 x5) (k0_pay56 x0 x1 x2 x3 x4 x5)
  | 5 => k0_pay39 (k0_pay52 x0 x1 x2 x3 x4 x5) (k0_pay53 x0 x1 x2 x3 x4 x5) (k0_pay57 x0 x1 x2 x3 x4 x5) (k0_pay58 x0 x1 x2 x3 x4 x5) (k0_pay56 x0 x1 x2 x3 x4 x5)
  | 6 => k0_pay44 (k0_pay52 x0 x1 x2 x3 x4 x5) (k0_pay53 x0 x1 x2 x3 x4 x5) (k0_pay57 x0 x1 x2 x3 x4 x5) (k0_pay58 x0 x1 x2 x3 x4 x5) (k0_pay56 x0 x1 x2 x3 x4 x5)
  | 7 => k0_pay49 (k0_pay52 x0 x1 x2 x3 x4 x5) (k0_pay53 x0 x1 x2 x3 x4 x5) (k0_pay57 x0 x1 x2 x3 x4 x5) (k0_pay58 x0 x1 x2 x3 x4 x5) (k0_pay56 x0 x1 x2 x3 x4 x5)

/-- The second half of the queries of head `g`. -/
def hiV : Fin 8 → Vec Ideal S1x1x128x512 .bf16
  | 0 => k0_pay16 (k0_pay13 (k0_pay51 x0 x1 x2 x3 x4 x5) (k0_pay52 x0 x1 x2 x3 x4 x5) (k0_pay53 x0 x1 x2 x3 x4 x5) (Scalar.select (Scalar.cmpi .eq 64#32 0#32) 1#32 64#32) (k0_pay54 x0 x1 x2 x3 x4 x5) (k0_pay55 x0 x1 x2 x3 x4 x5) (View.ld x3 r0_4)) k0_pay15 (Scalar.ofBits .f32 0x00000000#32)
  | 1 => k0_pay21 (k0_pay18 (k0_pay52 x0 x1 x2 x3 x4 x5) (k0_pay53 x0 x1 x2 x3 x4 x5) (k0_pay57 x0 x1 x2 x3 x4 x5) (k0_pay58 x0 x1 x2 x3 x4 x5)) (k0_pay20 (k0_pay56 x0 x1 x2 x3 x4 x5)) (Scalar.ofBits .f32 0x00000000#32)
  | 2 => k0_pay26 (k0_pay23 (k0_pay52 x0 x1 x2 x3 x4 x5) (k0_pay53 x0 x1 x2 x3 x4 x5) (k0_pay57 x0 x1 x2 x3 x4 x5) (k0_pay58 x0 x1 x2 x3 x4 x5)) (k0_pay25 (k0_pay56 x0 x1 x2 x3 x4 x5)) (Scalar.ofBits .f32 0x00000000#32)
  | 3 => k0_pay31 (k0_pay28 (k0_pay52 x0 x1 x2 x3 x4 x5) (k0_pay53 x0 x1 x2 x3 x4 x5) (k0_pay57 x0 x1 x2 x3 x4 x5) (k0_pay58 x0 x1 x2 x3 x4 x5)) (k0_pay30 (k0_pay56 x0 x1 x2 x3 x4 x5)) (Scalar.ofBits .f32 0x00000000#32)
  | 4 => k0_pay36 (k0_pay33 (k0_pay52 x0 x1 x2 x3 x4 x5) (k0_pay53 x0 x1 x2 x3 x4 x5) (k0_pay57 x0 x1 x2 x3 x4 x5) (k0_pay58 x0 x1 x2 x3 x4 x5)) (k0_pay35 (k0_pay56 x0 x1 x2 x3 x4 x5)) (Scalar.ofBits .f32 0x00000000#32)
  | 5 => k0_pay41 (k0_pay38 (k0_pay52 x0 x1 x2 x3 x4 x5) (k0_pay53 x0 x1 x2 x3 x4 x5) (k0_pay57 x0 x1 x2 x3 x4 x5) (k0_pay58 x0 x1 x2 x3 x4 x5)) (k0_pay40 (k0_pay56 x0 x1 x2 x3 x4 x5)) (Scalar.ofBits .f32 0x00000000#32)
  | 6 => k0_pay46 (k0_pay43 (k0_pay52 x0 x1 x2 x3 x4 x5) (k0_pay53 x0 x1 x2 x3 x4 x5) (k0_pay57 x0 x1 x2 x3 x4 x5) (k0_pay58 x0 x1 x2 x3 x4 x5)) (k0_pay45 (k0_pay56 x0 x1 x2 x3 x4 x5)) (Scalar.ofBits .f32 0x00000000#32)
  | 7 => k0_pay1 (k0_pay48 (k0_pay52 x0 x1 x2 x3 x4 x5) (k0_pay53 x0 x1 x2 x3 x4 x5) (k0_pay57 x0 x1 x2 x3 x4 x5) (k0_pay58 x0 x1 x2 x3 x4 x5)) (k0_pay50 (k0_pay56 x0 x1 x2 x3 x4 x5)) (Scalar.ofBits .f32 0x00000000#32)

theorem keyV_apply (g : Fin 8) (r : Fin 512) (l : Fin 128) : keyV x0 x1 x2 x3 x4 x5 g (ix3 0 r l)
    = turnE (fun j => k0_pay59 (F := Ideal) x0 x1 x2 x3 x4 x5 (ix2 r j)) (k0_pay52 (F := Ideal) x0 x1 x2 x3 x4 x5 (ix2 r l)) (k0_pay53 (F := Ideal) x0 x1 x2 x3 x4 x5 (ix2 r l))
      (k0_pay57 (F := Ideal) x0 x1 x2 x3 x4 x5 (ix2 r l)) g l :=
  match g with
  | 0 => key0_apply _ _ _ _ r l
  | 1 => key1_apply _ _ _ _ r l
  | 2 => key2_apply _ _ _ _ r l
  | 3 => key3_apply _ _ _ _ r l
  | 4 => key4_apply _ _ _ _ r l
  | 5 => key5_apply _ _ _ _ r l
  | 6 => key6_apply _ _ _ _ r l
  | 7 => key7_apply _ _ _ _ r l

theorem loV_apply (g : Fin 8) (r : Fin 512) (l : Fin 128) (n : ℕ) (hn : n < 512) : loV x0 x1 x2 x3 x4 x5 g (ix4 0 0 l r)
    = halfE n l.val (turnE (fun j => k0_pay58 (F := Ideal) x0 x1 x2 x3 x4 x5 (ix2 r j)) (k0_pay52 (F := Ideal) x0 x1 x2 x3 x4 x5 (ix2 r l)) (k0_pay53 (F := Ideal) x0 x1 x2 x3 x4 x5 (ix2 r l))
      (k0_pay57 (F := Ideal) x0 x1 x2 x3 x4 x5 (ix2 r l)) g l * scale) :=
  match g with
  | 0 => (lo0_apply _ _ r l _ _ _ _ _).trans (low_half _ _ hn l rfl _)
  | 1 => (lo1_apply _ _ _ _ r l _).trans (low_half _ _ hn l (row_word x0 x1 x2 x3 x4 x5 l r) _)
  | 2 => (lo2_apply _ _ _ _ r l _).trans (low_half _ _ hn l (row_word x0 x1 x2 x3 x4 x5 l r) _)
  | 3 => (lo3_apply _ _ _ _ r l _).trans (low_half _ _ hn l (row_word x0 x1 x2 x3 x4 x5 l r) _)
  | 4 => (lo4_apply _ _ _ _ r l _).trans (low_half _ _ hn l (row_word x0 x1 x2 x3 x4 x5 l r) _)
  | 5 => (lo5_apply _ _ _ _ r l _).trans (low_half _ _ hn l (row_word x0 x1 x2 x3 x4 x5 l r) _)
  | 6 => (lo6_apply _ _ _ _ r l _).trans (low_half _ _ hn l (row_word x0 x1 x2 x3 x4 x5 l r) _)
  | 7 => (lo7_apply _ _ _ _ r l _).trans (low_half _ _ hn l (row_word x0 x1 x2 x3 x4 x5 l r) _)

theorem hiV_apply (g : Fin 8) (r : Fin 512) (l : Fin 128) (n : ℕ) (hn : ¬n < 512) : hiV x0 x1 x2 x3 x4 x5 g (ix4 0 0 l r)
    = halfE n l.val (turnE (fun j => k0_pay58 (F := Ideal) x0 x1 x2 x3 x4 x5 (ix2 r j)) (k0_pay52 (F := Ideal) x0 x1 x2 x3 x4 x5 (ix2 r l)) (k0_pay53 (F := Ideal) x0 x1 x2 x3 x4 x5 (ix2 r l))
      (k0_pay57 (F := Ideal) x0 x1 x2 x3 x4 x5 (ix2 r l)) g l * scale) :=
  match g with
  | 0 => (hi0_apply r l _ _).trans ((congrArg (maskE _) (qry0_apply _ _ r l _ _ _ _ _)).trans (high_half _ _ hn l (mk0_apply r l) _))
  | 1 => (hi1_apply r l _ _).trans ((congrArg (maskE _) (qry1_apply _ _ _ _ r l)).trans
      (high_half _ _ hn l ((mk1_apply r l _).trans (congrArg (fun w => IntOp.cmpi .sge w 64#32) (row_word x0 x1 x2 x3 x4 x5 l r))) _))
  | 2 => (hi2_apply r l _ _).trans ((congrArg (maskE _) (qry2_apply _ _ _ _ r l)).trans
      (high_half _ _ hn l ((mk2_apply r l _).trans (congrArg (fun w => IntOp.cmpi .sge w 64#32) (row_word x0 x1 x2 x3 x4 x5 l r))) _))
  | 3 => (hi3_apply r l _ _).trans ((congrArg (maskE _) (qry3_apply _ _ _ _ r l)).trans
      (high_half _ _ hn l ((mk3_apply r l _).trans (congrArg (fun w => IntOp.cmpi .sge w 64#32) (row_word x0 x1 x2 x3 x4 x5 l r))) _))
  | 4 => (hi4_apply r l _ _).trans ((congrArg (maskE _) (qry4_apply _ _ _ _ r l)).trans
      (high_half _ _ hn l ((mk4_apply r l _).trans (congrArg (fun w => IntOp.cmpi .sge w 64#32) (row_word x0 x1 x2 x3 x4 x5 l r))) _))
  | 5 => (hi5_apply r l _ _).trans ((congrArg (maskE _) (qry5_apply _ _ _ _ r l)).trans
      (high_half _ _ hn l ((mk5_apply r l _).trans (congrArg (fun w => IntOp.cmpi .sge w 64#32) (row_word x0 x1 x2 x3 x4 x5 l r))) _))
  | 6 => (hi6_apply r l _ _).trans ((congrArg (maskE _) (qry6_apply _ _ _ _ r l)).trans
      (high_half _ _ hn l ((mk6_apply r l _).trans (congrArg (fun w => IntOp.cmpi .sge w 64#32) (row_word x0 x1 x2 x3 x4 x5 l r))) _))
  | 7 => (hi7_apply r l _ _).trans ((congrArg (maskE _) (qry7_apply _ _ _ _ r l)).trans
      (high_half _ _ hn l ((mk7_apply r l _).trans (congrArg (fun w => IntOp.cmpi .sge w 64#32) (row_word x0 x1 x2 x3 x4 x5 l r))) _))

def keyP (g : Fin 8) : View.Piece (Elt Ideal) S1x512x1024 .bf16 := ⟨Rect.unit (s := S1x512x1024) ![0, 0, 128 * g.val] S1x512x128.size (inb_key g), keyV x0 x1 x2 x3 x4 x5 g⟩
def loP (g : Fin 8) : View.Piece (Elt Ideal) S1x8x128x1024 .bf16 :=
  ⟨Rect.unit (s := S1x8x128x1024) ![0, g.val, 0, 0] S1x1x128x512.size (inb_qry g 0 (by omega)), loV x0 x1 x2 x3 x4 x5 g⟩
def hiP (g : Fin 8) : View.Piece (Elt Ideal) S1x8x128x1024 .bf16 :=
  ⟨Rect.unit (s := S1x8x128x1024) ![0, g.val, 0, 512] S1x1x128x512.size (inb_qry g 512 (by omega)), hiV x0 x1 x2 x3 x4 x5 g⟩

theorem out7_list : out0_7 (F := Ideal) x0 x1 x2 x3 x4 x5 = View.canon (([7, 6, 5, 4, 3, 2, 1, 0] : List (Fin 8)).map (keyP x0 x1 x2 x3 x4 x5)) := rfl

theorem out6_list : out0_6 (F := Ideal) x0 x1 x2 x3 x4 x5
    = View.canon (([7, 6, 5, 4, 3, 2, 1, 0] : List (Fin 8)).flatMap fun g => [hiP x0 x1 x2 x3 x4 x5 g, loP x0 x1 x2 x3 x4 x5 g]) := rfl

theorem out7_apply (i : Fin 512) (L : Fin 1024) : out0_7 (F := Ideal) x0 x1 x2 x3 x4 x5 (ix3 0 i L)
    = keysG (k0_pay52 x0 x1 x2 x3 x4 x5) (k0_pay53 x0 x1 x2 x3 x4 x5) (k0_pay57 x0 x1 x2 x3 x4 x5) (k0_pay59 x0 x1 x2 x3 x4 x5) (ix3 0 i L) := by
  rw [out7_list]
  refine View.canon_apply_of_pieces (keysG (k0_pay52 x0 x1 x2 x3 x4 x5) (k0_pay53 x0 x1 x2 x3 x4 x5) (k0_pay57 x0 x1 x2 x3 x4 x5) (k0_pay59 x0 x1 x2 x3 x4 x5)) _ ?_ _ ?_
  · intro p hp
    obtain ⟨g, _, rfl⟩ := List.mem_map.mp hp
    intro (y : S1x512x128.Idx)
    idx_vars y
    obtain rfl : y0 = 0 := Subsingleton.elim (α := Fin 1) y0 0
    refine (keyV_apply x0 x1 x2 x3 x4 x5 g y1 y2).trans ((keysG_at _ _ _ _ g y1 y2).symm.trans ?_)
    exact (congrArg (keysG (k0_pay52 x0 x1 x2 x3 x4 x5) (k0_pay53 x0 x1 x2 x3 x4 x5) (k0_pay57 x0 x1 x2 x3 x4 x5) (k0_pay59 x0 x1 x2 x3 x4 x5)) (idx_key g y1 y2)).symm
  · have hq : ∀ g : Fin 8, g ∈ ([7, 6, 5, 4, 3, 2, 1, 0] : List (Fin 8)) := by decide
    refine ⟨_, List.mem_map.mpr ⟨⟨L.val / 128, by omega⟩, hq _, rfl⟩, (Rect.mem_set_unit (inb := inb_key ⟨L.val / 128, by omega⟩)).mpr fun a => ?_⟩
    match a with
    | ⟨0, _⟩ => exact ⟨Nat.zero_le _, Nat.lt_succ_self 0⟩
    | ⟨1, _⟩ => exact ⟨Nat.zero_le _, by show i.val < 0 + 512; omega⟩
    | ⟨2, _⟩ => exact ⟨by show 128 * (L.val / 128) ≤ L.val; omega, by show L.val < 128 * (L.val / 128) + 128; omega⟩

theorem out6_apply (g : Fin 8) (f : Fin 128) (n : Fin 1024) : out0_6 (F := Ideal) x0 x1 x2 x3 x4 x5 (ix4 0 g f n)
    = qrysG (k0_pay52 x0 x1 x2 x3 x4 x5) (k0_pay53 x0 x1 x2 x3 x4 x5) (k0_pay57 x0 x1 x2 x3 x4 x5) (k0_pay58 x0 x1 x2 x3 x4 x5) (ix4 0 g f n) := by
  rw [out6_list]
  refine View.canon_apply_of_pieces (qrysG (k0_pay52 x0 x1 x2 x3 x4 x5) (k0_pay53 x0 x1 x2 x3 x4 x5) (k0_pay57 x0 x1 x2 x3 x4 x5) (k0_pay58 x0 x1 x2 x3 x4 x5)) _ ?_ _ ?_
  · intro p hp
    obtain ⟨g, _, hp⟩ := List.mem_flatMap.mp hp
    rcases List.mem_cons.mp hp with rfl | hp
    · intro (y : S1x1x128x512.Idx)
      idx_vars y
      obtain rfl : y0 = 0 := Subsingleton.elim (α := Fin 1) y0 0
      obtain rfl : y1 = 0 := Subsingleton.elim (α := Fin 1) y1 0
      refine (hiV_apply x0 x1 x2 x3 x4 x5 g y3 y2 (512 + y3.val) (by omega)).trans ((qrysG_at _ _ _ _ g y2 ⟨512 + y3.val, by omega⟩ y3 (by
        show (512 + y3.val) % 512 = y3.val
        omega)).symm.trans ?_)
      exact (congrArg (qrysG (k0_pay52 x0 x1 x2 x3 x4 x5) (k0_pay53 x0 x1 x2 x3 x4 x5) (k0_pay57 x0 x1 x2 x3 x4 x5) (k0_pay58 x0 x1 x2 x3 x4 x5)) (idx_qry g 512 (by omega) y2 y3)).symm
    · obtain rfl := List.mem_singleton.mp hp
      intro (y : S1x1x128x512.Idx)
      idx_vars y
      obtain rfl : y0 = 0 := Subsingleton.elim (α := Fin 1) y0 0
      obtain rfl : y1 = 0 := Subsingleton.elim (α := Fin 1) y1 0
      refine (loV_apply x0 x1 x2 x3 x4 x5 g y3 y2 (0 + y3.val) (by omega)).trans ((qrysG_at _ _ _ _ g y2 ⟨0 + y3.val, by omega⟩ y3 (by
        show (0 + y3.val) % 512 = y3.val
        omega)).symm.trans ?_)
      exact (congrArg (qrysG (k0_pay52 x0 x1 x2 x3 x4 x5) (k0_pay53 x0 x1 x2 x3 x4 x5) (k0_pay57 x0 x1 x2 x3 x4 x5) (k0_pay58 x0 x1 x2 x3 x4 x5)) (idx_qry g 0 (by omega) y2 y3)).symm
  · have hq : ∀ g : Fin 8, g ∈ ([7, 6, 5, 4, 3, 2, 1, 0] : List (Fin 8)) := by decide
    by_cases hn : n.val < 512
    · refine ⟨loP x0 x1 x2 x3 x4 x5 g, List.mem_flatMap.mpr ⟨g, hq g, List.mem_cons_of_mem _ (List.mem_singleton.mpr rfl)⟩,
        (Rect.mem_set_unit (inb := inb_qry g 0 (by omega))).mpr fun a => ?_⟩
      match a with
      | ⟨0, _⟩ => exact ⟨Nat.zero_le _, Nat.lt_succ_self 0⟩
      | ⟨1, _⟩ => exact ⟨Nat.le_refl _, Nat.lt_succ_self _⟩
      | ⟨2, _⟩ => exact ⟨Nat.zero_le _, by show f.val < 0 + 128; omega⟩
      | ⟨3, _⟩ => exact ⟨Nat.zero_le _, by show n.val < 0 + 512; omega⟩
    · refine ⟨hiP x0 x1 x2 x3 x4 x5 g, List.mem_flatMap.mpr ⟨g, hq g, List.mem_cons_self⟩,
        (Rect.mem_set_unit (inb := inb_qry g 512 (by omega))).mpr fun a => ?_⟩
      match a with
      | ⟨0, _⟩ => exact ⟨Nat.zero_le _, Nat.lt_succ_self 0⟩
      | ⟨1, _⟩ => exact ⟨Nat.le_refl _, Nat.lt_succ_self _⟩
      | ⟨2, _⟩ => exact ⟨Nat.zero_le _, by show f.val < 0 + 128; omega⟩
      | ⟨3, _⟩ => exact ⟨by show 512 ≤ n.val; omega, by show n.val < 512 + 512; omega⟩

end

end Cert.DaQkv

end
-- ==== Proof.DaQkvPrep.lean ====
module

public import proofs.«01_k».proof.Proof.DaQkvSpec
public import proofs.«01_k».proof.Proof.Gen.Kernel8Ideal.Value
public import Idealize.ShloMosaic.Lib.Pipeline.Value
public import Idealize.ShloMosaic.Lib.Pointwise
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

/-! # The blocks and the prepared arrays -/

namespace Cert.DaQkv

open Cert.Kernel8Ideal Cert.Kernel8Ideal.Gen

variable (m : (ℓ : Loc nD τ sig) → Buf (Elt Ideal) ℓ) (c : Dev nD)

theorem idx : ∀ t : Fin cfg0.N, win0_0.index t = ![t.val / 16, t.val % 16, 0] ∧ win0_1.index t = ![t.val / 16, 0, t.val % 16]
    ∧ win0_2.index t = ![0, 0] ∧ win0_3.index t = ![0, 0] ∧ win0_4.index t = ![0, 0] ∧ win0_5.index t = ![0, 0]
    ∧ win0_6.index t = ![t.val / 16, 0, 0, t.val % 16]
    ∧ win0_7.index t = ![t.val / 16, t.val % 16, 0] ∧ win0_8.index t = ![t.val / 16, t.val % 16, 0] :=
  (by decide +kernel : ∀ t : Fin grid0.N, win0_0.index t = ![t.val / 16, t.val % 16, 0] ∧ win0_1.index t = ![t.val / 16, 0, t.val % 16]
    ∧ win0_2.index t = ![0, 0] ∧ win0_3.index t = ![0, 0] ∧ win0_4.index t = ![0, 0] ∧ win0_5.index t = ![0, 0]
    ∧ win0_6.index t = ![t.val / 16, 0, 0, t.val % 16]
    ∧ win0_7.index t = ![t.val / 16, t.val % 16, 0] ∧ win0_8.index t = ![t.val / 16, t.val % 16, 0])

/-- Row `i` of tile `k`. -/
def row (k : ℕ) (i : Fin 512) : Fin 8192 := ⟨(512 * k + i.val) % 8192, Nat.mod_lt _ (by decide)⟩

theorem row_val (k : ℕ) (hk : k < 16) (i : Fin 512) : (row k i).val = 512 * k + i.val := Nat.mod_eq_of_lt (by omega)

theorem blk0 (t : Fin cfg0.N) (i : Fin 512) (k : Fin 1024) (hb : t.val / 16 < 2) :
    iblk m c 0 t (ix3 0 i k) = m ((c : Thread nD τ).loc main_arg0) (ix3 ⟨t.val / 16, hb⟩ (row (t.val % 16) i) k) := by
  have h := row_val (t.val % 16) (Nat.mod_lt _ (by decide)) i
  generalize row (t.val % 16) i = q at h ⊢
  blk_ext! [iblk, V, idx t]
theorem blk1 (t : Fin cfg0.N) (i : Fin 512) (hb : t.val / 16 < 2) :
    iblk m c 1 t (ix3 0 0 i) = V m c main_v23 (ix3 ⟨t.val / 16, hb⟩ 0 (row (t.val % 16) i)) := by
  have h := row_val (t.val % 16) (Nat.mod_lt _ (by decide)) i
  generalize row (t.val % 16) i = q at h ⊢
  blk_ext! [iblk, idx t]
theorem blk2 (t : Fin cfg0.N) (k : Fin 1024) : iblk m c 2 t (ix2 0 k) = V m c main_v24 (ix2 0 k) := by
  blk_ext! [iblk, idx t]
theorem blk3 (t : Fin cfg0.N) (k : Fin 1024) (j : Fin 3072) : iblk m c 3 t (ix2 k j) = V m c main_v25 (ix2 k j) := by
  blk_ext! [iblk, idx t]
theorem blk4 (t : Fin cfg0.N) (l : Fin 128) : iblk m c 4 t (ix2 0 l) = V m c main_v14 (ix2 0 l) := by
  blk_ext! [iblk, idx t]
theorem blk5 (t : Fin cfg0.N) (l : Fin 128) : iblk m c 5 t (ix2 0 l) = V m c main_v21 (ix2 0 l) := by
  blk_ext! [iblk, idx t]

theorem prep1 (b : Fin 2) (t : Fin 8192) : V m c main_v23 (ix3 b 0 t)
    = ((((m ((c : Thread nD τ).loc main_arg1) (ix2 b t) : BitVec 32).toInt : ℝ)) : EReal) := by
  unfold V
  after_reads_at
  rfl
theorem prep2 (k : Fin 1024) : V m c main_v24 (ix2 0 k) = (m ((c : Thread nD τ).loc main_arg2) (ix1 k) : EReal) := by
  unfold V
  after_reads_at
theorem prep3 (k : Fin 1024) (j : Fin 3072) : V m c main_v25 (ix2 k j) = (m ((c : Thread nD τ).loc main_arg3) (ix2 k j) : EReal) := by
  unfold V
  after_reads_at
theorem prep4 (l : Fin 128) : V m c main_v14 (ix2 0 l) = rate ⟨l.val % 32, by omega⟩ := by
  unfold V
  after_reads_at
  unfold rate
  pointwise [Cert.Reference8Ideal.Read.val_main_v10, Cert.Reference8Ideal.Read.val_main_v9, Cert.Reference8Ideal.Read.val_main_v8,
    Cert.Reference8Ideal.Read.val_main_v7, Cert.Reference8Ideal.Read.val_main_v6, Cert.Reference8Ideal.Read.val_main_v5,
    Cert.Reference8Ideal.Read.val_main_v4, Cert.Reference8Ideal.Read.val_main_v3, Cert.Reference8Ideal.Read.val_main_v2,
    Cert.Reference8Ideal.Read.val_main_v1, Cert.Reference8Ideal.Read.val_main_v0, Cert.Reference8Ideal.Read.val_main_cst,
    Cert.Reference8Ideal.Read.val_main_cst_0, Cert.Reference8Ideal.Read.val_main_cst_1, Cert.Reference8Ideal.Read.val_main_cst_2,
    Cert.Reference8Ideal.Read.val_main_cst_3]
theorem neg_one : Ideal.ofBits FTy.f32 3212836864#32 = (-1 : EReal) := by
  have h : Ideal.ofBits FTy.f32 3212836864#32 = ((-(1 : ℝ) : ℝ) : EReal) := by
    simp [Ideal.ofBits, Ideal.ieee, -EReal.coe_mul, -EReal.coe_neg]
    norm_num
  rw [h, EReal.coe_neg]
  rfl

theorem sign_word : ∀ l : Fin 128, IntOp.cmpi CmpIPredicate.slt
    (Scalar.select
      (IntOp.andi
        (IntOp.cmpi CmpIPredicate.ne (IntOp.cmpi CmpIPredicate.slt (IntOp.remsi ArithUnit.host (BitVec.ofNat 32 l.val) 64#32) 0#32)
          (IntOp.cmpi CmpIPredicate.slt 64#32 0#32))
        (IntOp.cmpi CmpIPredicate.ne (IntOp.remsi ArithUnit.host (BitVec.ofNat 32 l.val) 64#32) 0#32))
      (IntOp.addi (IntOp.remsi ArithUnit.host (BitVec.ofNat 32 l.val) 64#32) 64#32)
      (IntOp.remsi ArithUnit.host (BitVec.ofNat 32 l.val) 64#32)) 32#32 = if l.val % 64 < 32 then 1#1 else 0#1 := by
  decide +kernel
theorem prep5 (l : Fin 128) : V m c main_v21 (ix2 0 l) = if l.val % 64 < 32 then (-1 : EReal) else 1 := by
  unfold V
  after_reads_at
  unfold id
  pointwise []
  refine (congrArg (fun w => Scalar.select w (Ideal.ofBits FTy.f32 3212836864#32) (1 : EReal)) (sign_word l)).trans ?_
  by_cases h : l.val % 64 < 32
  · rw [if_pos h, if_pos h]
    exact neg_one
  · rw [if_neg h, if_neg h]
    rfl

end Cert.DaQkv

end
-- ==== Proof.DaQkvRef.lean ====
module

public import proofs.«01_k».proof.Proof.DaQkvSpec
public import proofs.«01_k».proof.Proof.Gen.Reference8Ideal.Run
public import Idealize.ShloMosaic.Lib.Pipeline.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # What the plain lines of the call compute -/

namespace Cert.DaQkv

open Cert.Reference8Ideal Cert.Reference8Ideal.Gen Cert.Reference8Ideal.Read
open Cert.Ffn (rms)

variable (x0 : Vec Ideal S2x8192x1024 .f32) (x1 : Vec Ideal S2x8192 .i32) (x2 : Vec Ideal S1024 .f32)
  (x3 : Vec Ideal S1024x3072 .f32)

theorem v32_apply (b : Fin 2) (t : Fin 8192) (j : Fin 3072) : val_main_v32 (F := Ideal) x0 x2 x3 (ix3 b t j)
    = projE (fun k => x0 (ix3 b t k)) (fun k => x2 (ix1 k)) (fun k j => x3 (ix2 k j)) j := by
  pointwise [val_main_v32, val_main_v31, val_main_v30, val_main_v29, val_main_v28, val_main_v27, val_main_v26, val_main_v25,
    val_main_v24, val_main_v23, val_main_v22, val_main_v21, val_main_v20, val_main_v19, val_main_cst_4, val_main_cst_5, val_main_cst_6]
  rfl

theorem v17_apply (b : Fin 2) (t : Fin 8192) (i : Fin 32) : val_main_v17 (F := Ideal) x1 (ix3 b t i) = cosE (x1 (ix2 b t)) i := by
  unfold val_main_v17 val_main_v16 val_main_v15 val_main_v14 val_main_v13 val_main_v12 val_main_v11 cosE rate
  generalize val_main_v10 (F := Ideal) = p
  pointwise []
  rfl

theorem v18_apply (b : Fin 2) (t : Fin 8192) (i : Fin 32) : val_main_v18 (F := Ideal) x1 (ix3 b t i) = sinE (x1 (ix2 b t)) i := by
  unfold val_main_v18 val_main_v16 val_main_v15 val_main_v14 val_main_v13 val_main_v12 val_main_v11 sinE rate
  generalize val_main_v10 (F := Ideal) = p
  pointwise []
  rfl

theorem v51_apply (b : Fin 2) (t : Fin 8192) (h : Fin 16) (f : Fin 64) : val_main_v51 (F := Ideal) x0 x1 x2 x3 (ix4 b t h f)
    = ropeE (colsE 0 (by omega) (fun k => x0 (ix3 b t k)) (fun k => x2 (ix1 k)) (fun k j => x3 (ix2 k j))) (cosE (x1 (ix2 b t))) (sinE (x1 (ix2 b t)))
      ⟨64 * h.val + f.val, by omega⟩ := by
  unfold val_main_v51 val_main_v50 val_main_v49 val_main_v48 val_main_v47 val_main_v46 val_main_v45 val_main_v44 val_main_v43 val_main_v42 val_main_v41
    val_main_v40 val_main_v39 val_main_v38 val_main_v37 val_main_v36 val_main_v33
  have hp := v32_apply x0 x2 x3 b t
  have hc := v17_apply x1 b t
  have hs := v18_apply x1 b t
  generalize val_main_v32 (F := Ideal) x0 x2 x3 = p at hp ⊢
  generalize val_main_v17 (F := Ideal) x1 = c at hc ⊢
  generalize val_main_v18 (F := Ideal) x1 = s at hs ⊢
  pointwise []
  unfold ropeE
  by_cases hf : f.val < 32
  · rw [dif_pos hf, dif_pos (show (64 * h.val + f.val) % 64 < 32 by omega)]
    simp only [hp, hc, hs]
    unfold colsE
    refine congrArg₂ (· - ·) (congrArg₂ (· * ·) ?_ ?_) (congrArg₂ (· * ·) ?_ ?_)
    · exact congrArg (projE _ _ _) (Fin.ext (by show h.val * 64 + f.val = 0 + (64 * h.val + f.val); omega))
    · exact congrArg (cosE _) (Fin.ext (by show f.val = (64 * h.val + f.val) % 32; omega))
    · exact congrArg (projE _ _ _) (Fin.ext (by show h.val * 64 + (32 + f.val) = 0 + (64 * h.val + f.val + 32); omega))
    · exact congrArg (sinE _) (Fin.ext (by show f.val = (64 * h.val + f.val) % 32; omega))
  · rw [dif_neg hf, dif_neg (show ¬(64 * h.val + f.val) % 64 < 32 by omega)]
    simp only [hp, hc, hs]
    unfold colsE
    refine congrArg₂ (· + ·) (congrArg₂ (· * ·) ?_ ?_) (congrArg₂ (· * ·) ?_ ?_)
    · exact congrArg (projE _ _ _) (Fin.ext (by show h.val * 64 + (32 + (f.val - 32)) = 0 + (64 * h.val + f.val); omega))
    · exact congrArg (cosE _) (Fin.ext (by show f.val - 32 = (64 * h.val + f.val) % 32; omega))
    · exact congrArg (projE _ _ _) (Fin.ext (by show h.val * 64 + (f.val - 32) = 0 + (64 * h.val + f.val - 32); omega))
    · exact congrArg (sinE _) (Fin.ext (by show f.val - 32 = (64 * h.val + f.val) % 32; omega))

theorem v69_apply (b : Fin 2) (t : Fin 8192) (h : Fin 16) (f : Fin 64) : val_main_v69 (F := Ideal) x0 x1 x2 x3 (ix4 b t h f)
    = ropeE (colsE 1024 (by omega) (fun k => x0 (ix3 b t k)) (fun k => x2 (ix1 k)) (fun k j => x3 (ix2 k j))) (cosE (x1 (ix2 b t))) (sinE (x1 (ix2 b t)))
      ⟨64 * h.val + f.val, by omega⟩ := by
  unfold val_main_v69 val_main_v68 val_main_v67 val_main_v66 val_main_v65 val_main_v64 val_main_v63 val_main_v62 val_main_v61 val_main_v60 val_main_v59
    val_main_v58 val_main_v57 val_main_v56 val_main_v55 val_main_v54 val_main_v34
  have hp := v32_apply x0 x2 x3 b t
  have hc := v17_apply x1 b t
  have hs := v18_apply x1 b t
  generalize val_main_v32 (F := Ideal) x0 x2 x3 = p at hp ⊢
  generalize val_main_v17 (F := Ideal) x1 = c at hc ⊢
  generalize val_main_v18 (F := Ideal) x1 = s at hs ⊢
  pointwise []
  unfold ropeE
  by_cases hf : f.val < 32
  · rw [dif_pos hf, dif_pos (show (64 * h.val + f.val) % 64 < 32 by omega)]
    simp only [hp, hc, hs]
    unfold colsE
    refine congrArg₂ (· - ·) (congrArg₂ (· * ·) ?_ ?_) (congrArg₂ (· * ·) ?_ ?_)
    · exact congrArg (projE _ _ _) (Fin.ext (by show 1024 + (h.val * 64 + f.val) = 1024 + (64 * h.val + f.val); omega))
    · exact congrArg (cosE _) (Fin.ext (by show f.val = (64 * h.val + f.val) % 32; omega))
    · exact congrArg (projE _ _ _) (Fin.ext (by show 1024 + (h.val * 64 + (32 + f.val)) = 1024 + (64 * h.val + f.val + 32); omega))
    · exact congrArg (sinE _) (Fin.ext (by show f.val = (64 * h.val + f.val) % 32; omega))
  · rw [dif_neg hf, dif_neg (show ¬(64 * h.val + f.val) % 64 < 32 by omega)]
    simp only [hp, hc, hs]
    unfold colsE
    refine congrArg₂ (· + ·) (congrArg₂ (· * ·) ?_ ?_) (congrArg₂ (· * ·) ?_ ?_)
    · exact congrArg (projE _ _ _) (Fin.ext (by show 1024 + (h.val * 64 + (32 + (f.val - 32))) = 1024 + (64 * h.val + f.val); omega))
    · exact congrArg (cosE _) (Fin.ext (by show f.val - 32 = (64 * h.val + f.val) % 32; omega))
    · exact congrArg (projE _ _ _) (Fin.ext (by show 1024 + (h.val * 64 + (f.val - 32)) = 1024 + (64 * h.val + f.val - 32); omega))
    · exact congrArg (sinE _) (Fin.ext (by show f.val - 32 = (64 * h.val + f.val) % 32; omega))

theorem v71_apply (b : Fin 2) (h : Fin 8) (f : Fin 128) (t : Fin 8192) : val_main_v71 (F := Ideal) x0 x1 x2 x3 (ix4 b h f t)
    = qryE (colsE 0 (by omega) (fun k => x0 (ix3 b t k)) (fun k => x2 (ix1 k)) (fun k j => x3 (ix2 k j))) (cosE (x1 (ix2 b t))) (sinE (x1 (ix2 b t)))
      ⟨128 * h.val + f.val, by omega⟩ := by
  unfold val_main_v71 val_main_v70 val_main_v53
  have hp := v51_apply x0 x1 x2 x3 b t
  generalize val_main_v51 (F := Ideal) x0 x1 x2 x3 = p at hp ⊢
  pointwise [val_main_v52, val_main_cst_7]
  rw [hp]
  unfold qryE
  refine congrArg (· * _) (congrArg (ropeE _ _ _) (Fin.ext ?_))
  show 64 * (h.val * 2 + f.val / 64) + f.val % 64 = 128 * h.val + f.val
  omega

/-- The rotated keys. -/
def kArr (i : S2x8192x1024.Idx) : EReal :=
  ropeE (colsE 1024 (by omega) (fun k => x0 (ix3 (i 0) (i 1) k)) (fun k => x2 (ix1 k)) (fun k j => x3 (ix2 k j))) (cosE (x1 (ix2 (i 0) (i 1))))
    (sinE (x1 (ix2 (i 0) (i 1)))) (i 2)

/-- The values. -/
def vArr (i : S2x8192x1024.Idx) : EReal :=
  colsE 2048 (by omega) (fun k => x0 (ix3 (i 0) (i 1) k)) (fun k => x2 (ix1 k)) (fun k j => x3 (ix2 k j)) (i 2)

theorem ref82 : val_main_v82 (F := Ideal) x0 x1 x2 x3 = kArr x0 x1 x2 x3 := by
  funext i
  idx_vars i
  have hp := v69_apply x0 x1 x2 x3 i0 i1
  rw [val_main_v82_apply, val_main_v81_apply]
  generalize val_main_v69 (F := Ideal) x0 x1 x2 x3 = p at hp ⊢
  have e : idx_main_v81 (ix3 i0 i1 i2) = ix4 i0 i1 ⟨i2.val / 64, by omega⟩ ⟨i2.val % 64, by omega⟩ := by
    funext a
    refine Fin.ext ?_
    match a with
    | ⟨0, _⟩ => show ((i0.val * 8192 + i1.val) * 1024 + i2.val) / 8388608 = i0.val; omega
    | ⟨1, _⟩ => show ((i0.val * 8192 + i1.val) * 1024 + i2.val) / 1024 % 8192 = i1.val; omega
    | ⟨2, _⟩ => show ((i0.val * 8192 + i1.val) * 1024 + i2.val) / 64 % 16 = i2.val / 64; omega
    | ⟨3, _⟩ => show ((i0.val * 8192 + i1.val) * 1024 + i2.val) % 64 = i2.val % 64; omega
  rw [e]
  refine Eq.trans ?_ ((hp ⟨i2.val / 64, by omega⟩ ⟨i2.val % 64, by omega⟩).trans (congrArg (ropeE _ _ _) (Fin.ext ?_)))
  · rfl
  · show 64 * (i2.val / 64) + i2.val % 64 = i2.val
    omega

theorem ref83 : val_main_v83 (F := Ideal) x0 x2 x3 = vArr x0 x2 x3 := by
  funext i
  idx_vars i
  unfold val_main_v83 val_main_v35
  have hp := v32_apply x0 x2 x3 i0 i1
  generalize val_main_v32 (F := Ideal) x0 x2 x3 = p at hp ⊢
  pointwise []
  exact hp _

/-- The plain lines run, and their arguments and counters end as they began. -/
theorem frame_ref : Cert.quiescent_Reference8Ideal := fun m ρ _ =>
  (θ_run Cert.Reference8Ideal.defs _ _).mono (fun r h => ⟨fun c => (h c).2.2.2, Idealize.ShloMosaic.sem_eq_zero_of_no_sems (by decide) r.2⟩)
    (Cert.Reference8Ideal.Value.run (F := Ideal) m ρ)

end Cert.DaQkv

end
-- ==== Proof.DaQkvRefQ.lean ====
module

public import proofs.«01_k».proof.Proof.DaQkvRef
public import proofs.«01_k».proof.Proof.Gen.Reference8Ideal.Run
public import Idealize.ShloMosaic.Lib.Pipeline.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # How the plain lines lay out the transposed queries -/

namespace Cert.DaQkv

open Cert.Reference8Ideal Cert.Reference8Ideal.Gen Cert.Reference8Ideal.Read
open Cert.Ffn (rms)

variable (x0 : Vec Ideal S2x8192x1024 .f32) (x1 : Vec Ideal S2x8192 .i32) (x2 : Vec Ideal S1024 .f32)
  (x3 : Vec Ideal S1024x3072 .f32)

theorem fill_zero : FloatOps.sitofp (F := Ideal) FTy.f32 (0#32) = (0 : EReal) := by
  show (((0#32).toInt : ℝ) : EReal) = 0
  simp

theorem v73_apply (b : Fin 2) (h : Fin 8) (f : Fin 128) (t : Fin 8192) : val_main_v73 (F := Ideal) x0 x1 x2 x3 (ix4 b h f t)
    = if f.val < 64 then val_main_v71 (F := Ideal) x0 x1 x2 x3 (ix4 b h f t) else 0 := by
  unfold val_main_v73 val_main_v72
  generalize val_main_v71 (F := Ideal) x0 x1 x2 x3 = p
  pointwise [val_main_call0_v0]
  by_cases hf : f.val < 64
  · rw [dif_pos hf, if_pos hf]
  · rw [dif_neg hf, if_neg hf]
    exact fill_zero

theorem v75_apply (b : Fin 2) (h : Fin 8) (f : Fin 128) (t : Fin 8192) : val_main_v75 (F := Ideal) x0 x1 x2 x3 (ix4 b h f t)
    = if 64 ≤ f.val then val_main_v71 (F := Ideal) x0 x1 x2 x3 (ix4 b h f t) else 0 := by
  unfold val_main_v75 val_main_v74
  generalize val_main_v71 (F := Ideal) x0 x1 x2 x3 = p
  pointwise [val_main_call1_v0]
  by_cases hf : 64 ≤ f.val
  · rw [dif_pos (by omega), if_pos hf]
    refine congrArg (fun z => p (ix4 b h z t)) (Fin.ext ?_)
    show 64 + (f.val - 64) = f.val
    omega
  · rw [dif_neg (by omega), if_neg hf]
    exact fill_zero

theorem v76_apply (b : Fin 2) (h : Fin 8) (f : Fin 128) (k : Fin 16) (r : Fin 512) : val_main_v76 (F := Ideal) x0 x1 x2 x3 (ix5 b h f k r)
    = val_main_v73 (F := Ideal) x0 x1 x2 x3 (ix4 b h f ⟨512 * k.val + r.val, by omega⟩) := by
  unfold val_main_v76
  generalize val_main_v73 (F := Ideal) x0 x1 x2 x3 = p
  pointwise []
  refine congrArg (fun z => p (ix4 b h f z)) (Fin.ext ?_)
  show k.val * 512 + r.val = 512 * k.val + r.val
  omega

theorem v77_apply (b : Fin 2) (h : Fin 8) (f : Fin 128) (k : Fin 16) (r : Fin 512) : val_main_v77 (F := Ideal) x0 x1 x2 x3 (ix5 b h f k r)
    = val_main_v75 (F := Ideal) x0 x1 x2 x3 (ix4 b h f ⟨512 * k.val + r.val, by omega⟩) := by
  unfold val_main_v77
  generalize val_main_v75 (F := Ideal) x0 x1 x2 x3 = p
  pointwise []
  refine congrArg (fun z => p (ix4 b h f z)) (Fin.ext ?_)
  show k.val * 512 + r.val = 512 * k.val + r.val
  omega

theorem v78_apply (b : Fin 2) (h : Fin 8) (f : Fin 128) (k : Fin 16) (m : Fin 1024) :
     val_main_v78 (F := Ideal) x0 x1 x2 x3 (ix5 b h f k m) = if hm : m.val < 512 then val_main_v76 (F := Ideal) x0 x1 x2 x3 (ix5 b h f k ⟨m.val, hm⟩)
      else val_main_v77 (F := Ideal) x0 x1 x2 x3 (ix5 b h f k ⟨m.val-512, by omega⟩) := by
  unfold val_main_v78
  generalize val_main_v76 (F := Ideal) x0 x1 x2 x3 = p
  generalize val_main_v77 (F := Ideal) x0 x1 x2 x3 = q
  pointwise []

theorem v80_apply (b : Fin 2) (h : Fin 8) (f : Fin 128) (n : Fin 16384) :
    val_main_v80 (F := Ideal) x0 x1 x2 x3 (ix4 b h f n)
     = val_main_v78 (F := Ideal) x0 x1 x2 x3 (ix5 b h f ⟨n.val / 1024, by omega⟩ ⟨n.val % 1024, by omega⟩) := by
  rw [val_main_v80_apply, val_main_v79_apply]
  generalize val_main_v78 (F := Ideal) x0 x1 x2 x3 = p
  have e : idx_main_v79 (ix4 b h f n) = ix5 b h f ⟨n.val / 1024, by omega⟩ ⟨n.val % 1024, by omega⟩ := by
    funext a
    refine Fin.ext ?_
    match a with
    | ⟨0, _⟩ => show (((b.val * 8 + h.val) * 128 + f.val) * 16384 + n.val) / 16777216 = b.val; omega
    | ⟨1, _⟩ => show (((b.val * 8 + h.val) * 128 + f.val) * 16384 + n.val) / 2097152 % 8 = h.val; omega
    | ⟨2, _⟩ => show (((b.val * 8 + h.val) * 128 + f.val) * 16384 + n.val) / 16384 % 128 = f.val; omega
    | ⟨3, _⟩ => show (((b.val * 8 + h.val) * 128 + f.val) * 16384 + n.val) / 1024 % 16 = n.val / 1024; omega
    | ⟨4, _⟩ => show (((b.val * 8 + h.val) * 128 + f.val) * 16384 + n.val) % 1024 = n.val % 1024; omega
  rw [e]
  rfl

/-- Column `n` of a head's rows belongs to position `n / 1024 * 512 + n % 512`. -/
def posOf (n : Fin 16384) : Fin 8192 := ⟨512 * (n.val / 1024) + n.val % 512, by omega⟩

/-- A column of the first half of its thousand keeps the first 64 lanes, of the second half the last 64. -/
def keepE (n : Fin 16384) (f : Fin 128) (z : EReal) : EReal :=
  if n.val % 1024 < 512 then if f.val < 64 then z else 0 else if 64 ≤ f.val then z else 0

/-- The scaled queries, transposed and spread. -/
def qArr (i : S2x8x128x16384.Idx) : EReal :=
  keepE (i 3) (i 2)
    (qryE (colsE 0 (by omega) (fun k => x0 (ix3 (i 0) (posOf (i 3)) k)) (fun k => x2 (ix1 k)) (fun k j => x3 (ix2 k j)))
      (cosE (x1 (ix2 (i 0) (posOf (i 3))))) (sinE (x1 (ix2 (i 0) (posOf (i 3)))))
      ⟨128 * (i 1).val + (i 2).val, by
        have h1 : (i 1).val < 8 := (i 1).isLt
        have h2 : (i 2).val < 128 := (i 2).isLt
        omega⟩)

theorem ref80 : val_main_v80 (F := Ideal) x0 x1 x2 x3 = qArr x0 x1 x2 x3 := by
  funext i
  idx_vars i
  refine (v80_apply x0 x1 x2 x3 i0 i1 i2 i3).trans ((v78_apply x0 x1 x2 x3 _ _ _ _ _).trans ?_)
  have hv := v71_apply x0 x1 x2 x3 i0 i1 i2 (posOf i3)
  by_cases h : i3.val % 1024 < 512
  · rw [dif_pos h]
    have e : (⟨512 * (i3.val / 1024) + i3.val % 1024, by omega⟩ : Fin 8192) = posOf i3 := Fin.ext (by
      show 512 * (i3.val / 1024) + i3.val % 1024 = 512 * (i3.val / 1024) + i3.val % 512
      omega)
    refine (v76_apply x0 x1 x2 x3 _ _ _ _ _).trans ((v73_apply x0 x1 x2 x3 _ _ _ _).trans ?_)
    refine Eq.trans ?_ (if_pos h).symm
    refine if_congr Iff.rfl ?_ rfl
    exact (congrArg (fun z => val_main_v71 (F := Ideal) x0 x1 x2 x3 (ix4 i0 i1 i2 z)) e).trans hv
  · rw [dif_neg h]
    have e : (⟨512 * (i3.val / 1024) + (i3.val % 1024 - 512), by omega⟩ : Fin 8192) = posOf i3 := Fin.ext (by
      show 512 * (i3.val / 1024) + (i3.val % 1024 - 512) = 512 * (i3.val / 1024) + i3.val % 512
      omega)
    refine (v77_apply x0 x1 x2 x3 _ _ _ _ _).trans ((v75_apply x0 x1 x2 x3 _ _ _ _).trans ?_)
    refine Eq.trans ?_ (if_neg h).symm
    refine if_congr Iff.rfl ?_ rfl
    exact (congrArg (fun z => val_main_v71 (F := Ideal) x0 x1 x2 x3 (ix4 i0 i1 i2 z)) e).trans hv

end Cert.DaQkv

end
-- ==== Proof.DaQkv.lean ====
module

public import proofs.«01_k».proof.Proof.DaQkvList
public import proofs.«01_k».proof.Proof.DaQkvPrep
public import proofs.«01_k».proof.Proof.DaQkvRefQ

@[expose] public section

set_option maxRecDepth 16384

noncomputable section

open Idealize.ShloMosaic Idealize.ShloMosaic.TcCoe Idealize.SL.Sem
open Idealize.ShloMosaic.Pipeline (Dat)

/-! # The queries, keys and values of the call are those of the plain lines -/

namespace Cert.DaQkv

open Cert.Kernel8Ideal Cert.Kernel8Ideal.Gen

variable (m : (ℓ : Loc nD τ sig) → Buf (Elt Ideal) ℓ) (c : Dev nD)

section

variable (t : Fin cfg0.N) (hb : t.val / 16 < 2)

/-- The columns from `o` on that a tile computes are those of its row of the array. -/
theorem cols_tile (o : ℕ) (ho : o + 1024 ≤ 3072) (i : Fin 512) :
    colsE o ho (fun k => iblk m c 0 t (ix3 0 i k)) (fun k => iblk m c 2 t (ix2 0 k)) (fun k j => iblk m c 3 t (ix2 k j))
      = colsE o ho (fun k => m ((c : Thread nD τ).loc main_arg0) (ix3 ⟨t.val / 16, hb⟩ (row (t.val % 16) i) k))
        (fun k => m ((c : Thread nD τ).loc main_arg2) (ix1 k)) (fun k j => m ((c : Thread nD τ).loc main_arg3) (ix2 k j)) := by
  have h0 : (fun k => iblk m c 0 t (ix3 0 i k)) = fun k => m ((c : Thread nD τ).loc main_arg0) (ix3 ⟨t.val / 16, hb⟩ (row (t.val % 16) i) k) :=
    funext fun k => blk0 m c t i k hb
  have h2 : (fun k => iblk m c 2 t (ix2 0 k)) = fun k => m ((c : Thread nD τ).loc main_arg2) (ix1 k) :=
    funext fun k => (blk2 m c t k).trans (prep2 m c k)
  have h3 : (fun k j => iblk m c 3 t (ix2 k j)) = fun k j => m ((c : Thread nD τ).loc main_arg3) (ix2 k j) :=
    funext fun k => funext fun j => (blk3 m c t k j).trans (prep3 m c k j)
  rw [h0, h2, h3]

/-- A lane the tile turns is the rotated lane of its row. -/
theorem turn_tile (y : Fin 1024 → EReal) (i : Fin 512) (g : Fin 8) (l : Fin 128) :
    turnE y (k0_pay52 (F := Ideal) (iblk m c 0 t) (iblk m c 1 t) (iblk m c 2 t) (iblk m c 3 t) (iblk m c 4 t) (iblk m c 5 t) (ix2 i l)) (k0_pay53 (F := Ideal) (iblk m c 0 t) (iblk m c 1 t) (iblk m c 2 t) (iblk m c 3 t) (iblk m c 4 t) (iblk m c 5 t) (ix2 i l)) (k0_pay57 (F := Ideal) (iblk m c 0 t) (iblk m c 1 t) (iblk m c 2 t) (iblk m c 3 t) (iblk m c 4 t) (iblk m c 5 t) (ix2 i l)) g l
      = ropeE y (cosE (m ((c : Thread nD τ).loc main_arg1) (ix2 ⟨t.val / 16, hb⟩ (row (t.val % 16) i))))
        (sinE (m ((c : Thread nD τ).loc main_arg1) (ix2 ⟨t.val / 16, hb⟩ (row (t.val % 16) i)))) ⟨128 * g.val + l.val, by omega⟩ := by
  rw [cos_apply, sin_apply, half_apply]
  exact turn_rope y _ _ _ _ g l ((blk1 m c t i hb).trans (prep1 m c _ _)) ((blk4 m c t l).trans (prep4 m c l)) ((blk5 m c t l).trans (prep5 m c l))

end

/-- The queries. -/
theorem arr6_eq : (dats m 0 c).arrAt 6 cfg0.N = qArr (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  idx_vars y
  obtain rfl : y0 = 0 := Subsingleton.elim (α := Fin 1) y0 0
  have hN : cfg0.grid.N = 32 := by decide +kernel
  have h4 := (t.isLt).trans_eq hN
  have hb : t.val / 16 < 2 := by omega
  have e : ((View.whole main_v26_0).slice (win0_6.rect t)).emb (ix4 0 y1 y2 y3)
      = ix4 (⟨t.val / 16, hb⟩ : Fin 2) y1 y2 (⟨1024 * (t.val % 16) + y3.val, by omega⟩ : Fin 16384) := by
    blk_ext [idx t]
  rw [e]
  have hr := row_val (t.val % 16) (Nat.mod_lt _ (by decide)) ⟨y3.val % 512, by omega⟩
  have ep : posOf ⟨1024 * (t.val % 16) + y3.val, by omega⟩ = row (t.val % 16) ⟨y3.val % 512, by omega⟩ := Fin.ext (by
    refine Eq.trans ?_ hr.symm
    show 512 * ((1024 * (t.val % 16) + y3.val) / 1024) + (1024 * (t.val % 16) + y3.val) % 512 = 512 * (t.val % 16) + y3.val % 512
    omega)
  refine (out6_apply (iblk m c 0 t) (iblk m c 1 t) (iblk m c 2 t) (iblk m c 3 t) (iblk m c 4 t) (iblk m c 5 t) y1 y2 y3).trans ((qrysG_at _ _ _ _ y1 y2 y3 ⟨y3.val % 512, by omega⟩ rfl).trans ?_)
  rw [turn_tile m c t hb _ ⟨y3.val % 512, by omega⟩ y1 y2]
  simp only [dotQ_apply]
  rw [cols_tile m c t hb 0 (by omega) ⟨y3.val % 512, by omega⟩]
  show _ = keepE ⟨1024 * (t.val % 16) + y3.val, by omega⟩ y2 (qryE (colsE 0 (by omega)
    (fun k => m ((c : Thread nD τ).loc main_arg0) (ix3 ⟨t.val / 16, hb⟩ (posOf ⟨1024 * (t.val % 16) + y3.val, by omega⟩) k))
    (fun k => m ((c : Thread nD τ).loc main_arg2) (ix1 k)) (fun k j => m ((c : Thread nD τ).loc main_arg3) (ix2 k j)))
    (cosE (m ((c : Thread nD τ).loc main_arg1) (ix2 ⟨t.val / 16, hb⟩ (posOf ⟨1024 * (t.val % 16) + y3.val, by omega⟩))))
    (sinE (m ((c : Thread nD τ).loc main_arg1) (ix2 ⟨t.val / 16, hb⟩ (posOf ⟨1024 * (t.val % 16) + y3.val, by omega⟩))))
    ⟨128 * y1.val + y2.val, by omega⟩)
  rw [ep]
  unfold keepE halfE qryE
  have em : (1024 * (t.val % 16) + y3.val) % 1024 = y3.val := by omega
  dsimp only
  rw [em]

/-- The keys. -/
theorem arr7_eq : (dats m 0 c).arrAt 7 cfg0.N = kArr (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  idx_vars y
  obtain rfl : y0 = 0 := Subsingleton.elim (α := Fin 1) y0 0
  have hN : cfg0.grid.N = 32 := by decide +kernel
  have h4 := (t.isLt).trans_eq hN
  have hb : t.val / 16 < 2 := by omega
  have e : ((View.whole main_v26_1).slice (win0_7.rect t)).emb (ix3 0 y1 y2) = ix3 (⟨t.val / 16, hb⟩ : Fin 2) (row (t.val % 16) y1) y2 := by
    have h := row_val (t.val % 16) (Nat.mod_lt _ (by decide)) y1
    generalize row (t.val % 16) y1 = q at h ⊢
    blk_ext [idx t]
  rw [e]
  have e1 : y2 = (⟨128 * (⟨y2.val / 128, by omega⟩ : Fin 8).val + (⟨y2.val % 128, by omega⟩ : Fin 128).val, by
      show 128 * (y2.val / 128) + y2.val % 128 < 1024
      omega⟩ : Fin 1024) := Fin.ext (by
    show y2.val = 128 * (y2.val / 128) + y2.val % 128
    omega)
  refine (out7_apply (iblk m c 0 t) (iblk m c 1 t) (iblk m c 2 t) (iblk m c 3 t) (iblk m c 4 t) (iblk m c 5 t) y1 y2).trans ?_
  refine (congrArg (fun z => keysG (k0_pay52 (iblk m c 0 t) (iblk m c 1 t) (iblk m c 2 t) (iblk m c 3 t) (iblk m c 4 t) (iblk m c 5 t)) (k0_pay53 (iblk m c 0 t) (iblk m c 1 t) (iblk m c 2 t) (iblk m c 3 t) (iblk m c 4 t) (iblk m c 5 t)) (k0_pay57 (iblk m c 0 t) (iblk m c 1 t) (iblk m c 2 t) (iblk m c 3 t) (iblk m c 4 t) (iblk m c 5 t)) (k0_pay59 (iblk m c 0 t) (iblk m c 1 t) (iblk m c 2 t) (iblk m c 3 t) (iblk m c 4 t) (iblk m c 5 t)) (ix3 0 y1 z)) e1).trans ?_
  refine (keysG_at _ _ _ _ ⟨y2.val / 128, by omega⟩ y1 ⟨y2.val % 128, by omega⟩).trans ?_
  rw [turn_tile m c t hb _ y1 ⟨y2.val / 128, by omega⟩ ⟨y2.val % 128, by omega⟩]
  simp only [dotK_apply]
  rw [cols_tile m c t hb 1024 (by omega) y1]
  exact congrArg (ropeE _ _ _) e1.symm

/-- The values. -/
theorem arr8_eq : (dats m 0 c).arrAt 8 cfg0.N = vArr (m ((c : Thread nD τ).loc main_arg0)) (m ((c : Thread nD τ).loc main_arg2)) (m ((c : Thread nD τ).loc main_arg3)) := by
  refine (dats m 0 c).arrAt_eq_of_covers 8 _ (by decide +kernel) fun t hf y => ?_
  blk_simp
  rw [after0_8]
  idx_vars y
  obtain rfl : y0 = 0 := Subsingleton.elim (α := Fin 1) y0 0
  have hN : cfg0.grid.N = 32 := by decide +kernel
  have h4 := (t.isLt).trans_eq hN
  have hb : t.val / 16 < 2 := by omega
  have e : ((View.whole main_v26_2).slice (win0_8.rect t)).emb (ix3 0 y1 y2) = ix3 (⟨t.val / 16, hb⟩ : Fin 2) (row (t.val % 16) y1) y2 := by
    have h := row_val (t.val % 16) (Nat.mod_lt _ (by decide)) y1
    generalize row (t.val % 16) y1 = q at h ⊢
    blk_ext [idx t]
  rw [e]
  refine (out8_apply (iblk m c 0 t) (iblk m c 1 t) (iblk m c 2 t) (iblk m c 3 t) (iblk m c 4 t) (iblk m c 5 t) y1 y2).trans ?_
  rw [cols_tile m c t hb 2048 (by omega) y1]
  rfl

end Cert.DaQkv

namespace Cert.DaQkv

open Cert.Reference8Ideal Cert.Reference8Ideal.Gen Cert.Reference8Ideal.Read Cert.Kernel8Ideal.Gen

/-- The kernel and the plain lines leave the same three arrays, whatever the arguments hold. -/
theorem algebraic : Cert.algebraic_Kernel8Ideal_Reference8Ideal := by
  intro m ρ m' ρ' _ hag
  refine ⟨fun c => (dats m 0 c).arrAt 6 Cert.Kernel8Ideal.cfg0.N, fun c => (dats m 0 c).arrAt 7 Cert.Kernel8Ideal.cfg0.N,
    fun c => (dats m 0 c).arrAt 8 Cert.Kernel8Ideal.cfg0.N,
    Cert.Kernel8Ideal.Value.run_blocks m ρ,
    (θ_run _ _ _).mono (fun _ h c => ⟨(h c).1.trans ?_, (h c).2.1.trans ?_, (h c).2.2.1.trans ?_, (h c).2.2.2⟩) (Cert.Reference8Ideal.Value.run m' ρ')⟩
  · obtain ⟨h0, h1, h2, h3⟩ := hag c
    refine Eq.trans ?_ (arr6_eq m c).symm
    rw [val_main_v80_eq, ref80, h0, h1, h2, h3]
  · obtain ⟨h0, h1, h2, h3⟩ := hag c
    refine Eq.trans ?_ (arr7_eq m c).symm
    rw [val_main_v82_eq, ref82, h0, h1, h2, h3]
  · obtain ⟨h0, h1, h2, h3⟩ := hag c
    refine Eq.trans ?_ (arr8_eq m c).symm
    rw [val_main_v83_eq, ref83, h0, h2, h3]

end Cert.DaQkv

end
-- ==== Proof.ScanRun.lean ====
module

public import proofs.«01_k».proof.Defs
public import proofs.«01_k».proof.Proof.Gen.ReferenceIdeal.Run
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The scan's reference program: what its buffers hold when it ends -/

namespace Cert.Scan

open Cert.ReferenceIdeal Cert.ReferenceIdeal.Gen Cert.ReferenceIdeal.Value Idealize.ShloMosaic.StableHlo

variable {F : FTy → Type} [FloatOps F]

/-- Every buffer that the loop's condition or its body writes. -/
abbrev loopW : List (Ref sig .tc) := condOps_W ++ while0Ops0_W ++ while0Ops0_1_W ++ while0Ops0_2_W ++ while0Ops0_3_W ++ while0Ops0_4_W

/-- A buffer that the loop does not write goes through it unchanged. -/
theorem loop_keep (W : Dev nD → Valuation τ sig (Elt F)) (r : Ref sig .tc) (h : r ∉ loopW) (c : Dev nD) :
    ∀ k, atTrip condOps bodyI W k c (Proc.devRef .tc r) = W c (Proc.devRef .tc r)
  | 0 => rfl
  | k + 1 => by
    simp only [loopW, List.mem_append, not_or] at h
    obtain ⟨⟨⟨⟨⟨h0, h1⟩, h2⟩, h3⟩, h4⟩, h5⟩ := h
    rw [atTrip_succ]
    simp only [afterL_cons, afterL_nil]
    rw [after_of_writes_sub _ _ while0Ops0_4_writes h5, after_of_writes_sub _ _ while0Ops0_3_writes h4,
      after_of_writes_sub _ _ while0Ops0_2_writes h3, after_of_writes_sub _ _ while0Ops0_1_writes h2,
      after_of_writes_sub _ _ while0Ops0_writes h1, after_of_writes_sub _ _ condOps_writes h0]
    exact loop_keep W r (by simp only [loopW, List.mem_append, not_or]; exact ⟨⟨⟨⟨⟨h0, h1⟩, h2⟩, h3⟩, h4⟩, h5⟩) c k

/-- The eight argument buffers. -/
abbrev args : List (Ref sig .tc) := [main_arg0, main_arg1, main_arg2, main_arg3, main_arg4, main_arg5, main_arg6, main_arg7]

set_option maxRecDepth 100000 in
/-- No operation of the whole program writes an argument. -/
theorem args_keep (m : (ℓ : Loc nD τ sig) → Buf (Elt F) ℓ) (c : Dev nD) (r : Ref sig .tc) (h : r ∈ args) :
    finalContents condOps preI bodyI postI 64 m c (Proc.devRef .tc r) = m ((c : Thread nD τ).loc r) := by
  have hl : r ∉ loopW := by
    revert r; decide
  have key : ∀ (ops : List (HloOp τ sig (Elt F))) (Wl : List (Ref sig .tc))
      (hw : ops.Forall fun op => op.writes ⊆ (Wl.map (Proc.devRef (τ := τ) .tc)).toFinset)
      (hd : ∀ r ∈ args, r ∉ Wl) (V : Valuation τ sig (Elt F)), after ops V (Proc.devRef .tc r) = V (Proc.devRef .tc r) :=
    fun ops Wl hw hd V => after_of_writes_sub ops V hw (hd r h)
  unfold finalContents
  simp only [afterL_cons, afterL_nil]
  rw [key hostOps0_9 [main_v70, main_v71, main_v72, main_cst_3, main_v73, main_v74, main_cst_4, main_v75, main_v76, main_cst_5, main_v77,
      main_v78, main_v79, main_v80, main_v81, main_v82, main_v83, main_v84, main_v85, main_v86] (StableHlo.forall_writes_sub_of_map rfl) (by decide),
    key hostOps0_8 [main_call6_v0, main_call6_v1, main_call6_cst, main_call6_v2, main_call6_v3, main_call6_cst_0, main_call6_v4,
      main_call6_v5, main_v69] (StableHlo.forall_writes_sub_of_map rfl) (by decide),
    key hostOps0_7 [main_v53, main_v54, main_v55, main_v56, main_v57, main_v58, main_v59, main_v60, main_v61, main_v62, main_v63, main_v64,
      main_v65, main_v66, main_v67, main_v68] (StableHlo.forall_writes_sub_of_map rfl) (by decide),
    key condOps condOps_W condOps_writes (by decide), loop_keep _ r hl]
  simp only [entryContents, afterL_cons, afterL_nil]
  rw [key hostOps0_6 hostOps0_6_W hostOps0_6_writes (by decide), key hostOps0_5 hostOps0_5_W hostOps0_5_writes (by decide),
    key hostOps0_4 hostOps0_4_W hostOps0_4_writes (by decide), key hostOps0_3 hostOps0_3_W hostOps0_3_writes (by decide),
    key hostOps0_2 hostOps0_2_W hostOps0_2_writes (by decide), key hostOps0_1 hostOps0_1_W hostOps0_1_writes (by decide),
    key hostOps0 hostOps0_W hostOps0_writes (by decide)]

/-- The reference runs, and its arguments and counters end as they began. -/
theorem frame_ref : Cert.quiescent_ReferenceIdeal := fun m ρ _ =>
  (θ_run defs _ _).mono (fun r h => ⟨fun c => ⟨(h c main_arg0 rfl).trans (args_keep m c _ (by decide)),
      (h c main_arg1 rfl).trans (args_keep m c _ (by decide)), (h c main_arg2 rfl).trans (args_keep m c _ (by decide)),
      (h c main_arg3 rfl).trans (args_keep m c _ (by decide)), (h c main_arg4 rfl).trans (args_keep m c _ (by decide)),
      (h c main_arg5 rfl).trans (args_keep m c _ (by decide)), (h c main_arg6 rfl).trans (args_keep m c _ (by decide)),
      (h c main_arg7 rfl).trans (args_keep m c _ (by decide))⟩,
      Idealize.ShloMosaic.sem_eq_zero_of_no_sems (by decide) r.2⟩)
    (run_fold (F := Ideal) m ρ)

end Cert.Scan
end
end
-- ==== Proof.ScanGroup.lean ====
module

public import proofs.«01_k».proof.Defs
public import proofs.«01_k».proof.Proof.Gen.KernelIdeal.Value
public import Idealize.ShloMosaic.Lib.Pipeline.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! ## One chunk of the scan, group by group

The body handles the eight groups one after another, with the same operations each time. `groupState` and `groupOut` are those
operations for group `g`; the pieces that the body stores are theirs. -/

namespace Cert.Scan

open Cert.KernelIdeal Cert.KernelIdeal.Gen

variable {F : FTy → Type} [FloatOps F]

theorem sl_cols : ∀ g : Fin 8, S128x2048.Slices ![0, 256 * g.val] S128x256 := by decide
theorem sl_row : ∀ g : Fin 8, S1x2048.Slices ![0, 256 * g.val] S1x256 := by decide
theorem sl_col1 : ∀ h : Fin 32, S128x128.Slices ![0, h.val] S128x1 := by decide
theorem sl_row1 : ∀ h : Fin 32, S128x128.Slices ![h.val, 0] S1x128 := by decide
theorem inb_cols : ∀ g : Fin 8, ∀ a, (![0, 256 * g.val] : Fin 2 → Nat) a + S128x256.size a ≤ S128x2048.size a := by decide
theorem inb_row : ∀ g : Fin 8, ∀ a, (![0, 256 * g.val] : Fin 2 → Nat) a + S1x256.size a ≤ S1x2048.size a := by decide
theorem inb_bc : ∀ g : Fin 8, ∀ a, (![0, 0, 128 * g.val] : Fin 3 → Nat) a + S1x128x128.size a ≤ S1x128x1024.size a := by decide
theorem inb_tok : ∀ g : Fin 8, ∀ a, (![0, 0, 256 * g.val] : Fin 3 → Nat) a + S1x128x256.size a ≤ S1x128x2048.size a := by decide

/-- Group `g`'s block of B or of C. -/
def bc (g : Fin 8) (x : Vec F S1x128x1024 .bf16) : FVec F S128x128 .bf16 :=
  shapeCast S128x128 (View.ld x (Rect.unit ![0, 0, 128 * g.val] S1x128x128.size (inb_bc g))) shapeCasts_S1x128x128_S128x128

/-- Group `g`'s columns of a chunk-wide array. -/
def cols (g : Fin 8) {e : FTy} (x : FVec F S128x2048 e) : FVec F S128x256 e := extractStridedSlice S128x256 ![0, 256 * g.val] x (sl_cols g)

/-- Group `g`'s columns of the carried state. -/
def stCols (g : Fin 8) (x : Vec F S128x2048 .f32) : Vec F S128x256 .f32 := View.ld x (Rect.unit ![0, 256 * g.val] S128x256.size (inb_cols g))

/-- The state a chunk leaves in one group. -/
def groupState (g : Fin 8) (xe : FVec F S128x2048 .bf16) (dec : FVec F S1x2048 .f32) (b : FVec F S128x128 .bf16) (st : FVec F S128x256 .f32) :
    FVec F S128x256 .f32 :=
  shapeCast S128x256 (addf
    (mulf st (broadcastTo S128x256 (extractStridedSlice S1x256 ![0, 256 * g.val] dec (sl_row g)) broadcasts_S1x256_S128x256))
    (matmul dot_S128x128_S128x256_S128x256_1_0_0_1_n_n none
      (truncf .bf16 (transpose S128x128 [1, 0] (extf .f32 b bitsLt_bf16_f32) transposes_S128x128_p1_0_S128x128) bitsLt_bf16_f32)
      (cols g xe) (constant S128x256 .f32 0x00000000#32))) shapeCasts_S128x256_S128x256

/-- The decay-weighted products of one head's rows of C and B. -/
def mix (h : Fin 32) (mask : IVec S128x128 1) (acs acsT cb : FVec F S128x128 .f32) : FVec F S128x128 .bf16 :=
  truncf .bf16 (mulf cb (exp (select mask
    (subf (broadcastTo S128x128 (extractStridedSlice S128x1 ![0, h.val] acs (sl_col1 h)) broadcasts_S128x1_S128x128)
      (broadcastTo S128x128 (extractStridedSlice S1x128 ![h.val, 0] acsT (sl_row1 h)) broadcasts_S1x128_S128x128))
    (broadcast S128x128 (Scalar.ofBits .f32 0xFF800000#32))))) bitsLt_bf16_f32

/-- One head's lanes of the group's inputs, the other heads' lanes zero. -/
def own (r : BitVec 32) (lane : IVec S128x256 32) (x : FVec F S128x256 .f32) : FVec F S128x256 .bf16 :=
  truncf .bf16 (select (cmpi .eq lane (broadcast S128x256 r)) x (broadcast S128x256 (Scalar.ofBits .f32 0x00000000#32))) bitsLt_bf16_f32

/-- The number of head `r` of group `g`. -/
abbrev hd (g : Fin 8) (r : Fin 4) : Fin 32 := ⟨4 * g.val + r.val, by omega⟩

/-- One group's scan before the skip: the carried state's part and the chunk's own. -/
def groupScan (g : Fin 8) (mask : IVec S128x128 1) (lane : IVec S128x256 32) (acs acsT : FVec F S128x128 .f32) (b c : FVec F S128x128 .bf16)
    (st : FVec F S128x256 .f32) (carry xdt : FVec F S128x2048 .f32) : FVec F S128x256 .f32 :=
  addf (mulf (matmul dot_S128x128_S128x256_S128x256_1_0_0_1_n_n none c (truncf .bf16 st bitsLt_bf16_f32) (constant S128x256 .f32 0x00000000#32))
      (cols g carry))
    (matmul dot_S128x512_S512x256_S128x256_1_0_0_1_n_n none
      (concatenate S128x512 1 [
        ⟨S128x128, mix (hd g 0) mask acs acsT (matmul dot_S128x128_S128x128_S128x128_1_1_0_0_n_n none c b (constant S128x128 .f32 0x00000000#32))⟩,
        ⟨S128x128, mix (hd g 1) mask acs acsT (matmul dot_S128x128_S128x128_S128x128_1_1_0_0_n_n none c b (constant S128x128 .f32 0x00000000#32))⟩,
        ⟨S128x128, mix (hd g 2) mask acs acsT (matmul dot_S128x128_S128x128_S128x128_1_1_0_0_n_n none c b (constant S128x128 .f32 0x00000000#32))⟩,
        ⟨S128x128, mix (hd g 3) mask acs acsT (matmul dot_S128x128_S128x128_S128x128_1_1_0_0_n_n none c b (constant S128x128 .f32 0x00000000#32))⟩]
        concatenates_S128x128_S128x128_S128x128_S128x128_S128x512_d1)
      (concatenate S512x256 0 [⟨S128x256, own 0#32 lane (cols g xdt)⟩, ⟨S128x256, own 1#32 lane (cols g xdt)⟩,
        ⟨S128x256, own 2#32 lane (cols g xdt)⟩, ⟨S128x256, own 3#32 lane (cols g xdt)⟩]
        concatenates_S128x256_S128x256_S128x256_S128x256_S512x256_d0)
      (constant S128x256 .f32 0x00000000#32))

/-- Group `g`'s token block of the gate. -/
def tok (g : Fin 8) (x : Vec F S1x128x2048 .f32) : FVec F S128x256 .f32 :=
  shapeCast S128x256 (View.ld x (Rect.unit ![0, 0, 256 * g.val] S1x128x256.size (inb_tok g))) shapeCasts_S1x128x256_S128x256

/-- Group `g`'s columns of a row. -/
def rowCols (g : Fin 8) (x : Vec F S1x2048 .f32) : FVec F S1x256 .f32 :=
  shapeCast S1x256 (View.ld x (Rect.unit ![0, 256 * g.val] S1x256.size (inb_row g))) shapeCasts_S1x256_S1x256

/-- One group with its skip and its gate. -/
def groupGated (scan x z : FVec F S128x256 .f32) (d : FVec F S1x256 .f32) : FVec F S128x256 .f32 :=
  mulf (addf scan (mulf (broadcastTo S128x256 d broadcasts_S1x256_S128x256) x)) (mulf z (logistic z))

/-- One group's normed result. -/
def groupNorm (y : FVec F S128x256 .f32) (gn : FVec F S1x256 .f32) : FVec F S1x128x256 .bf16 :=
  shapeCast S1x128x256 (truncf .bf16 (mulf (mulf y (broadcastTo S128x256 (rsqrt (addf
      (divf (shapeCast S128x1 (multiReduction .add [1] S128 (mulf y y) 0x00000000#32 reduces_S128x256_S128 (.inl rfl) rfl) shapeCasts_S128_S128x1)
        (broadcast S128x1 (Scalar.ofBits .f32 0x43800000#32)))
      (broadcast S128x1 (Scalar.ofBits .f32 0x358637BD#32)))) broadcasts_S128x1_S128x256))
    (broadcastTo S128x256 gn broadcasts_S1x256_S128x256)) bitsLt_bf16_f32) shapeCasts_S128x256_S1x128x256

/-! ### The chunk's arrays -/

def chAcs (x3 : Vec F S1x128x128 .f32) (x5 : Vec F S1x128 .f32) : FVec F S128x128 .f32 := k0_pay6 x3 x5
def chXdt (x0 : Vec F S1x128x2048 .f32) (x3 : Vec F S1x128x128 .f32) (x8 : Vec F S128x2048 .bf16) : FVec F S128x2048 .f32 :=
  k0_pay15 (k0_pay4 x8) (k0_pay9 x3) (k0_pay10 x8 x3) k0_pay11 x0
def chEnd (x0 : Vec F S1x128x2048 .f32) (x3 : Vec F S1x128x128 .f32) (x5 : Vec F S1x128 .f32) (x8 : Vec F S128x2048 .bf16) : FVec F S128x2048 .bf16 :=
  k0_pay16 (k0_pay4 x8) (k0_pay6 x3 x5) (k0_pay9 x3) (k0_pay10 x8 x3) k0_pay11 x0
def chCarry (x3 : Vec F S1x128x128 .f32) (x5 : Vec F S1x128 .f32) (x8 : Vec F S128x2048 .bf16) : FVec F S128x2048 .f32 :=
  k0_pay17 (k0_pay4 x8) (k0_pay6 x3 x5)
def chDec (x3 : Vec F S1x128x128 .f32) (x5 : Vec F S1x128 .f32) (x8 : Vec F S128x2048 .bf16) : FVec F S1x2048 .f32 :=
  k0_pay18 (k0_pay4 x8) (k0_pay6 x3 x5)
def chLane : IVec S128x256 32 := k0_pay22 k0_pay19 k0_pay20 k0_pay21

/-- The piece of the state that group `g` stores. -/
def pieceS (g : Fin 8) (x0 : Vec F S1x128x2048 .f32) (x1 : Vec F S1x128x1024 .bf16) (x3 : Vec F S1x128x128 .f32) (x5 : Vec F S1x128 .f32)
    (x8 : Vec F S128x2048 .bf16) (st : Vec F S128x2048 .f32) : View.Piece (Elt F) S128x2048 .f32 :=
  ⟨Rect.unit ![0, 256 * g.val] S128x256.size (inb_cols g), groupState g (chEnd x0 x3 x5 x8) (chDec x3 x5 x8) (bc g x1) (stCols g st)⟩

/-- The piece of the result that group `g` stores. -/
def pieceO (g : Fin 8) (x0 : Vec F S1x128x2048 .f32) (x1 x2 : Vec F S1x128x1024 .bf16) (x3 : Vec F S1x128x128 .f32) (x4 : Vec F S1x128x2048 .f32)
    (x5 : Vec F S1x128 .f32) (x6 x7 : Vec F S1x2048 .f32) (x8 : Vec F S128x2048 .bf16) (st : Vec F S128x2048 .f32) :
    View.Piece (Elt F) S1x128x2048 .bf16 :=
  ⟨Rect.unit ![0, 0, 256 * g.val] S1x128x256.size (inb_tok g),
    groupNorm (groupGated (groupScan g k0_pay3 chLane (chAcs x3 x5) (k0_pay7 x3 x5) (bc g x1) (bc g x2) (stCols g st) (chCarry x3 x5 x8)
      (chXdt x0 x3 x8)) (cols g (k0_pay14 x0)) (tok g x4) (rowCols g x6)) (rowCols g x7)⟩

def listS (x0 : Vec F S1x128x2048 .f32) (x1 : Vec F S1x128x1024 .bf16) (x3 : Vec F S1x128x128 .f32) (x5 : Vec F S1x128 .f32)
    (x8 : Vec F S128x2048 .bf16) (st : Vec F S128x2048 .f32) : List (View.Piece (Elt F) S128x2048 .f32) :=
  [pieceS 7 x0 x1 x3 x5 x8 st, pieceS 6 x0 x1 x3 x5 x8 st, pieceS 5 x0 x1 x3 x5 x8 st, pieceS 4 x0 x1 x3 x5 x8 st,
    pieceS 3 x0 x1 x3 x5 x8 st, pieceS 2 x0 x1 x3 x5 x8 st, pieceS 1 x0 x1 x3 x5 x8 st, pieceS 0 x0 x1 x3 x5 x8 st]

def listO (x0 : Vec F S1x128x2048 .f32) (x1 x2 : Vec F S1x128x1024 .bf16) (x3 : Vec F S1x128x128 .f32) (x4 : Vec F S1x128x2048 .f32)
    (x5 : Vec F S1x128 .f32) (x6 x7 : Vec F S1x2048 .f32) (x8 : Vec F S128x2048 .bf16) (st : Vec F S128x2048 .f32) :
    List (View.Piece (Elt F) S1x128x2048 .bf16) :=
  [pieceO 7 x0 x1 x2 x3 x4 x5 x6 x7 x8 st, pieceO 6 x0 x1 x2 x3 x4 x5 x6 x7 x8 st, pieceO 5 x0 x1 x2 x3 x4 x5 x6 x7 x8 st,
    pieceO 4 x0 x1 x2 x3 x4 x5 x6 x7 x8 st, pieceO 3 x0 x1 x2 x3 x4 x5 x6 x7 x8 st, pieceO 2 x0 x1 x2 x3 x4 x5 x6 x7 x8 st,
    pieceO 1 x0 x1 x2 x3 x4 x5 x6 x7 x8 st, pieceO 0 x0 x1 x2 x3 x4 x5 x6 x7 x8 st]

section Cases

variable (c : Dev nD) (i : grid0.Coords) (arg2 : Memref sig .tc .vmem S1x128x2048 .f32) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x128 .f32) (harg5 : arg5.IsWhole) (arg6 : Memref sig .tc .vmem S1x128x2048 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S1x128x2048 .bf16) (harg11 : arg11.IsWhole) (arg12 : Memref sig .tc .vmem S128x2048 .f32) (harg12 : arg12.IsWhole)
  (x0 : Vec Ideal S1x128x2048 .f32) (x1 : Vec Ideal S1x128x1024 .bf16) (x2 : Vec Ideal S1x128x1024 .bf16) (x3 : Vec Ideal S1x128x128 .f32) (x4 : Vec Ideal S1x128x2048 .f32) (x5 : Vec Ideal S1x128 .f32) (x6 : Vec Ideal S1x2048 .f32) (x7 : Vec Ideal S1x2048 .f32) (x8 : Vec Ideal S128x2048 .bf16)

theorem state_B (hc0 : ¬cond0_0 i) (xs0 : Vec Ideal S128x2048 .f32) :
    sout0_B_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 = View.canon (listS x0 x1 x3 x5 x8 xs0) := by
  frame_out
  rfl

theorem state_A (hc0 : cond0_0 i) :
    sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 = View.canon (listS x0 x1 x3 x5 x8 (k0_pay2 (F := Ideal))
      ++ [⟨Rect.unit ![0, 0] ![128, 2048] inb_S128x2048_S128x2048_0_0, k0_pay2 (F := Ideal)⟩]) := by
  frame_open
  simp (disch := decide) only [↓ View.readCov_skip, ↓ View.readCov_cons_toLoadRect, ↓ View.readCov_fill]
  frame_out
  rfl

theorem result_B (hc0 : ¬cond0_0 i) (xs0 : Vec Ideal S128x2048 .f32) :
    out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 = View.canon (listO x0 x1 x2 x3 x4 x5 x6 x7 x8 xs0) := by
  frame_out
  unfold listO
  refine congrArg View.canon (congrArg₂ List.cons ?_ (congrArg₂ List.cons ?_ (congrArg₂ List.cons ?_ (congrArg₂ List.cons ?_ (congrArg₂ List.cons ?_
    (congrArg₂ List.cons ?_ (congrArg₂ List.cons ?_ (congrArg₂ List.cons ?_ rfl))))))))
  · rfl
  · rfl
  · rfl
  · rfl
  · rfl
  · rfl
  · rfl
  · rfl

theorem result_A (hc0 : cond0_0 i) :
    out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 x8 = View.canon (listO x0 x1 x2 x3 x4 x5 x6 x7 x8 (k0_pay2 (F := Ideal))) := by
  frame_open
  simp (disch := decide) only [↓ View.readCov_skip, ↓ View.readCov_cons_toLoadRect, ↓ View.readCov_fill]
  frame_out
  unfold listO
  refine congrArg View.canon (congrArg₂ List.cons ?_ (congrArg₂ List.cons ?_ (congrArg₂ List.cons ?_ (congrArg₂ List.cons ?_ (congrArg₂ List.cons ?_
    (congrArg₂ List.cons ?_ (congrArg₂ List.cons ?_ (congrArg₂ List.cons ?_ rfl))))))))
  · rfl
  · rfl
  · rfl
  · rfl
  · rfl
  · rfl
  · rfl
  · rfl

end Cases

end Cert.Scan

end
-- ==== Proof.ScanChunk.lean ====
module

public import proofs.«01_k».proof.Proof.ScanGroup
public import proofs.«01_k».proof.Proof.Reals

@[expose] public section

set_option maxRecDepth 16384

noncomputable section

open Idealize.ShloMosaic Idealize.ShloMosaic.TcCoe Idealize.SL.Sem
open Idealize.ShloMosaic.Pipeline (Dat)

/-! ## One chunk of the scan, in real numbers

When the arguments are finite, everything a chunk computes before its gate is a real number. -/

namespace Cert.Scan

open Cert.KernelIdeal Cert.KernelIdeal.Gen
open Cert.Reals (coe_sum)

/-- The head of a lane. -/
def hof (L : Fin 2048) : Fin 128 := ⟨L.val / 64, by omega⟩
/-- The `n`-th of the group's columns of B and C. -/
def gcol (L : Fin 2048) (n : Fin 128) : Fin 1024 := ⟨128 * (L.val / 256) + n.val, by omega⟩
/-- Lane `l` of group `g`. -/
def lan (g : Fin 8) (l : Fin 256) : Fin 2048 := ⟨256 * g.val + l.val, by omega⟩

/-- A chunk's log-decays, summed up to a row. -/
def cum (dt : Fin 128 → Fin 128 → ℝ) (al : Fin 128 → ℝ) (h i : Fin 128) : ℝ := ∑ j, if j ≤ i then dt j h * -Real.exp (al h) else 0

/-- What a chunk puts out before the skip: the entering state's part and its own. -/
def scanR (x : Fin 128 → Fin 2048 → ℝ) (b c : Fin 128 → Fin 1024 → ℝ) (dt : Fin 128 → Fin 128 → ℝ) (al : Fin 128 → ℝ)
    (S : Fin 128 → Fin 2048 → ℝ) (i : Fin 128) (L : Fin 2048) : ℝ :=
  (∑ n, c i (gcol L n) * S n L) * Real.exp (cum dt al (hof L) i)
    + ∑ j, (∑ n, c i (gcol L n) * b j (gcol L n)) * (if j ≤ i then Real.exp (cum dt al (hof L) i - cum dt al (hof L) j) else 0)
      * (x j L * dt j (hof L))

/-- The state a chunk leaves, from the one that enters it. -/
def stateR (x : Fin 128 → Fin 2048 → ℝ) (b : Fin 128 → Fin 1024 → ℝ) (dt : Fin 128 → Fin 128 → ℝ) (al : Fin 128 → ℝ)
    (S : Fin 128 → Fin 2048 → ℝ) (n : Fin 128) (L : Fin 2048) : ℝ :=
  S n L * Real.exp (cum dt al (hof L) 127)
    + ∑ j, b j (gcol L n) * (x j L * dt j (hof L) * Real.exp (cum dt al (hof L) 127 - cum dt al (hof L) j))

/-- The gate: the scan with its skip, times the silu of `z`. -/
def gatedE (y d x z : EReal) : EReal := (y + d * x) * (z * Ideal.logistic z)

/-- A group's norm: 256 lanes. -/
def normE (y : Fin 256 → EReal) (gn : Fin 256 → EReal) (l : Fin 256) : EReal :=
  y l * Ideal.rsqrt (Ideal.div (∑ k, y k * y k) (Ideal.ofBits FTy.f32 1132462080#32) + Ideal.ofBits FTy.f32 897988541#32) * gn l

theorem tri_word : ∀ i j : Fin 128, IntOp.cmpi .sge (BitVec.ofNat 32 i.val) (BitVec.ofNat 32 j.val) = if j ≤ i then 1#1 else 0#1 := by
  decide +kernel

theorem tri_apply (i j : Fin 128) : (k0_pay3 : IVec S128x128 1) (ix2 i j) = if j ≤ i then 1#1 else 0#1 := by
  pointwise [k0_pay3]
  exact tri_word i j

theorem tri_float (i j : Fin 128) : FloatOps.sitofp (F := Ideal) FTy.f32
    (BitVec.setWidth 32 (IntOp.cmpi CmpIPredicate.sge (BitVec.ofNat 32 i.val) (BitVec.ofNat 32 j.val))) = if j ≤ i then (1 : EReal) else 0 := by
  rw [tri_word]
  split
  · show (((BitVec.setWidth 32 1#1).toInt : ℝ) : EReal) = 1
    rw [show (BitVec.setWidth 32 1#1).toInt = 1 from by decide]; simp
  · show (((BitVec.setWidth 32 0#1).toInt : ℝ) : EReal) = 0
    rw [show (BitVec.setWidth 32 0#1).toInt = 0 from by decide]; simp

theorem lane_apply : ∀ (n : Fin 128) (l : Fin 256), chLane (ix2 n l) = BitVec.ofNat 32 (l.val / 64) := by
  intro n l
  unfold chLane
  pointwise [k0_pay22, k0_pay21, k0_pay20, k0_pay19]
  revert l
  decide +kernel

theorem drop_bc (p : Vec Ideal S1x128x128 .bf16) (i n : Fin 128) :
    shapeCast S128x128 p shapeCasts_S1x128x128_S128x128 (ix2 i n) = p (ix3 0 i n) := by
  pointwise []
theorem drop_tok (p : Vec Ideal S1x128x256 .f32) (i : Fin 128) (n : Fin 256) :
    shapeCast S128x256 p shapeCasts_S1x128x256_S128x256 (ix2 i n) = p (ix3 0 i n) := by
  pointwise []

theorem bc_apply (g : Fin 8) (x : Vec Ideal S1x128x1024 .bf16) (i n : Fin 128) (l : Fin 256) :
    bc (F := Ideal) g x (ix2 i n) = x (ix3 0 i (gcol (lan g l) n)) := by
  refine (drop_bc _ i n).trans (View.ld_unit_apply_of _ _ _ _ _ _ fun a => ?_)
  match a with
  | ⟨0, _⟩ => rfl
  | ⟨1, _⟩ => exact (Nat.zero_add _).symm
  | ⟨2, _⟩ =>
    have e : 128 * ((256 * g.val + l.val) / 256) + n.val = 128 * g.val + n.val := by omega
    exact e

theorem tok_apply (g : Fin 8) (x : Vec Ideal S1x128x2048 .f32) (i : Fin 128) (l : Fin 256) :
    tok (F := Ideal) g x (ix2 i l) = x (ix3 0 i (lan g l)) := by
  refine (drop_tok _ i l).trans (View.ld_unit_apply_of _ _ _ _ _ _ fun a => ?_)
  match a with
  | ⟨0, _⟩ => rfl
  | ⟨1, _⟩ => exact (Nat.zero_add _).symm
  | ⟨2, _⟩ => rfl

theorem stCols_apply (g : Fin 8) (x : Vec Ideal S128x2048 .f32) (i : Fin 128) (l : Fin 256) :
    stCols (F := Ideal) g x (ix2 i l) = x (ix2 i (lan g l)) := by
  pointwise [stCols, lan]
theorem rowCols_apply (g : Fin 8) (x : Vec Ideal S1x2048 .f32) (l : Fin 256) :
    rowCols (F := Ideal) g x (ix2 0 l) = x (ix2 0 (lan g l)) := by
  pointwise [rowCols, lan]
theorem cols_apply (g : Fin 8) {e : FTy} (x : FVec Ideal S128x2048 e) (i : Fin 128) (l : Fin 256) :
    cols (F := Ideal) g x (ix2 i l) = x (ix2 i (lan g l)) := by
  pointwise [cols, lan]
theorem x_apply (x : Vec Ideal S1x128x2048 .f32) (i : Fin 128) (l : Fin 2048) : k0_pay14 (F := Ideal) x (ix2 i l) = x (ix3 0 i l) := by
  pointwise [k0_pay14]

theorem gated_apply (scan x z : FVec Ideal S128x256 .f32) (d : FVec Ideal S1x256 .f32) (i : Fin 128) (l : Fin 256) :
    groupGated (F := Ideal) scan x z d (ix2 i l) = gatedE (scan (ix2 i l)) (d (ix2 0 l)) (x (ix2 i l)) (z (ix2 i l)) := by
  pointwise [groupGated, gatedE]

theorem norm_apply (x : FVec Ideal S128x256 .f32) (d : FVec Ideal S1x256 .f32) (i : Fin 128) (l : Fin 256) :
    groupNorm (F := Ideal) x d (ix3 0 i l) = normE (fun k => x (ix2 i k)) (fun k => d (ix2 0 k)) l := by
  pointwise [groupNorm, normE]

theorem state_apply (g : Fin 8) (xe : FVec Ideal S128x2048 .bf16) (dec : FVec Ideal S1x2048 .f32) (b : FVec Ideal S128x128 .bf16)
    (st : FVec Ideal S128x256 .f32) (n : Fin 128) (l : Fin 256) : groupState (F := Ideal) g xe dec b st (ix2 n l)
      = st (ix2 n l) * dec (ix2 0 (lan g l)) + ∑ j, b (ix2 j n) * xe (ix2 j (lan g l)) := by
  pointwise [groupState, cols, lan]

theorem mix_apply (h : Fin 32) (mask : IVec S128x128 1) (acs acsT cb : FVec Ideal S128x128 .f32) (i j : Fin 128) :
    mix (F := Ideal) h mask acs acsT cb (ix2 i j) = cb (ix2 i j) * Ideal.exp
      (Scalar.select (mask (ix2 i j)) (acs (ix2 i ⟨h.val, by omega⟩) - acsT (ix2 ⟨h.val, by omega⟩ j)) ⊥) := by
  pointwise [mix]
  rw [Cert.Reals.ofBits_neg_inf]

theorem own_apply (r : Fin 4) (x : FVec Ideal S128x256 .f32) (j : Fin 128) (l : Fin 256) :
    own (F := Ideal) (BitVec.ofNat 32 r.val) chLane x (ix2 j l) = if r.val = l.val / 64 then x (ix2 j l) else 0 := by
  have h := lane_apply j l
  unfold own
  generalize chLane = q at h ⊢
  pointwise []
  rw [h]
  have hw : ∀ (r : Fin 4) (l : Fin 256), IntOp.cmpi .eq (BitVec.ofNat 32 (l.val / 64)) (BitVec.ofNat 32 r.val)
      = if r.val = l.val / 64 then 1#1 else 0#1 := by decide +kernel
  rw [hw]
  by_cases e : r.val = l.val / 64
  · simp only [if_pos e]; rfl
  · simp only [if_neg e]
    rfl

theorem cb_apply (b c : FVec Ideal S128x128 .bf16) (i j : Fin 128) :
    matmul (F := Ideal) dot_S128x128_S128x128_S128x128_1_1_0_0_n_n none c b (constant S128x128 .f32 0x00000000#32) (ix2 i j)
      = ∑ n, c (ix2 i n) * b (ix2 j n) := by
  pointwise []

theorem sum512 (f : Fin 512 → EReal) : ∑ q, f q = ∑ r : Fin 4, ∑ j : Fin 128, f ⟨128 * r.val + j.val, by omega⟩ := by
  rw [← Fintype.sum_prod_type']
  refine (Fintype.sum_equiv (finProdFinEquiv (m := 4) (n := 128)) _ _ fun p => ?_).symm
  exact congrArg f (Fin.ext (Nat.add_comm _ _))

theorem scan_apply (g : Fin 8) (mask : IVec S128x128 1) (lane : IVec S128x256 32) (acs acsT : FVec Ideal S128x128 .f32)
    (b c : FVec Ideal S128x128 .bf16) (st : FVec Ideal S128x256 .f32) (carry xdt : FVec Ideal S128x2048 .f32) (i : Fin 128) (l : Fin 256) :
    groupScan (F := Ideal) g mask lane acs acsT b c st carry xdt (ix2 i l)
      = (∑ n, c (ix2 i n) * st (ix2 n l)) * carry (ix2 i (lan g l))
        + ∑ r : Fin 4, ∑ j, mix (F := Ideal) (hd g r) mask acs acsT
            (matmul dot_S128x128_S128x128_S128x128_1_1_0_0_n_n none c b (constant S128x128 .f32 0x00000000#32)) (ix2 i j)
          * own (F := Ideal) (BitVec.ofNat 32 r.val) lane (cols g xdt) (ix2 j l) := by
  rw [Fin.sum_univ_four]
  unfold groupScan
  show _ = _ + ((((∑ j, _ * own (F := Ideal) 0#32 _ _ _) + ∑ j, _ * own (F := Ideal) 1#32 _ _ _) + ∑ j, _ * own (F := Ideal) 2#32 _ _ _)
    + ∑ j, _ * own (F := Ideal) 3#32 _ _ _)
  generalize mix (F := Ideal) (hd g 0) _ _ _ _ = m0
  generalize mix (F := Ideal) (hd g 1) _ _ _ _ = m1
  generalize mix (F := Ideal) (hd g 2) _ _ _ _ = m2
  generalize mix (F := Ideal) (hd g 3) _ _ _ _ = m3
  generalize own (F := Ideal) 0#32 _ _ = o0
  generalize own (F := Ideal) 1#32 _ _ = o1
  generalize own (F := Ideal) 2#32 _ _ = o2
  generalize own (F := Ideal) 3#32 _ _ = o3
  pointwise [cols, lan]
  rw [sum512, Fin.sum_univ_four]
  refine congrArg₂ (· + ·) rfl (congrArg₂ (· + ·) (congrArg₂ (· + ·) (congrArg₂ (· + ·) ?_ ?_) ?_) ?_)
  · refine Finset.sum_congr rfl fun j _ => ?_
    have e : 128 * (0 : Fin 4).val + j.val = j.val := by show 128 * 0 + j.val = j.val; omega
    simp only [e, dif_pos j.isLt]
  · refine Finset.sum_congr rfl fun j _ => ?_
    have e : 128 * (1 : Fin 4).val + j.val = 128 + j.val := by show 128 * 1 + j.val = _; omega
    have e1 : 128 + j.val - 128 = j.val := by omega
    simp only [e, e1, dif_neg (show ¬ 128 + j.val < 128 by omega), dif_pos j.isLt]
  · refine Finset.sum_congr rfl fun j _ => ?_
    have e : 128 * (2 : Fin 4).val + j.val = 256 + j.val := by show 128 * 2 + j.val = _; omega
    have e1 : 256 + j.val - 128 = 128 + j.val := by omega
    have e2 : 128 + j.val - 128 = j.val := by omega
    simp only [e, e1, e2, dif_neg (show ¬ 256 + j.val < 128 by omega), dif_neg (show ¬ 128 + j.val < 128 by omega), dif_pos j.isLt]
  · refine Finset.sum_congr rfl fun j _ => ?_
    have e : 128 * (3 : Fin 4).val + j.val = 384 + j.val := by show 128 * 3 + j.val = _; omega
    have e1 : 384 + j.val - 128 = 256 + j.val := by omega
    have e2 : 256 + j.val - 128 = 128 + j.val := by omega
    have e3 : 128 + j.val - 128 = j.val := by omega
    simp only [e, e1, e2, e3, dif_neg (show ¬ 384 + j.val < 128 by omega), dif_neg (show ¬ 256 + j.val < 128 by omega),
      dif_neg (show ¬ 128 + j.val < 128 by omega)]

end Cert.Scan

end
-- ==== Proof.ScanReal.lean ====
module

public import proofs.«01_k».proof.Proof.ScanChunk
public import proofs.«01_k».proof.Proof.Reals

@[expose] public section

set_option maxRecDepth 16384

noncomputable section

open Idealize.ShloMosaic Idealize.ShloMosaic.TcCoe Idealize.SL.Sem
open Idealize.ShloMosaic.Pipeline (Dat)

/-! ## A chunk's arrays read as real numbers -/

namespace Cert.Scan

open Cert.KernelIdeal Cert.KernelIdeal.Gen
open Cert.Reals (coe_sum)

/-- The blocks a chunk reads, as real numbers. -/
structure Reads (x0 : Vec Ideal S1x128x2048 .f32) (x1 x2 : Vec Ideal S1x128x1024 .bf16) (x3 : Vec Ideal S1x128x128 .f32)
    (x5 : Vec Ideal S1x128 .f32) (x8 : Vec Ideal S128x2048 .bf16) (xr : Fin 128 → Fin 2048 → ℝ) (br cr : Fin 128 → Fin 1024 → ℝ)
    (dtr : Fin 128 → Fin 128 → ℝ) (al : Fin 128 → ℝ) : Prop where
  h0 : ∀ i L, x0 (ix3 0 i L) = ((xr i L : ℝ) : EReal)
  h1 : ∀ i L, x1 (ix3 0 i L) = ((br i L : ℝ) : EReal)
  h2 : ∀ i L, x2 (ix3 0 i L) = ((cr i L : ℝ) : EReal)
  h3 : ∀ i L, x3 (ix3 0 i L) = ((dtr i L : ℝ) : EReal)
  h5 : ∀ h, x5 (ix2 0 h) = ((al h : ℝ) : EReal)
  h8 : ∀ h L, x8 (ix2 h L) = if h = hof L then 1 else 0

theorem coe_ite (p : Prop) [Decidable p] (a : ℝ) : (if p then (a : EReal) else 0) = ((if p then a else 0 : ℝ) : EReal) := by
  split <;> simp

theorem sub_self_coe (a : ℝ) : (a : EReal) - (a : EReal) = 0 := by
  rw [← EReal.coe_sub, sub_self, EReal.coe_zero]

theorem tri_sum (w : Fin 128 → EReal) (wr : Fin 128 → ℝ) (hw : ∀ x, w x = ((wr x : ℝ) : EReal)) (i : Fin 128) :
    ∑ x : Fin 128, (if x ≤ i then (1 : EReal) else 0) * w x = ((∑ x, if x ≤ i then wr x else 0 : ℝ) : EReal) := by
  rw [coe_sum]
  refine Finset.sum_congr rfl fun x _ => ?_
  rw [hw, ← coe_ite]
  split <;> simp

theorem pick (w : Fin 128 → EReal) (wr : Fin 128 → ℝ) (hw : ∀ x, w x = ((wr x : ℝ) : EReal)) (v : Fin 128 → EReal) (h : Fin 128)
    (hv : ∀ x, v x = if x = h then 1 else 0) : (∑ x, w x * v x) + (∑ x, (w x - w x) * v x) = ((wr h : ℝ) : EReal) := by
  have e1 : ∑ x, w x * v x = ((wr h : ℝ) : EReal) := by
    rw [Finset.sum_eq_single h (fun x _ hx => by rw [hv, if_neg hx, mul_zero]) (fun hx => absurd (Finset.mem_univ _) hx), hv, if_pos rfl, mul_one, hw]
  have e2 : ∑ x, (w x - w x) * v x = 0 := Finset.sum_eq_zero fun x _ => by rw [hw, sub_self_coe, zero_mul]
  rw [e1, e2, add_zero]

theorem hof_lan (g : Fin 8) (l : Fin 256) : (hof (lan g l)).val = 4 * g.val + l.val / 64 := by
  show (256 * g.val + l.val) / 64 = _
  omega

section

variable {x0 : Vec Ideal S1x128x2048 .f32} {x1 x2 : Vec Ideal S1x128x1024 .bf16} {x3 : Vec Ideal S1x128x128 .f32}
    {x5 : Vec Ideal S1x128 .f32} {x8 : Vec Ideal S128x2048 .bf16} {xr : Fin 128 → Fin 2048 → ℝ} {br cr : Fin 128 → Fin 1024 → ℝ}
    {dtr : Fin 128 → Fin 128 → ℝ} {al : Fin 128 → ℝ} (H : Reads x0 x1 x2 x3 x5 x8 xr br cr dtr al)
include H

theorem acs_real (i h : Fin 128) : chAcs (F := Ideal) x3 x5 (ix2 i h) = ((cum dtr al h i : ℝ) : EReal) := by
  unfold chAcs
  pointwise [k0_pay6, k0_pay5, k0_pay3]
  simp only [tri_float, Ideal.ofBits_zero, H.h3, H.h5]
  have e : ∀ x : Fin 128, (dtr x h : EReal) * ((0 : EReal) - Ideal.exp ((al h : ℝ) : EReal)) = ((dtr x h * -Real.exp (al h) : ℝ) : EReal) := fun x => by
    rw [Ideal.exp_coe, zero_sub, ← EReal.coe_neg, ← EReal.coe_mul]
  simp only [e, sub_self_coe, sub_zero, mul_zero, Finset.sum_const_zero, add_zero]
  exact tri_sum _ _ (fun _ => rfl) i

theorem acsT_real (h j : Fin 128) : k0_pay7 (F := Ideal) x3 x5 (ix2 h j) = ((cum dtr al h j : ℝ) : EReal) := by
  have e := acs_real H j h
  unfold chAcs at e
  unfold k0_pay7
  generalize k0_pay6 x3 x5 = q at e ⊢
  refine Eq.trans ?_ e
  pointwise []

theorem full_real (i : Fin 128) (L : Fin 2048) :
    k0_pay12 (F := Ideal) (k0_pay4 x8) (k0_pay6 x3 x5) (ix2 i L) = ((cum dtr al (hof L) i : ℝ) : EReal) := by
  have e := acs_real H i
  unfold chAcs at e
  generalize k0_pay6 x3 x5 = q at e ⊢
  pointwise [k0_pay12, k0_pay4]
  exact pick _ _ e _ _ fun x => H.h8 x L

theorem carry_real (i : Fin 128) (L : Fin 2048) : chCarry (F := Ideal) x3 x5 x8 (ix2 i L) = ((Real.exp (cum dtr al (hof L) i) : ℝ) : EReal) := by
  have e := full_real H i L
  unfold chCarry k0_pay17
  generalize k0_pay12 (F := Ideal) _ _ = q at e ⊢
  pointwise []
  rw [e, Ideal.exp_coe]

theorem dec_real (L : Fin 2048) : chDec (F := Ideal) x3 x5 x8 (ix2 0 L) = ((Real.exp (cum dtr al (hof L) 127) : ℝ) : EReal) := by
  have e := full_real H 127 L
  unfold chDec k0_pay18 k0_pay13
  generalize k0_pay12 (F := Ideal) _ _ = q at e ⊢
  pointwise []
  rw [← Ideal.exp_coe, ← e]

theorem xdt_real (i : Fin 128) (L : Fin 2048) : chXdt (F := Ideal) x0 x3 x8 (ix2 i L) = ((xr i L * dtr i (hof L) : ℝ) : EReal) := by
  unfold chXdt
  pointwise [k0_pay15, k0_pay14, k0_pay11, k0_pay10, k0_pay9, k0_pay8, k0_pay5, k0_pay4]
  rw [H.h0, EReal.coe_mul]
  refine congrArg₂ (· * ·) rfl ?_
  exact pick _ _ (H.h3 i) _ _ fun x => H.h8 x L

theorem end_real (i : Fin 128) (L : Fin 2048) : chEnd (F := Ideal) x0 x3 x5 x8 (ix2 i L)
    = ((xr i L * dtr i (hof L) * Real.exp (cum dtr al (hof L) 127 - cum dtr al (hof L) i) : ℝ) : EReal) := by
  have e := full_real H
  have e' := xdt_real H i L
  unfold chXdt at e'
  unfold chEnd k0_pay16 k0_pay13
  generalize k0_pay12 (F := Ideal) _ _ = q at e ⊢
  generalize k0_pay15 (F := Ideal) _ _ _ _ _ = p at e' ⊢
  pointwise []
  rw [e', EReal.coe_mul (xr i L * dtr i (hof L))]
  refine congrArg₂ (fun a b : EReal => a * b) rfl ?_
  rw [← Ideal.exp_coe, EReal.coe_sub, ← e, ← e]

theorem state_real (g : Fin 8) (st : Vec Ideal S128x2048 .f32) (S : Fin 128 → Fin 2048 → ℝ) (hs : ∀ n L, st (ix2 n L) = ((S n L : ℝ) : EReal))
    (n : Fin 128) (l : Fin 256) :
    groupState (F := Ideal) g (chEnd x0 x3 x5 x8) (chDec x3 x5 x8) (bc g x1) (stCols g st) (ix2 n l)
      = ((stateR xr br dtr al S n (lan g l) : ℝ) : EReal) := by
  rw [state_apply, stCols_apply, hs, dec_real H, stateR, EReal.coe_add, EReal.coe_mul, coe_sum]
  refine congrArg₂ (· + ·) rfl (Finset.sum_congr rfl fun j _ => ?_)
  rw [bc_apply g x1 j n l, H.h1, end_real H, ← EReal.coe_mul]

theorem mix_real (g : Fin 8) (r : Fin 4) (l : Fin 256) (hr : r.val = l.val / 64) (i j : Fin 128) :
    mix (F := Ideal) (hd g r) k0_pay3 (chAcs x3 x5) (k0_pay7 x3 x5)
      (matmul dot_S128x128_S128x128_S128x128_1_1_0_0_n_n none (bc g x2) (bc g x1) (constant S128x128 .f32 0x00000000#32)) (ix2 i j)
      = (((∑ n, cr i (gcol (lan g l) n) * br j (gcol (lan g l) n))
        * (if j ≤ i then Real.exp (cum dtr al (hof (lan g l)) i - cum dtr al (hof (lan g l)) j) else 0) : ℝ) : EReal) := by
  have eh : ∀ p, (⟨(hd g r).val, p⟩ : Fin 128) = hof (lan g l) := fun p => Fin.ext (by
    rw [hof_lan]
    show 4 * g.val + r.val = _
    omega)
  rw [mix_apply, cb_apply, tri_apply, eh, acs_real H, acsT_real H, EReal.coe_mul, coe_sum]
  refine congrArg₂ (· * ·) (Finset.sum_congr rfl fun n _ => ?_) ?_
  · rw [bc_apply g x2 i n l, bc_apply g x1 j n l, H.h1, H.h2, ← EReal.coe_mul]
  · split
    · show Ideal.exp _ = _
      rw [← Ideal.exp_coe, EReal.coe_sub]
      rfl
    · show Ideal.exp ⊥ = _
      rw [Ideal.exp_bot, EReal.coe_zero]

theorem scan_real (g : Fin 8) (st : Vec Ideal S128x2048 .f32) (S : Fin 128 → Fin 2048 → ℝ) (hs : ∀ n L, st (ix2 n L) = ((S n L : ℝ) : EReal))
    (i : Fin 128) (l : Fin 256) :
    groupScan (F := Ideal) g k0_pay3 chLane (chAcs x3 x5) (k0_pay7 x3 x5) (bc g x1) (bc g x2) (stCols g st) (chCarry x3 x5 x8)
      (chXdt x0 x3 x8) (ix2 i l) = ((scanR xr br cr dtr al S i (lan g l) : ℝ) : EReal) := by
  rw [scan_apply, scanR, EReal.coe_add, EReal.coe_mul, coe_sum, coe_sum, carry_real H]
  refine congrArg₂ (· + ·) (congrArg₂ (· * ·) (Finset.sum_congr rfl fun n _ => ?_) rfl) ?_
  · rw [bc_apply g x2 i n l, H.h2, stCols_apply, hs, ← EReal.coe_mul]
  · have hl : l.val / 64 < 4 := by omega
    rw [Finset.sum_eq_single (⟨l.val / 64, hl⟩ : Fin 4) (fun r _ hr => Finset.sum_eq_zero fun j _ => by
      rw [own_apply, if_neg (fun e => hr (Fin.ext e)), mul_zero]) (fun hx => absurd (Finset.mem_univ _) hx)]
    refine Finset.sum_congr rfl fun j _ => ?_
    rw [own_apply, if_pos rfl, cols_apply, xdt_real H, mix_real H g _ l rfl, ← EReal.coe_mul]

/-- What one group stores, at an index. -/
theorem pieceO_real (g : Fin 8) (x4 : Vec Ideal S1x128x2048 .f32) (x6 x7 : Vec Ideal S1x2048 .f32) (st : Vec Ideal S128x2048 .f32)
    (S : Fin 128 → Fin 2048 → ℝ) (hs : ∀ n L, st (ix2 n L) = ((S n L : ℝ) : EReal)) (i : Fin 128) (l : Fin 256) :
    (pieceO (F := Ideal) g x0 x1 x2 x3 x4 x5 x6 x7 x8 st).2 (ix3 0 i l)
      = normE (fun k => gatedE ((scanR xr br cr dtr al S i (lan g k) : ℝ) : EReal) (x6 (ix2 0 (lan g k))) (x0 (ix3 0 i (lan g k))) (x4 (ix3 0 i (lan g k))))
        (fun k => x7 (ix2 0 (lan g k))) l := by
  refine (norm_apply _ _ i l).trans ?_
  congr 1
  · funext k
    rw [gated_apply, scan_real H g st S hs, rowCols_apply, cols_apply, tok_apply, x_apply]
  · funext k
    rw [rowCols_apply]

end

end Cert.Scan

end
-- ==== Proof.ScanValue.lean ====
module

public import proofs.«01_k».proof.Proof.ScanReal
public import proofs.«01_k».proof.Proof.Gen.KernelIdeal.Value
public import Idealize.ShloMosaic.Lib.Pipeline.Value
public import Idealize.ShloMosaic.Lib.Pipeline.CanonAppend
public import Idealize.ShloMosaic.Lib.Pointwise
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

/-! ## The whole run of the scan -/

namespace Cert.Scan

open Cert.KernelIdeal Cert.KernelIdeal.Gen

/-- The group of a lane. -/
def gof (L : Fin 2048) : Fin 8 := ⟨L.val / 256, by omega⟩

/-- A chunk's result at a row: gate and norm over the group of the lane. -/
def outE (y : Fin 2048 → EReal) (d x z gn : Fin 2048 → EReal) (L : Fin 2048) : EReal :=
  normE (fun k => gatedE (y (lan (gof L) k)) (d (lan (gof L) k)) (x (lan (gof L) k)) (z (lan (gof L) k))) (fun k => gn (lan (gof L) k))
    ⟨L.val % 256, by omega⟩

theorem gof_lan (g : Fin 8) (l : Fin 256) : gof (lan g l) = g := Fin.ext (by
  show (256 * g.val + l.val) / 256 = g.val
  omega)

theorem outE_lan (y d x z gn : Fin 2048 → EReal) (g : Fin 8) (l : Fin 256) : outE y d x z gn (lan g l)
    = normE (fun k => gatedE (y (lan g k)) (d (lan g k)) (x (lan g k)) (z (lan g k))) (fun k => gn (lan g k)) l := by
  unfold outE
  rw [gof_lan]
  exact congrArg _ (Fin.ext (by show (256 * g.val + l.val) % 256 = l.val; omega))

section

variable {x0 : Vec Ideal S1x128x2048 .f32} {x1 x2 : Vec Ideal S1x128x1024 .bf16} {x3 : Vec Ideal S1x128x128 .f32}
    {x5 : Vec Ideal S1x128 .f32} {x8 : Vec Ideal S128x2048 .bf16} {xr : Fin 128 → Fin 2048 → ℝ} {br cr : Fin 128 → Fin 1024 → ℝ}
    {dtr : Fin 128 → Fin 128 → ℝ} {al : Fin 128 → ℝ}

theorem pieces_S (x0 : Vec Ideal S1x128x2048 .f32) (x1 : Vec Ideal S1x128x1024 .bf16) (x3 : Vec Ideal S1x128x128 .f32)
    (x5 : Vec Ideal S1x128 .f32) (x8 : Vec Ideal S128x2048 .bf16) (st : Vec Ideal S128x2048 .f32) :
    listS (F := Ideal) x0 x1 x3 x5 x8 st = ([7, 6, 5, 4, 3, 2, 1, 0] : List (Fin 8)).map fun g => pieceS g x0 x1 x3 x5 x8 st := rfl

theorem pieces_O (x0 : Vec Ideal S1x128x2048 .f32) (x1 x2 : Vec Ideal S1x128x1024 .bf16) (x3 : Vec Ideal S1x128x128 .f32)
    (x4 : Vec Ideal S1x128x2048 .f32) (x5 : Vec Ideal S1x128 .f32) (x6 x7 : Vec Ideal S1x2048 .f32) (x8 : Vec Ideal S128x2048 .bf16)
    (st : Vec Ideal S128x2048 .f32) : listO (F := Ideal) x0 x1 x2 x3 x4 x5 x6 x7 x8 st
      = ([7, 6, 5, 4, 3, 2, 1, 0] : List (Fin 8)).map fun g => pieceO g x0 x1 x2 x3 x4 x5 x6 x7 x8 st := rfl

theorem all_groups : ∀ g : Fin 8, g ∈ ([7, 6, 5, 4, 3, 2, 1, 0] : List (Fin 8)) := by decide

theorem emb_S (g : Fin 8) (n : Fin 128) (l : Fin 256) :
    (Rect.unit (s := S128x2048) ![0, 256 * g.val] S128x256.size (inb_cols g)).emb (ix2 n l) = ix2 n (lan g l) := by
  funext a
  refine Fin.ext ((Rect.idx_unit_val _ _ _ _ a).trans ?_)
  match a with
  | ⟨0, _⟩ => exact Nat.zero_add _
  | ⟨1, _⟩ => rfl

theorem emb_O (g : Fin 8) (n : Fin 128) (l : Fin 256) :
    (Rect.unit (s := S1x128x2048) ![0, 0, 256 * g.val] S1x128x256.size (inb_tok g)).emb (ix3 0 n l) = ix3 0 n (lan g l) := by
  funext a
  refine Fin.ext ((Rect.idx_unit_val _ _ _ _ a).trans ?_)
  match a with
  | ⟨0, _⟩ => rfl
  | ⟨1, _⟩ => exact Nat.zero_add _
  | ⟨2, _⟩ => rfl

theorem lan_gof (L : Fin 2048) : lan (gof L) ⟨L.val % 256, by omega⟩ = L := Fin.ext (by
  show 256 * (L.val / 256) + L.val % 256 = L.val
  omega)

theorem cover_S (x0 : Vec Ideal S1x128x2048 .f32) (x1 : Vec Ideal S1x128x1024 .bf16) (x3 : Vec Ideal S1x128x128 .f32)
    (x5 : Vec Ideal S1x128 .f32) (x8 : Vec Ideal S128x2048 .bf16) (st : Vec Ideal S128x2048 .f32) (n : Fin 128) (L : Fin 2048) :
    ∃ p ∈ listS (F := Ideal) x0 x1 x3 x5 x8 st, (ix2 n L : S128x2048.Idx) ∈ p.1.set := by
  rw [pieces_S]
  refine ⟨_, List.mem_map.mpr ⟨gof L, all_groups _, rfl⟩, (Rect.mem_set_unit (inb := inb_cols (gof L))).mpr fun a => ?_⟩
  match a with
  | ⟨0, _⟩ => exact ⟨Nat.zero_le _, by show n.val < 0 + 128; omega⟩
  | ⟨1, _⟩ => exact ⟨by show 256 * (L.val / 256) ≤ L.val; omega, by show L.val < 256 * (L.val / 256) + 256; omega⟩

theorem cover_O (x0 : Vec Ideal S1x128x2048 .f32) (x1 x2 : Vec Ideal S1x128x1024 .bf16) (x3 : Vec Ideal S1x128x128 .f32)
    (x4 : Vec Ideal S1x128x2048 .f32) (x5 : Vec Ideal S1x128 .f32) (x6 x7 : Vec Ideal S1x2048 .f32) (x8 : Vec Ideal S128x2048 .bf16)
    (st : Vec Ideal S128x2048 .f32) (n : Fin 128) (L : Fin 2048) :
    ∃ p ∈ listO (F := Ideal) x0 x1 x2 x3 x4 x5 x6 x7 x8 st, (ix3 0 n L : S1x128x2048.Idx) ∈ p.1.set := by
  rw [pieces_O]
  refine ⟨_, List.mem_map.mpr ⟨gof L, all_groups _, rfl⟩, (Rect.mem_set_unit (inb := inb_tok (gof L))).mpr fun a => ?_⟩
  match a with
  | ⟨0, _⟩ => exact ⟨Nat.zero_le _, Nat.lt_succ_self 0⟩
  | ⟨1, _⟩ => exact ⟨Nat.zero_le _, by show n.val < 0 + 128; omega⟩
  | ⟨2, _⟩ => exact ⟨by show 256 * (L.val / 256) ≤ L.val; omega, by show L.val < 256 * (L.val / 256) + 256; omega⟩

theorem agree_S (H : Reads x0 x1 x2 x3 x5 x8 xr br cr dtr al) (st : Vec Ideal S128x2048 .f32) (S : Fin 128 → Fin 2048 → ℝ)
    (hs : ∀ n L, st (ix2 n L) = ((S n L : ℝ) : EReal)) : ∀ p ∈ listS (F := Ideal) x0 x1 x3 x5 x8 st, ∀ x : p.1.shape.Idx,
      p.2 x = (fun y : S128x2048.Idx => ((stateR xr br dtr al S (y 0) (y 1) : ℝ) : EReal)) (p.1.emb x) := by
  rw [pieces_S]
  intro p hp
  obtain ⟨g, _, rfl⟩ := List.mem_map.mp hp
  intro (x : S128x256.Idx)
  idx_vars x
  refine (state_real H g st S hs x0 x1).trans ?_
  exact (congrArg (fun y : S128x2048.Idx => ((stateR xr br dtr al S (y 0) (y 1) : ℝ) : EReal)) (emb_S g x0 x1)).symm

theorem listS_apply (H : Reads x0 x1 x2 x3 x5 x8 xr br cr dtr al) (st : Vec Ideal S128x2048 .f32) (S : Fin 128 → Fin 2048 → ℝ)
    (hs : ∀ n L, st (ix2 n L) = ((S n L : ℝ) : EReal)) (L' : List (View.Piece (Elt Ideal) S128x2048 .f32)) (n : Fin 128) (L : Fin 2048) :
    View.canon (listS (F := Ideal) x0 x1 x3 x5 x8 st ++ L') (ix2 n L) = ((stateR xr br dtr al S n L : ℝ) : EReal) :=
  View.canon_append_of_pieces (fun y : S128x2048.Idx => ((stateR xr br dtr al S (y 0) (y 1) : ℝ) : EReal)) L' _
    (agree_S H st S hs) _ (cover_S x0 x1 x3 x5 x8 st n L)

theorem listO_apply (H : Reads x0 x1 x2 x3 x5 x8 xr br cr dtr al) (x4 : Vec Ideal S1x128x2048 .f32) (x6 x7 : Vec Ideal S1x2048 .f32)
    (st : Vec Ideal S128x2048 .f32) (S : Fin 128 → Fin 2048 → ℝ)
    (hs : ∀ n L, st (ix2 n L) = ((S n L : ℝ) : EReal)) (i : Fin 128) (L : Fin 2048) :
    View.canon (listO (F := Ideal) x0 x1 x2 x3 x4 x5 x6 x7 x8 st) (ix3 0 i L)
      = outE (fun L => ((scanR xr br cr dtr al S i L : ℝ) : EReal)) (fun L => x6 (ix2 0 L)) (fun L => x0 (ix3 0 i L)) (fun L => x4 (ix3 0 i L))
        (fun L => x7 (ix2 0 L)) L := by
  refine View.canon_apply_of_pieces (fun y : S1x128x2048.Idx => outE (fun L => ((scanR xr br cr dtr al S (y 1) L : ℝ) : EReal)) (fun L => x6 (ix2 0 L))
    (fun L => x0 (ix3 0 (y 1) L)) (fun L => x4 (ix3 0 (y 1) L)) (fun L => x7 (ix2 0 L)) (y 2)) _ ?_ _ (cover_O x0 x1 x2 x3 x4 x5 x6 x7 x8 st i L)
  rw [pieces_O]
  intro p hp
  obtain ⟨g, _, rfl⟩ := List.mem_map.mp hp
  intro (x : S1x128x256.Idx)
  idx_vars x
  obtain rfl : x0 = 0 := Subsingleton.elim (α := Fin 1) x0 0
  refine (pieceO_real H g x4 x6 x7 st S hs x1 x2).trans ?_
  refine Eq.trans ?_ (congrArg (fun y : S1x128x2048.Idx => outE (fun L => ((scanR xr br cr dtr al S (y 1) L : ℝ) : EReal)) (fun L => x6 (ix2 0 L))
    (fun L => x0 (ix3 0 (y 1) L)) (fun L => x4 (ix3 0 (y 1) L)) (fun L => x7 (ix2 0 L)) (y 2)) (emb_O g x1 x2)).symm
  exact (outE_lan (fun L => ((scanR xr br cr dtr al S x1 L : ℝ) : EReal)) (fun L => x6 (ix2 0 L)) (fun L => x0 (ix3 0 x1 L))
    (fun L => x4 (ix3 0 x1 L)) (fun L => x7 (ix2 0 L)) g x2).symm

theorem zero_apply (n : Fin 128) (L : Fin 2048) : k0_pay2 (F := Ideal) (ix2 n L) = (((fun _ _ => 0 : Fin 128 → Fin 2048 → ℝ) n L : ℝ) : EReal) := by
  pointwise [k0_pay2]
  simp [Ideal.ofBits_zero]

end

end Cert.Scan

/-! ## The blocks and the prepared arrays -/

namespace Cert.Scan

open Cert.KernelIdeal Cert.KernelIdeal.Gen

variable (m : (ℓ : Loc nD τ sig) → Buf (Elt Ideal) ℓ) (c : Dev nD)

theorem idx : ∀ t : Fin cfg0.N, win0_0.index t = ![t.val / 64, t.val % 64, 0] ∧ win0_1.index t = ![t.val / 64, t.val % 64, 0]
    ∧ win0_2.index t = ![t.val / 64, t.val % 64, 0] ∧ win0_3.index t = ![t.val / 64, t.val % 64, 0]
    ∧ win0_4.index t = ![t.val / 64, t.val % 64, 0] ∧ win0_5.index t = ![0, 0] ∧ win0_6.index t = ![0, 0] ∧ win0_7.index t = ![0, 0]
    ∧ win0_8.index t = ![0, 0] ∧ win0_9.index t = ![t.val / 64, t.val % 64, 0] :=
  (by decide +kernel : ∀ t : Fin grid0.N, win0_0.index t = ![t.val / 64, t.val % 64, 0] ∧ win0_1.index t = ![t.val / 64, t.val % 64, 0]
    ∧ win0_2.index t = ![t.val / 64, t.val % 64, 0] ∧ win0_3.index t = ![t.val / 64, t.val % 64, 0]
    ∧ win0_4.index t = ![t.val / 64, t.val % 64, 0] ∧ win0_5.index t = ![0, 0] ∧ win0_6.index t = ![0, 0] ∧ win0_7.index t = ![0, 0]
    ∧ win0_8.index t = ![0, 0] ∧ win0_9.index t = ![t.val / 64, t.val % 64, 0])

/-- Row `i` of chunk `k`. -/
def row (k : ℕ) (i : Fin 128) : Fin 8192 := ⟨(128 * k + i.val) % 8192, Nat.mod_lt _ (by decide)⟩

theorem row_val (k : ℕ) (hk : k < 64) (i : Fin 128) : (row k i).val = 128 * k + i.val := Nat.mod_eq_of_lt (by omega)

theorem blk0 (t : Fin cfg0.N) (i : Fin 128) (L : Fin 2048) (hb : t.val / 64 < 2) :
    iblk m c 0 t (ix3 0 i L) = m ((c : Thread nD τ).loc main_arg0) (ix3 ⟨t.val / 64, hb⟩ (row (t.val % 64) i) L) := by
  have h := row_val (t.val % 64) (Nat.mod_lt _ (by decide)) i
  generalize row (t.val % 64) i = q at h ⊢
  blk_ext! [iblk, V, idx t]
theorem blk1 (t : Fin cfg0.N) (i : Fin 128) (L : Fin 1024) (hb : t.val / 64 < 2) :
    iblk m c 1 t (ix3 0 i L) = m ((c : Thread nD τ).loc main_arg1) (ix3 ⟨t.val / 64, hb⟩ (row (t.val % 64) i) L) := by
  have h := row_val (t.val % 64) (Nat.mod_lt _ (by decide)) i
  generalize row (t.val % 64) i = q at h ⊢
  blk_ext! [iblk, V, idx t]
theorem blk2 (t : Fin cfg0.N) (i : Fin 128) (L : Fin 1024) (hb : t.val / 64 < 2) :
    iblk m c 2 t (ix3 0 i L) = m ((c : Thread nD τ).loc main_arg2) (ix3 ⟨t.val / 64, hb⟩ (row (t.val % 64) i) L) := by
  have h := row_val (t.val % 64) (Nat.mod_lt _ (by decide)) i
  generalize row (t.val % 64) i = q at h ⊢
  blk_ext! [iblk, V, idx t]
theorem blk3 (t : Fin cfg0.N) (i : Fin 128) (L : Fin 128) (hb : t.val / 64 < 2) :
    iblk m c 3 t (ix3 0 i L) = m ((c : Thread nD τ).loc main_arg3) (ix3 ⟨t.val / 64, hb⟩ (row (t.val % 64) i) L) := by
  have h := row_val (t.val % 64) (Nat.mod_lt _ (by decide)) i
  generalize row (t.val % 64) i = q at h ⊢
  blk_ext! [iblk, V, idx t]
theorem blk4 (t : Fin cfg0.N) (i : Fin 128) (L : Fin 2048) (hb : t.val / 64 < 2) :
    iblk m c 4 t (ix3 0 i L) = m ((c : Thread nD τ).loc main_arg4) (ix3 ⟨t.val / 64, hb⟩ (row (t.val % 64) i) L) := by
  have h := row_val (t.val % 64) (Nat.mod_lt _ (by decide)) i
  generalize row (t.val % 64) i = q at h ⊢
  blk_ext! [iblk, V, idx t]
theorem blk5 (t : Fin cfg0.N) (h : Fin 128) : iblk m c 5 t (ix2 0 h) = V m c main_v1 (ix2 0 h) := by
  blk_ext! [iblk, idx t]
theorem blk6 (t : Fin cfg0.N) (h : Fin 2048) : iblk m c 6 t (ix2 0 h) = V m c main_v4 (ix2 0 h) := by
  blk_ext! [iblk, idx t]
theorem blk7 (t : Fin cfg0.N) (h : Fin 2048) : iblk m c 7 t (ix2 0 h) = V m c main_v14 (ix2 0 h) := by
  blk_ext! [iblk, idx t]
theorem blk8 (t : Fin cfg0.N) (h : Fin 128) (L : Fin 2048) : iblk m c 8 t (ix2 h L) = V m c main_v13 (ix2 h L) := by
  blk_ext! [iblk, idx t]

theorem prep5 (h : Fin 128) : V m c main_v1 (ix2 0 h)
    = if hh : h.val < 32 then m ((c : Thread nD τ).loc main_arg5) (ix1 ⟨h.val, hh⟩) else (0 : EReal) := by
  unfold V
  after_reads_at
  have e : (FloatOps.sitofp (F := Ideal) FTy.f32 0#32 : EReal) = 0 := by
    show (((0#32).toInt : ℝ) : EReal) = 0
    simp
  rw [e]
theorem prep6 (L : Fin 2048) : V m c main_v4 (ix2 0 L) = (m ((c : Thread nD τ).loc main_arg6) (ix1 ⟨L.val / 64, by omega⟩) : EReal) := by
  unfold V
  after_reads_at
theorem prep7 (L : Fin 2048) : V m c main_v14 (ix2 0 L) = (m ((c : Thread nD τ).loc main_arg7) (ix1 L) : EReal) := by
  unfold V
  after_reads_at

theorem head_word : ∀ L : Fin 2048, Scalar.select
    (IntOp.andi
      (IntOp.cmpi CmpIPredicate.ne
        (if BitVec.ofNat 32 L.val = 0 then 0 else if (BitVec.ofNat 32 L.val).msb = true then -1 else 1 : BitVec 32)
        (if (64#32) = 0 then 0 else if BitVec.msb (64#32) = true then -1 else 1))
      (IntOp.cmpi CmpIPredicate.ne (IntOp.remsi ArithUnit.host (BitVec.ofNat 32 L.val) 64#32) 0#32))
    (IntOp.subi (IntOp.divsi ArithUnit.host (BitVec.ofNat 32 L.val) 64#32) 1#32)
    (IntOp.divsi ArithUnit.host (BitVec.ofNat 32 L.val) 64#32) = BitVec.ofNat 32 (L.val / 64) := by
  decide +kernel

theorem eq_word (a b : ℕ) (ha : a < 128) (hb : b < 128) : IntOp.cmpi .eq (BitVec.ofNat 32 a) (BitVec.ofNat 32 b) = if a = b then 1#1 else 0#1 := by
  have h : ∀ a b : Fin 128, IntOp.cmpi .eq (BitVec.ofNat 32 a.val) (BitVec.ofNat 32 b.val) = if a.val = b.val then 1#1 else 0#1 := by decide +kernel
  exact h ⟨a, ha⟩ ⟨b, hb⟩

theorem prep8 (h : Fin 128) (L : Fin 2048) : V m c main_v13 (ix2 h L) = if h = hof L then (1 : EReal) else 0 := by
  unfold V
  after_reads_at
  refine (congrArg (fun w => FloatOps.uitofp (F := Ideal) FTy.bf16 (IntOp.cmpi CmpIPredicate.eq (BitVec.ofNat 32 h.val) w)) (head_word L)).trans ?_
  show FloatOps.uitofp (F := Ideal) FTy.bf16 (IntOp.cmpi CmpIPredicate.eq (BitVec.ofNat 32 h.val) (BitVec.ofNat 32 (L.val / 64))) = _
  rw [eq_word _ _ h.isLt (by omega)]
  by_cases e : h.val = L.val / 64
  · rw [if_pos e, if_pos (Fin.ext e)]
    show (((1#1).toNat : ℝ) : EReal) = 1
    simp
  · rw [if_neg e, if_neg (fun q => e (congrArg Fin.val q))]
    show (((0#1).toNat : ℝ) : EReal) = 0
    simp

/-! ## The chunks in order -/

/-- The arguments, as real numbers. -/
structure Args (x0 : Vec Ideal S2x8192x2048 .f32) (x1 x2 : Vec Ideal S2x8192x1024 .bf16) (x3 : Vec Ideal S2x8192x128 .f32)
    (x5 : Vec Ideal S32 .f32) (xr : Fin 2 → Fin 8192 → Fin 2048 → ℝ) (br cr : Fin 2 → Fin 8192 → Fin 1024 → ℝ)
    (dtr : Fin 2 → Fin 8192 → Fin 128 → ℝ) (A : Fin 32 → ℝ) : Prop where
  h0 : ∀ b i L, x0 (ix3 b i L) = ((xr b i L : ℝ) : EReal)
  h1 : ∀ b i L, x1 (ix3 b i L) = ((br b i L : ℝ) : EReal)
  h2 : ∀ b i L, x2 (ix3 b i L) = ((cr b i L : ℝ) : EReal)
  h3 : ∀ b i L, x3 (ix3 b i L) = ((dtr b i L : ℝ) : EReal)
  h5 : ∀ h, x5 (ix1 h) = ((A h : ℝ) : EReal)

/-- The decay rates' logarithms, over 128 lanes. -/
def alog (A : Fin 32 → ℝ) (h : Fin 128) : ℝ := if hh : h.val < 32 then A ⟨h.val, hh⟩ else 0

/-- The state that enters chunk `k`. -/
def entering (xr : Fin 8192 → Fin 2048 → ℝ) (br : Fin 8192 → Fin 1024 → ℝ) (dtr : Fin 8192 → Fin 128 → ℝ) (al : Fin 128 → ℝ) :
    ℕ → Fin 128 → Fin 2048 → ℝ
  | 0 => fun _ _ => 0
  | k + 1 => stateR (fun i => xr (row k i)) (fun i => br (row k i)) (fun i => dtr (row k i)) al (entering xr br dtr al k)

/-- The scan's result: row `i` of chunk `k`. -/
def resultE (xr : Fin 8192 → Fin 2048 → ℝ) (br cr : Fin 8192 → Fin 1024 → ℝ) (dtr : Fin 8192 → Fin 128 → ℝ) (al : Fin 128 → ℝ)
    (z : Fin 8192 → Fin 2048 → EReal) (d gn : Fin 2048 → EReal) (k : ℕ) (i : Fin 128) (L : Fin 2048) : EReal :=
  outE (fun L => ((scanR (fun i => xr (row k i)) (fun i => br (row k i)) (fun i => cr (row k i)) (fun i => dtr (row k i)) al
      (entering xr br dtr al k) i L : ℝ) : EReal)) d (fun L => ((xr (row k i) L : ℝ) : EReal)) (z (row k i)) gn L

/-- The scan's result over all rows. -/
def scanArr (xr : Fin 2 → Fin 8192 → Fin 2048 → ℝ) (br cr : Fin 2 → Fin 8192 → Fin 1024 → ℝ) (dtr : Fin 2 → Fin 8192 → Fin 128 → ℝ)
    (A : Fin 32 → ℝ) (z : Vec Ideal S2x8192x2048 .f32) (d : Vec Ideal S32 .f32) (gn : Vec Ideal S2048 .f32) : Vec Ideal S2x8192x2048 .bf16 :=
  fun y => resultE (xr (y 0)) (br (y 0)) (cr (y 0)) (dtr (y 0)) (alog A) (fun i L => z (ix3 (y 0) i L)) (fun L => d (ix1 ⟨L.val / 64, by omega⟩))
    (fun L => gn (ix1 L)) ((y 1).val / 128) ⟨(y 1).val % 128, Nat.mod_lt _ (by decide)⟩ (y 2)

theorem scanArr_row (xr : Fin 2 → Fin 8192 → Fin 2048 → ℝ) (br cr : Fin 2 → Fin 8192 → Fin 1024 → ℝ) (dtr : Fin 2 → Fin 8192 → Fin 128 → ℝ)
    (A : Fin 32 → ℝ) (z : Vec Ideal S2x8192x2048 .f32) (d : Vec Ideal S32 .f32) (gn : Vec Ideal S2048 .f32) (b : Fin 2) (k : ℕ) (hk : k < 64)
    (i : Fin 128) (L : Fin 2048) : scanArr xr br cr dtr A z d gn (ix3 b (row k i) L)
      = resultE (xr b) (br b) (cr b) (dtr b) (alog A) (fun i L => z (ix3 b i L)) (fun L => d (ix1 ⟨L.val / 64, by omega⟩))
        (fun L => gn (ix1 L)) k i L := by
  have h := row_val k hk i
  have e1 : (row k i).val / 128 = k := by omega
  have e2 : (⟨(row k i).val % 128, Nat.mod_lt _ (by decide)⟩ : Fin 128) = i := Fin.ext (by show (row k i).val % 128 = _; omega)
  show resultE _ _ _ _ _ _ _ _ ((row k i).val / 128) ⟨(row k i).val % 128, _⟩ L = _
  rw [e1, e2]
  rfl

theorem outs_A (t : Fin cfg0.N) (h0 : t.val % 64 = 0) : outsAt0 m c t.val t.isLt
    = (View.canon (listO (F := Ideal) (iblk m c 0 t) (iblk m c 1 t) (iblk m c 2 t) (iblk m c 3 t) (iblk m c 4 t) (iblk m c 5 t) (iblk m c 6 t)
        (iblk m c 7 t) (iblk m c 8 t) (k0_pay2 (F := Ideal))),
      View.canon (listS (F := Ideal) (iblk m c 0 t) (iblk m c 1 t) (iblk m c 3 t) (iblk m c 5 t) (iblk m c 8 t) (k0_pay2 (F := Ideal))
        ++ [⟨Rect.unit ![0, 0] ![128, 2048] inb_S128x2048_S128x2048_0_0, k0_pay2 (F := Ideal)⟩])) := by
  rw [outsAt0_A m c t h0, state_A, result_A]

theorem outs_B (t : Fin cfg0.N) (h0 : ¬t.val % 64 = 0) : outsAt0 m c t.val t.isLt
    = (View.canon (listO (F := Ideal) (iblk m c 0 t) (iblk m c 1 t) (iblk m c 2 t) (iblk m c 3 t) (iblk m c 4 t) (iblk m c 5 t) (iblk m c 6 t)
        (iblk m c 7 t) (iblk m c 8 t) (outsAt0 m c (t.val - 1) (lt_of_le_of_lt (Nat.sub_le _ _) t.isLt)).2),
      View.canon (listS (F := Ideal) (iblk m c 0 t) (iblk m c 1 t) (iblk m c 3 t) (iblk m c 5 t) (iblk m c 8 t)
        (outsAt0 m c (t.val - 1) (lt_of_le_of_lt (Nat.sub_le _ _) t.isLt)).2 ++ [])) := by
  rw [outsAt0_B m c t h0, state_B, result_B, List.append_nil]

section

variable {xr : Fin 2 → Fin 8192 → Fin 2048 → ℝ} {br cr : Fin 2 → Fin 8192 → Fin 1024 → ℝ} {dtr : Fin 2 → Fin 8192 → Fin 128 → ℝ} {A : Fin 32 → ℝ}
  (H : Args (m ((c : Thread nD τ).loc main_arg0)) (m ((c : Thread nD τ).loc main_arg1)) (m ((c : Thread nD τ).loc main_arg2))
    (m ((c : Thread nD τ).loc main_arg3)) (m ((c : Thread nD τ).loc main_arg5)) xr br cr dtr A)
include H

theorem reads (t : Fin cfg0.N) (b : Fin 2) (k : ℕ) (hb : t.val / 64 = b.val) (hk : t.val % 64 = k) :
    Reads (iblk m c 0 t) (iblk m c 1 t) (iblk m c 2 t) (iblk m c 3 t) (iblk m c 5 t) (iblk m c 8 t)
      (fun i => xr b (row k i)) (fun i => br b (row k i)) (fun i => cr b (row k i)) (fun i => dtr b (row k i)) (alog A) := by
  subst hk
  have hb2 : t.val / 64 < 2 := by omega
  have eb : (⟨t.val / 64, hb2⟩ : Fin 2) = b := Fin.ext hb
  constructor
  · exact fun i L => (blk0 m c t i L hb2).trans (by rw [eb]; exact H.h0 _ _ _)
  · exact fun i L => (blk1 m c t i L hb2).trans (by rw [eb]; exact H.h1 _ _ _)
  · exact fun i L => (blk2 m c t i L hb2).trans (by rw [eb]; exact H.h2 _ _ _)
  · exact fun i L => (blk3 m c t i L hb2).trans (by rw [eb]; exact H.h3 _ _ _)
  · refine fun h => (blk5 m c t h).trans ((prep5 m c h).trans ?_)
    unfold alog
    split
    · exact H.h5 _
    · simp
  · exact fun h L => (blk8 m c t h L).trans (prep8 m c h L)

theorem state_first (t : Fin cfg0.N) (b : Fin 2) (hb : t.val / 64 = b.val) (h0 : t.val % 64 = 0) (r : Fin 128) (L : Fin 2048) :
    (outsAt0 m c t.val t.isLt).2 (ix2 r L) = ((entering (xr b) (br b) (dtr b) (alog A) (0 + 1) r L : ℝ) : EReal) := by
  rw [outs_A m c t h0, entering]
  dsimp only
  exact listS_apply (reads m c H t b 0 hb h0) _ _ zero_apply _ r L

theorem state_next (t : Fin cfg0.N) (b : Fin 2) (k : ℕ) (hb : t.val / 64 = b.val) (hk : t.val % 64 = k)
    (hs : ∀ (r : Fin 128) (L : Fin 2048), (outsAt0 m c (t.val - 1) (lt_of_le_of_lt (Nat.sub_le _ _) t.isLt)).2 (ix2 r L)
      = ((entering (xr b) (br b) (dtr b) (alog A) k r L : ℝ) : EReal))
    (h0 : ¬t.val % 64 = 0) (r : Fin 128) (L : Fin 2048) :
    (outsAt0 m c t.val t.isLt).2 (ix2 r L) = ((entering (xr b) (br b) (dtr b) (alog A) (k + 1) r L : ℝ) : EReal) := by
  rw [outs_B m c t h0, entering]
  dsimp only
  exact listS_apply (reads m c H t b k hb hk) _ _ hs _ r L

theorem state_at : ∀ (n : ℕ) (hn : n < cfg0.N) (b : Fin 2) (_ : n / 64 = b.val) (r : Fin 128) (L : Fin 2048),
    (outsAt0 m c n hn).2 (ix2 r L) = ((entering (xr b) (br b) (dtr b) (alog A) (n % 64 + 1) r L : ℝ) : EReal) := by
  intro n
  induction n with
  | zero => exact fun hn b hb r L => state_first m c H ⟨0, hn⟩ b hb rfl r L
  | succ n ih =>
    intro hn b hb r L
    by_cases h0 : (n + 1) % 64 = 0
    · rw [h0]
      exact state_first m c H ⟨n + 1, hn⟩ b hb h0 r L
    · have hm : (n + 1) % 64 = n % 64 + 1 := by omega
      rw [hm]
      exact state_next m c H ⟨n + 1, hn⟩ b (n % 64 + 1) hb hm (ih (by omega) b (by omega)) h0 r L

theorem result_at (t : Fin cfg0.N) (b : Fin 2) (hb : t.val / 64 = b.val) (i : Fin 128) (L : Fin 2048) :
    (outsAt0 m c t.val t.isLt).1 (ix3 0 i L) = resultE (xr b) (br b) (cr b) (dtr b) (alog A) (fun i L => m ((c : Thread nD τ).loc main_arg4) (ix3 b i L))
      (fun L => m ((c : Thread nD τ).loc main_arg6) (ix1 ⟨L.val / 64, by omega⟩)) (fun L => m ((c : Thread nD τ).loc main_arg7) (ix1 L)) (t.val % 64) i L := by
  have hb2 : t.val / 64 < 2 := by omega
  have eb : (⟨t.val / 64, hb2⟩ : Fin 2) = b := Fin.ext hb
  have key : ∀ (st : Vec Ideal S128x2048 .f32) (_ : ∀ r L, st (ix2 r L) = ((entering (xr b) (br b) (dtr b) (alog A) (t.val % 64) r L : ℝ) : EReal)),
      View.canon (listO (F := Ideal) (iblk m c 0 t) (iblk m c 1 t) (iblk m c 2 t) (iblk m c 3 t) (iblk m c 4 t) (iblk m c 5 t) (iblk m c 6 t)
        (iblk m c 7 t) (iblk m c 8 t) st) (ix3 0 i L) = resultE (xr b) (br b) (cr b) (dtr b) (alog A) (fun i L => m ((c : Thread nD τ).loc main_arg4) (ix3 b i L))
      (fun L => m ((c : Thread nD τ).loc main_arg6) (ix1 ⟨L.val / 64, by omega⟩)) (fun L => m ((c : Thread nD τ).loc main_arg7) (ix1 L)) (t.val % 64) i L := by
    intro st hs
    refine (listO_apply (reads m c H t b _ hb rfl) (iblk m c 4 t) (iblk m c 6 t) (iblk m c 7 t) st _ hs i L).trans ?_
    unfold resultE
    have e0 : (fun L => iblk m c 0 t (ix3 0 i L)) = fun L => ((xr b (row (t.val % 64) i) L : ℝ) : EReal) :=
      funext fun L => (reads m c H t b _ hb rfl).h0 i L
    have e4 : (fun L => iblk m c 4 t (ix3 0 i L)) = fun L => m ((c : Thread nD τ).loc main_arg4) (ix3 b (row (t.val % 64) i) L) :=
      funext fun L => (blk4 m c t i L hb2).trans (by rw [eb])
    have e6 : (fun L => iblk m c 6 t (ix2 0 L)) = fun L : Fin 2048 => m ((c : Thread nD τ).loc main_arg6) (ix1 ⟨L.val / 64, by omega⟩) :=
      funext fun L => (blk6 m c t L).trans (prep6 m c L)
    have e7 : (fun L => iblk m c 7 t (ix2 0 L)) = fun L => m ((c : Thread nD τ).loc main_arg7) (ix1 L) :=
      funext fun L => (blk7 m c t L).trans (prep7 m c L)
    rw [e0, e4, e6, e7]
  by_cases h0 : t.val % 64 = 0
  · have e := outs_A m c t h0
    rw [e]
    dsimp only
    refine key _ ?_
    intro r L
    rw [h0]
    exact zero_apply r L
  · have e := outs_B m c t h0
    rw [e]
    dsimp only
    refine key _ ?_
    intro r L
    have hm : t.val % 64 = (t.val - 1) % 64 + 1 := by omega
    rw [hm]
    exact state_at m c H (t.val - 1) _ b (by omega) r L

/-- The kernel's result after the run. -/
theorem arr9_eq : (dats m 0 c).arrAt 9 cfg0.N = scanArr xr br cr dtr A (m ((c : Thread nD τ).loc main_arg4)) (m ((c : Thread nD τ).loc main_arg6))
    (m ((c : Thread nD τ).loc main_arg7)) := by
  refine (dats m 0 c).arrAt_eq_of_covers 9 _ (by decide +kernel) fun t hf y => ?_
  blk_simp
  rw [after0_9]
  idx_vars y
  obtain rfl : y0 = 0 := Subsingleton.elim (α := Fin 1) y0 0
  have hN : cfg0.grid.N = 128 := by decide +kernel
  have h4 := (t.isLt).trans_eq hN
  have hb : t.val / 64 < 2 := by omega
  have e : ((View.whole main_v15).slice (win0_9.rect t)).emb (ix3 0 y1 y2)
      = ix3 (⟨t.val / 64, hb⟩ : Fin 2) (row (t.val % 64) y1) y2 := by
    have h := row_val (t.val % 64) (Nat.mod_lt _ (by decide)) y1
    generalize row (t.val % 64) y1 = q at h ⊢
    blk_ext [idx t]
  refine (result_at m c H t ⟨t.val / 64, hb⟩ rfl y1 y2).trans ?_
  rw [e]
  exact (scanArr_row _ _ _ _ _ _ _ _ _ _ (Nat.mod_lt _ (by decide)) _ _).symm

end

end Cert.Scan

end
-- ==== Proof.ScanRead.lean ====
module

public import proofs.«01_k».proof.Proof.ScanRun
public import proofs.«01_k».proof.Proof.Reals
public import proofs.«01_k».proof.Proof.ScanValue
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! ## The scan's reference program: what each of its groups of operations computes -/

namespace Cert.Scan
open Cert.ReferenceIdeal Cert.ReferenceIdeal.Gen Cert.ReferenceIdeal.Value Idealize.ShloMosaic.StableHlo

/-- The window of a sum along a chunk's rows. -/
abbrev winShape : Shape := ⟨5, ![1, 1, 128, 1, 1]⟩

theorem win_numel : winShape.numel = 128 := by decide +kernel

theorem win_row (n : Fin winShape.numel) : (winShape.rowMajor.symm n 2).val = n.val := by
  obtain ⟨w, rfl⟩ := winShape.rowMajor.surjective n
  rw [Equiv.symm_apply_apply]
  show _ = (Shape.rowMajorPi _ w).val
  have h0 : (w 0).val = 0 := Nat.lt_one_iff.mp (w 0).isLt
  have h1 : (w 1).val = 0 := Nat.lt_one_iff.mp (w 1).isLt
  have h3 : (w 3).val = 0 := Nat.lt_one_iff.mp (w 3).isLt
  have h4 : (w 4).val = 0 := Nat.lt_one_iff.mp (w 4).isLt
  rw [Shape.rowMajorPi_succ_val, Shape.rowMajorPi_succ_val, Shape.rowMajorPi_succ_val, Shape.rowMajorPi_succ_val, Shape.rowMajorPi_succ_val]
  show (w 2).val = (w 0).val * _ + ((w 1).val * _ + ((w 2).val * (∏ a : Fin 2, _) + ((w 3).val * _ + ((w 4).val * _ + _))))
  rw [h0, h1, h3, h4]
  simp [Fin.prod_univ_two]

theorem foldl_sum {n : ℕ} (g : Fin n → EReal) : (List.finRange n).foldl (fun r k => r + g k) 0 = ∑ k, g k := by
  rw [← List.sum_ofFn, List.sum_eq_foldl, List.ofFn_eq_map, List.foldl_map]

theorem prefix_sum (f : Fin 128 → EReal) (i : Fin 128) :
    ∑ n : Fin 128, (if h : 127 ≤ i.val + n.val then f ⟨i.val + n.val - 127, by omega⟩ else 0) = ∑ j, if j ≤ i then f j else 0 := by
  have e : ∀ n : Fin 128, (if h : 127 ≤ i.val + n.val then f ⟨i.val + n.val - 127, by omega⟩ else 0)
      = if 127 ≤ i.val + n.val then f ⟨i.val + n.val - 127, by omega⟩ else 0 := fun n => rfl
  rw [Finset.sum_congr rfl fun n _ => e n, ← Finset.sum_filter, ← Finset.sum_filter]
  refine Finset.sum_bij' (fun n _ => (⟨i.val + n.val - 127, by omega⟩ : Fin 128)) (fun j _ => (⟨(j.val + 127 - i.val) % 128, Nat.mod_lt _ (by decide)⟩ : Fin 128))
    ?_ ?_ ?_ ?_ ?_
  · intro n hn
    have h := (Finset.mem_filter.mp hn).2
    exact Finset.mem_filter.mpr ⟨Finset.mem_univ _, by show i.val + n.val - 127 ≤ i.val; omega⟩
  · intro j hj
    have h : j.val ≤ i.val := (Finset.mem_filter.mp hj).2
    exact Finset.mem_filter.mpr ⟨Finset.mem_univ _, by show 127 ≤ i.val + (j.val + 127 - i.val) % 128; omega⟩
  · intro n hn
    have h := (Finset.mem_filter.mp hn).2
    exact Fin.ext (by show (i.val + n.val - 127 + 127 - i.val) % 128 = n.val; omega)
  · intro j hj
    have h : j.val ≤ i.val := (Finset.mem_filter.mp hj).2
    exact Fin.ext (by show i.val + (j.val + 127 - i.val) % 128 - 127 = j.val; omega)
  · intro n hn
    rfl

/-- jax's running sum along a chunk's rows, at an index. -/
theorem cumsum_apply (x : FVec Ideal S2x64x128x8x4 .f32) (v : FVec Ideal S_ .f32) (hv : v ix0 = 0)
    (b : Fin 2) (k : Fin 64) (i : Fin 128) (g : Fin 8) (r : Fin 4) :
    Host.reduceWindowAdd (F := Ideal) ![1, 1, 128, 1, 1] ![1, 1, 1, 1, 1] ![0, 0, 127, 0, 0] ![0, 0, 0, 0, 0] x v
      reduceWindows_S2x64x128x8x4_S2x64x128x8x4_w1s1p0_0_w1s1p0_0_w128s1p127_0_w1s1p0_0_w1s1p0_0 h_S_ (ix5 b k i g r)
      = ∑ j : Fin 128, if j ≤ i then x (ix5 b k j g r) else 0 := by
  rw [← prefix_sum (fun j => x (ix5 b k j g r)) i]
  have hv' : v (Shape.Idx.first h_S_) = 0 := (congrArg v (Subsingleton.elim _ _)).trans hv
  unfold Host.reduceWindowAdd
  rw [hv']
  show Host.reduceWindow (s := S2x64x128x8x4) (t := S2x64x128x8x4) (fun p q : EReal => p + q) ![1, 1, 128, 1, 1] ![1, 1, 1, 1, 1] ![0, 0, 127, 0, 0] ![0, 0, 0, 0, 0] x (fun _ : S_.Idx => (0 : EReal))
    reduceWindows_S2x64x128x8x4_S2x64x128x8x4_w1s1p0_0_w1s1p0_0_w128s1p127_0_w1s1p0_0_w1s1p0_0 h_S_ (ix5 b k i g r) = _
  unfold Host.reduceWindow
  refine (foldl_sum (n := winShape.numel) _).trans ?_
  refine Fintype.sum_equiv (finCongr win_numel) _ _ fun n => ?_
  have hw := win_row n
  have h0 : (winShape.rowMajor.symm n 0).val = 0 := Nat.lt_one_iff.mp (winShape.rowMajor.symm n 0).isLt
  have h1 : (winShape.rowMajor.symm n 1).val = 0 := Nat.lt_one_iff.mp (winShape.rowMajor.symm n 1).isLt
  have h3 : (winShape.rowMajor.symm n 3).val = 0 := Nat.lt_one_iff.mp (winShape.rowMajor.symm n 3).isLt
  have h4 : (winShape.rowMajor.symm n 4).val = 0 := Nat.lt_one_iff.mp (winShape.rowMajor.symm n 4).isLt
  have hn : n.val < 128 := n.isLt.trans_eq win_numel
  have en : (finCongr win_numel n).val = n.val := rfl
  generalize finCongr win_numel n = q at en ⊢
  by_cases hc : 127 ≤ i.val + q.val
  · rw [dif_pos hc]
    refine (dif_pos (fun a => ?_)).trans (congrArg x (funext fun a => Fin.ext ?_))
    · match a with
      | ⟨0, _⟩ =>
        show 0 ≤ b.val * 1 + (winShape.rowMajor.symm n 0).val ∧ b.val * 1 + (winShape.rowMajor.symm n 0).val - 0 < 2
        omega
      | ⟨1, _⟩ =>
        show 0 ≤ k.val * 1 + (winShape.rowMajor.symm n 1).val ∧ k.val * 1 + (winShape.rowMajor.symm n 1).val - 0 < 64
        omega
      | ⟨2, _⟩ =>
        show 127 ≤ i.val * 1 + (winShape.rowMajor.symm n 2).val ∧ i.val * 1 + (winShape.rowMajor.symm n 2).val - 127 < 128
        omega
      | ⟨3, _⟩ =>
        show 0 ≤ g.val * 1 + (winShape.rowMajor.symm n 3).val ∧ g.val * 1 + (winShape.rowMajor.symm n 3).val - 0 < 8
        omega
      | ⟨4, _⟩ =>
        show 0 ≤ r.val * 1 + (winShape.rowMajor.symm n 4).val ∧ r.val * 1 + (winShape.rowMajor.symm n 4).val - 0 < 4
        omega
    · match a with
      | ⟨0, _⟩ => show b.val * 1 + (winShape.rowMajor.symm n 0).val - 0 = b.val; omega
      | ⟨1, _⟩ => show k.val * 1 + (winShape.rowMajor.symm n 1).val - 0 = k.val; omega
      | ⟨2, _⟩ => show i.val * 1 + (winShape.rowMajor.symm n 2).val - 127 = i.val + q.val - 127; omega
      | ⟨3, _⟩ => show g.val * 1 + (winShape.rowMajor.symm n 3).val - 0 = g.val; omega
      | ⟨4, _⟩ => show r.val * 1 + (winShape.rowMajor.symm n 4).val - 0 = r.val; omega
  · rw [dif_neg hc]
    refine dif_neg fun h => hc ?_
    have h2 : 127 ≤ i.val * 1 + (winShape.rowMajor.symm n 2).val := (h 2).1
    omega

end Cert.Scan

namespace Cert.Scan
open Cert.ReferenceIdeal Cert.ReferenceIdeal.Gen Cert.ReferenceIdeal.Value Idealize.ShloMosaic.StableHlo
variable (V : Valuation τ sig (Elt Ideal))

abbrev t_v0 : Vec Ideal S2x8192x8x4x64 .f32 := V (Proc.devRef .tc main_v0)
abbrev t_v16 : Vec Ideal S2x64x128x8x4x64 .f32 := V (Proc.devRef .tc main_v16)
abbrev t_v17 : Vec Ideal S2x64x128x8x128 .f32 := V (Proc.devRef .tc main_v17)
abbrev t_v18 : Vec Ideal S2x64x128x8x128 .f32 := V (Proc.devRef .tc main_v18)
abbrev t_v19 : Vec Ideal S2x64x128x8x4 .f32 := V (Proc.devRef .tc main_v19)
abbrev t_v20 : Vec Ideal S2x64x128x8x4 .f32 := V (Proc.devRef .tc main_v20)
abbrev t_v21 : Vec Ideal S2x8x4x64x128 .f32 := V (Proc.devRef .tc main_v21)
abbrev t_v26 : Vec Ideal S2x8x4x64x128x128 .f32 := V (Proc.devRef .tc main_v26)
abbrev t_v29 : Vec Ideal S2x8x4x64x128x128 .f32 := V (Proc.devRef .tc main_v29)
abbrev t_v36 : Vec Ideal S2x64x128x8x4x64 .f32 := V (Proc.devRef .tc main_v36)
abbrev t_v52_4 : Vec Ideal S64x2x8x4x64x128 .f32 := V (Proc.devRef .tc main_v52_4)
abbrev t_v68 : Vec Ideal S2x8192x2048 .f32 := V (Proc.devRef .tc main_v68)
abbrev t_v69 : Vec Ideal S2x8192x2048 .f32 := V (Proc.devRef .tc main_v69)
abbrev t_arg4 : Vec Ideal S2x8192x2048 .f32 := V (Proc.devRef .tc main_arg4)
abbrev t_arg6 : Vec Ideal S32 .f32 := V (Proc.devRef .tc main_arg6)
abbrev t_arg7 : Vec Ideal S2048 .f32 := V (Proc.devRef .tc main_arg7)
abbrev t_arg0 : Vec Ideal S2x8192x2048 .f32 := V (Proc.devRef .tc main_arg0)
abbrev t_arg1 : Vec Ideal S2x8192x1024 .bf16 := V (Proc.devRef .tc main_arg1)
abbrev t_arg2 : Vec Ideal S2x8192x1024 .bf16 := V (Proc.devRef .tc main_arg2)
abbrev t_arg3 : Vec Ideal S2x8192x128 .f32 := V (Proc.devRef .tc main_arg3)
abbrev t_arg5 : Vec Ideal S32 .f32 := V (Proc.devRef .tc main_arg5)
abbrev t_v52_0 : Vec Ideal S64x2x8x4x64x128 .f32 := V (Proc.devRef .tc main_v52_0)
abbrev t_v52_1 : Vec Ideal S64x2x8x4 .f32 := V (Proc.devRef .tc main_v52_1)
abbrev t_v52_3 : Vec Ideal S2x8x4x64x128 .f32 := V (Proc.devRef .tc main_v52_3)
abbrev t_v86 : Vec Ideal S2x8192x2048 .bf16 := V (Proc.devRef .tc main_v86)

/-! ### What one group of the reference's operations computes, at an index -/

theorem read_v0 (b : Fin 2) (t : Fin 8192) (g : Fin 8) (r : Fin 4) (p : Fin 64) :
    after hostOps0 V (Proc.devRef .tc main_v0) (ix5 b t g r p)
      = t_arg0 V (ix3 b t ⟨g.val * 256 + r.val * 64 + p.val, by omega⟩) := by
  after_reads_at

theorem read_v16 (b : Fin 2) (k : Fin 64) (i : Fin 128) (g : Fin 8) (r : Fin 4) (p : Fin 64) :
    after hostOps0 V (Proc.devRef .tc main_v16) (ix6 b k i g r p)
      = t_arg0 V (ix3 b ⟨k.val * 128 + i.val, by omega⟩ ⟨g.val * 256 + r.val * 64 + p.val, by omega⟩)
        * t_arg3 V (ix3 b ⟨k.val * 128 + i.val, by omega⟩ ⟨g.val * 4 + r.val, by omega⟩) := by
  after_reads_at

theorem read_v17 (b : Fin 2) (k : Fin 64) (i : Fin 128) (g : Fin 8) (n : Fin 128) :
    after hostOps0 V (Proc.devRef .tc main_v17) (ix5 b k i g n)
      = t_arg1 V (ix3 b ⟨k.val * 128 + i.val, by omega⟩ ⟨g.val * 128 + n.val, by omega⟩) := by
  after_reads_at

theorem read_v18 (b : Fin 2) (k : Fin 64) (i : Fin 128) (g : Fin 8) (n : Fin 128) :
    after hostOps0 V (Proc.devRef .tc main_v18) (ix5 b k i g n)
      = t_arg2 V (ix3 b ⟨k.val * 128 + i.val, by omega⟩ ⟨g.val * 128 + n.val, by omega⟩) := by
  after_reads_at

theorem read_v19 (b : Fin 2) (k : Fin 64) (i : Fin 128) (g : Fin 8) (r : Fin 4) :
    after hostOps0 V (Proc.devRef .tc main_v19) (ix5 b k i g r)
      = t_arg3 V (ix3 b ⟨k.val * 128 + i.val, by omega⟩ ⟨g.val * 4 + r.val, by omega⟩)
        * -Ideal.exp (t_arg5 V (ix1 ⟨g.val * 4 + r.val, by omega⟩)) := by
  after_reads_at

theorem read_v20 (b : Fin 2) (k : Fin 64) (i : Fin 128) (g : Fin 8) (r : Fin 4) :
    after hostOps0_1 V (Proc.devRef .tc main_v20) (ix5 b k i g r)
      = ∑ j : Fin 128, if j ≤ i then t_v19 V (ix5 b k j g r) else 0 := by
  after_reads_at
  exact cumsum_apply _ _ (by pointwise) b k i g r

theorem read_v21 (b : Fin 2) (k : Fin 64) (i : Fin 128) (g : Fin 8) (r : Fin 4) :
    after hostOps0_2 V (Proc.devRef .tc main_v21) (ix5 b g r k i) = t_v20 V (ix5 b k i g r) := by
  after_reads_at

theorem read_v26 (b : Fin 2) (k : Fin 64) (i j : Fin 128) (g : Fin 8) (r : Fin 4) :
    after hostOps0_2 V (Proc.devRef .tc main_v26) (ix6 b g r k i j)
      = (t_v20 V (ix5 b k i g r) - t_v20 V (ix5 b k j g r) : EReal) := by
  after_reads_at

theorem read_v27 (i j : Fin 128) : after hostOps0_2 V (Proc.devRef .tc main_v27) (ix2 i j) = 1#1 := by
  after_reads_at

theorem read_v28 (i j : Fin 128) :
    after hostOps0_3 V (Proc.devRef .tc main_v28) (ix2 i j)
      = Scalar.select (IntOp.cmpi .sge (IntOp.addi (BitVec.ofNat 32 i.val) 0#32) (BitVec.ofNat 32 j.val)) (V (Proc.devRef .tc main_v27) (ix2 i j)) 0#1 := by
  after_reads_at

theorem read_cst : after hostOps0_4 V (Proc.devRef .tc main_cst) ix0 = (⊥ : EReal) := by
  after_reads_at
  exact Cert.Reals.ofBits_neg_inf

theorem read_v29 (b : Fin 2) (k : Fin 64) (i j : Fin 128) (g : Fin 8) (r : Fin 4) :
    after hostOps0_5 V (Proc.devRef .tc main_v29) (ix6 b g r k i j)
      = Scalar.select (V (Proc.devRef .tc main_v28) (ix2 i j)) (t_v26 V (ix6 b g r k i j)) (V (Proc.devRef .tc main_cst) ix0) := by
  after_reads_at
  rfl

theorem read_v36 (b : Fin 2) (k : Fin 64) (i : Fin 128) (g : Fin 8) (r : Fin 4) (p : Fin 64) :
    after hostOps0_6 V (Proc.devRef .tc main_v36) (ix6 b k i g r p)
      = (∑ x : Fin 128, t_v16 V (ix6 b k x g r p)
          * ((∑ n : Fin 128, t_v18 V (ix5 b k i g n) * t_v17 V (ix5 b k x g n))
            * Ideal.exp (t_v29 V (ix6 b g r k i x))) : EReal) := by
  after_reads_at

theorem read_v52_0 (b : Fin 2) (k : Fin 64) (n : Fin 128) (g : Fin 8) (r : Fin 4) (p : Fin 64) :
    after hostOps0_6 V (Proc.devRef .tc main_v52_0) (ix6 k b g r p n)
      = (∑ x : Fin 128, Ideal.exp (t_v21 V (ix5 b g r k 127) - t_v21 V (ix5 b g r k x) : EReal)
          * t_v16 V (ix6 b k x g r p) * t_v17 V (ix5 b k x g n) : EReal) := by
  have e : after hostOps0_6 V (Proc.devRef .tc main_v52_0) = after hostOps0_6 V (Proc.devRef .tc main_v45) := by
    after_reads_simp
    rfl
  rw [e]
  after_reads_at

theorem read_v52_1 (b : Fin 2) (k : Fin 64) (g : Fin 8) (r : Fin 4) :
    after hostOps0_6 V (Proc.devRef .tc main_v52_1) (ix4 k b g r) = Ideal.exp (t_v21 V (ix5 b g r k 127)) := by
  have e : after hostOps0_6 V (Proc.devRef .tc main_v52_1) = after hostOps0_6 V (Proc.devRef .tc main_v49) := by
    after_reads_simp
    rfl
  rw [e]
  after_reads_at

theorem read_v52_2 : after hostOps0_6 V (Proc.devRef .tc main_v52_2) ix0 = 0#32 := by
  after_reads_at
  rfl

theorem read_v52_3 (b : Fin 2) (n : Fin 128) (g : Fin 8) (r : Fin 4) (p : Fin 64) :
    after hostOps0_6 V (Proc.devRef .tc main_v52_3) (ix5 b g r p n) = (0 : EReal) := by
  have e : after hostOps0_6 V (Proc.devRef .tc main_v52_3) = after hostOps0_6 V (Proc.devRef .tc main_v50) := by
    after_reads_simp
    rfl
  rw [e]
  after_reads_at

theorem read_v68 (b : Fin 2) (t : Fin 8192) (L : Fin 2048) :
    after hostOps0_7 V (Proc.devRef .tc main_v68) (ix3 b t L)
      = (t_v36 V (ix6 b ⟨t.val / 128, by omega⟩ ⟨t.val % 128, by omega⟩ ⟨L.val / 256, by omega⟩ ⟨L.val / 64 % 4, by omega⟩ ⟨L.val % 64, by omega⟩)
        + (∑ n : Fin 128, t_v52_4 V (ix6 ⟨t.val / 128, by omega⟩ b ⟨L.val / 256, by omega⟩ ⟨L.val / 64 % 4, by omega⟩ ⟨L.val % 64, by omega⟩ n)
            * t_v18 V (ix5 b ⟨t.val / 128, by omega⟩ ⟨t.val % 128, by omega⟩ ⟨L.val / 256, by omega⟩ n))
          * Ideal.exp (t_v21 V (ix5 b ⟨L.val / 256, by omega⟩ ⟨L.val / 64 % 4, by omega⟩ ⟨t.val / 128, by omega⟩ ⟨t.val % 128, by omega⟩))
        + t_arg6 V (ix1 ⟨L.val / 256 * 4 + L.val / 64 % 4, by omega⟩)
          * t_v0 V (ix5 b t ⟨L.val / 256, by omega⟩ ⟨L.val / 64 % 4, by omega⟩ ⟨L.val % 64, by omega⟩) : EReal) := by
  after_reads_at

theorem read_v69 (b : Fin 2) (t : Fin 8192) (L : Fin 2048) :
    after hostOps0_8 V (Proc.devRef .tc main_v69) (ix3 b t L)
      = (t_arg4 V (ix3 b t L) * Ideal.logistic (t_arg4 V (ix3 b t L)) : EReal) := by
  after_reads_at
  rfl

theorem read_v86 (b : Fin 2) (t : Fin 8192) (L : Fin 2048) :
    after hostOps0_9 V (Proc.devRef .tc main_v86) (ix3 b t L)
      = normE (fun l => (t_v68 V (ix3 b t (lan (gof L) l)) * t_v69 V (ix3 b t (lan (gof L) l)) : EReal))
          (fun l => t_arg7 V (ix1 (lan (gof L) l))) ⟨L.val % 256, by omega⟩ := by
  after_reads_at
  have e : ∀ l : Fin 256, (⟨L.val / 256 * 256 + l.val, by omega⟩ : Fin 2048) = lan (gof L) l := fun l =>
    Fin.ext (congrArg (· + l.val) (Nat.mul_comm _ _))
  simp only [e]
  have e' : (⟨L.val / 256 * 256 + L.val % 256, by omega⟩ : Fin 2048) = lan (gof L) ⟨L.val % 256, by omega⟩ :=
    Fin.ext (congrArg (· + L.val % 256) (Nat.mul_comm _ _))
  simp only [e']
  unfold normE
  dsimp only
  rw [lan_gof]

end Cert.Scan

end
end
-- ==== Proof.ScanLoop.lean ====
module

public import proofs.«01_k».proof.Proof.ScanRead
public import Idealize.ShloMosaic.Lib.WordCmp

@[expose] public section

set_option maxRecDepth 16384

noncomputable section

open Idealize.ShloMosaic Idealize.ShloMosaic.TcCoe Idealize.SL.Sem
open Idealize.ShloMosaic.Pipeline (Dat)

/-! ## The scan's reference program: its loop over the chunks -/

namespace Cert.Scan
open Cert.ReferenceIdeal Cert.ReferenceIdeal.Gen Cert.ReferenceIdeal.Value Idealize.ShloMosaic.StableHlo

theorem slice_decay (x : Vec Ideal S64x2x8x4 .f32) (st : Fin 4 → Int) (k : Fin 64) (h0 : st 0 = (k.val : Int)) (h1 : st 1 = 0)
    (h2 : st 2 = 0) (h3 : st 3 = 0) (b : Fin 2) (g : Fin 8) (r : Fin 4) :
    Host.dynamicSlice S1x2x8x4 x st sliceFits_S64x2x8x4_S1x2x8x4 (ix4 0 b g r) = x (ix4 k b g r) := by
  have hk : S64x2x8x4.Slices ![k.val, 0, 0, 0] S1x2x8x4 := ⟨rfl, fun a => by
    match a with
    | ⟨0, _⟩ => show k.val + 1 ≤ 64; omega
    | ⟨1, _⟩ => show 0 + 2 ≤ 2; omega
    | ⟨2, _⟩ => show 0 + 8 ≤ 8; omega
    | ⟨3, _⟩ => show 0 + 4 ≤ 4; omega⟩
  rw [WordCmp.dynamicSlice_eq_extract S1x2x8x4 x st _ ![k.val, 0, 0, 0] hk (fun a => by
    match a with
    | ⟨0, _⟩ => exact h0
    | ⟨1, _⟩ => exact h1
    | ⟨2, _⟩ => exact h2
    | ⟨3, _⟩ => exact h3)]
  refine congrArg x (funext fun a => Fin.ext ?_)
  match a with
  | ⟨0, _⟩ => show k.val + 0 = k.val; omega
  | ⟨1, _⟩ => show 0 + b.val = b.val; omega
  | ⟨2, _⟩ => show 0 + g.val = g.val; omega
  | ⟨3, _⟩ => show 0 + r.val = r.val; omega

theorem slice_state (x : Vec Ideal S64x2x8x4x64x128 .f32) (st : Fin 6 → Int) (k : Fin 64) (h0 : st 0 = (k.val : Int)) (h1 : st 1 = 0)
    (h2 : st 2 = 0) (h3 : st 3 = 0) (h4 : st 4 = 0) (h5 : st 5 = 0) (b : Fin 2) (g : Fin 8) (r : Fin 4) (p : Fin 64) (n : Fin 128) :
    Host.dynamicSlice S1x2x8x4x64x128 x st sliceFits_S64x2x8x4x64x128_S1x2x8x4x64x128 (ix6 0 b g r p n) = x (ix6 k b g r p n) := by
  have hk : S64x2x8x4x64x128.Slices ![k.val, 0, 0, 0, 0, 0] S1x2x8x4x64x128 := ⟨rfl, fun a => by
    match a with
    | ⟨0, _⟩ => show k.val + 1 ≤ 64; omega
    | ⟨1, _⟩ => show 0 + 2 ≤ 2; omega
    | ⟨2, _⟩ => show 0 + 8 ≤ 8; omega
    | ⟨3, _⟩ => show 0 + 4 ≤ 4; omega
    | ⟨4, _⟩ => show 0 + 64 ≤ 64; omega
    | ⟨5, _⟩ => show 0 + 128 ≤ 128; omega⟩
  rw [WordCmp.dynamicSlice_eq_extract S1x2x8x4x64x128 x st _ ![k.val, 0, 0, 0, 0, 0] hk (fun a => by
    match a with
    | ⟨0, _⟩ => exact h0
    | ⟨1, _⟩ => exact h1
    | ⟨2, _⟩ => exact h2
    | ⟨3, _⟩ => exact h3
    | ⟨4, _⟩ => exact h4
    | ⟨5, _⟩ => exact h5)]
  refine congrArg x (funext fun a => Fin.ext ?_)
  match a with
  | ⟨0, _⟩ => show k.val + 0 = k.val; omega
  | ⟨1, _⟩ => show 0 + b.val = b.val; omega
  | ⟨2, _⟩ => show 0 + g.val = g.val; omega
  | ⟨3, _⟩ => show 0 + r.val = r.val; omega
  | ⟨4, _⟩ => show 0 + p.val = p.val; omega
  | ⟨5, _⟩ => show 0 + n.val = n.val; omega

theorem update_state (x : Vec Ideal S64x2x8x4x64x128 .f32) (u : Vec Ideal S1x2x8x4x64x128 .f32) (st : Fin 6 → Int) (k : Fin 64)
    (h0 : st 0 = (k.val : Int)) (h1 : st 1 = 0) (h2 : st 2 = 0) (h3 : st 3 = 0) (h4 : st 4 = 0) (h5 : st 5 = 0)
    (q : Fin 64) (b : Fin 2) (g : Fin 8) (r : Fin 4) (p : Fin 64) (n : Fin 128) :
    Host.dynamicUpdateSlice x u st updateFits_S64x2x8x4x64x128_S1x2x8x4x64x128 (ix6 q b g r p n)
      = if q = k then u (ix6 0 b g r p n) else x (ix6 q b g r p n) := by
  have hk : S64x2x8x4x64x128.Slices ![k.val, 0, 0, 0, 0, 0] S1x2x8x4x64x128 := ⟨rfl, fun a => by
    match a with
    | ⟨0, _⟩ => show k.val + 1 ≤ 64; omega
    | ⟨1, _⟩ => show 0 + 2 ≤ 2; omega
    | ⟨2, _⟩ => show 0 + 8 ≤ 8; omega
    | ⟨3, _⟩ => show 0 + 4 ≤ 4; omega
    | ⟨4, _⟩ => show 0 + 64 ≤ 64; omega
    | ⟨5, _⟩ => show 0 + 128 ≤ 128; omega⟩
  rw [WordCmp.dynamicUpdateSlice_eq_update x u st _ ![k.val, 0, 0, 0, 0, 0] hk (fun a => by
    match a with
    | ⟨0, _⟩ => exact h0
    | ⟨1, _⟩ => exact h1
    | ⟨2, _⟩ => exact h2
    | ⟨3, _⟩ => exact h3
    | ⟨4, _⟩ => exact h4
    | ⟨5, _⟩ => exact h5)]
  unfold updateSlice
  by_cases e : q = k
  · rw [if_pos e]
    subst e
    refine (dif_pos (fun a => ?_)).trans (congrArg u (funext fun a => Fin.ext ?_))
    · match a with
      | ⟨0, _⟩ => show q.val ≤ q.val ∧ q.val < q.val + 1; omega
      | ⟨1, _⟩ => show 0 ≤ b.val ∧ b.val < 0 + 2; omega
      | ⟨2, _⟩ => show 0 ≤ g.val ∧ g.val < 0 + 8; omega
      | ⟨3, _⟩ => show 0 ≤ r.val ∧ r.val < 0 + 4; omega
      | ⟨4, _⟩ => show 0 ≤ p.val ∧ p.val < 0 + 64; omega
      | ⟨5, _⟩ => show 0 ≤ n.val ∧ n.val < 0 + 128; omega
    · match a with
      | ⟨0, _⟩ => show q.val - q.val = 0; omega
      | ⟨1, _⟩ => rfl
      | ⟨2, _⟩ => rfl
      | ⟨3, _⟩ => rfl
      | ⟨4, _⟩ => rfl
      | ⟨5, _⟩ => rfl
  · rw [if_neg e]
    refine dif_neg fun h => e (Fin.ext ?_)
    have h' : k.val ≤ q.val ∧ q.val < k.val + 1 := h 0
    omega

section

variable (V : Valuation τ sig (Elt Ideal)) (k : Fin 64) (hk : V (Proc.devRef .tc main_v52_2) ix0 = BitVec.ofNat 32 k.val)
include hk

theorem counter_int : (V (Proc.devRef .tc main_v52_2) (Shape.Idx.first h_S_)).toInt = (k.val : Int) := by
  rw [show (Shape.Idx.first h_S_) = ix0 from Subsingleton.elim _ _, hk]
  have := k.isLt
  rw [BitVec.toInt_eq_toNat_of_lt (by rw [BitVec.toNat_ofNat]; omega), BitVec.toNat_ofNat, Nat.mod_eq_of_lt (by omega)]

theorem step_counter : STEP V (Proc.devRef .tc main_v52_2) ix0 = BitVec.ofNat 32 (k.val + 1) := by
  rw [STEP_main_v52_2]
  show IntOp.addi (V (Proc.devRef .tc main_v52_2) ix0) 1#32 = _
  rw [hk, BitVec.ofNat_add]
  rfl

theorem step_state (b : Fin 2) (g : Fin 8) (r : Fin 4) (p : Fin 64) (n : Fin 128) :
    STEP V (Proc.devRef .tc main_v52_3) (ix5 b g r p n)
      = t_v52_3 V (ix5 b g r p n) * t_v52_1 V (ix4 k b g r) + t_v52_0 V (ix6 k b g r p n) := by
  rw [STEP_main_v52_3]
  unfold step_main_v52_3
  have e1 := fun b g r => slice_decay (t_v52_1 V) (fun j => (((![V (Proc.devRef .tc main_v52_2), constantI S_ 32 0#32, constantI S_ 32 0#32,
    constantI S_ 32 0#32] : Fin 4 → (⟨S_, .i32⟩ : BufTy).Contents (Elt Ideal))) j (Shape.Idx.first h_S_)).toInt) k (counter_int V k hk) rfl rfl rfl b g r
  have e0 := fun b g r p n => slice_state (t_v52_0 V) (fun j => (((![V (Proc.devRef .tc main_v52_2), constantI S_ 32 0#32, constantI S_ 32 0#32,
    constantI S_ 32 0#32, constantI S_ 32 0#32, constantI S_ 32 0#32] : Fin 6 → (⟨S_, .i32⟩ : BufTy).Contents (Elt Ideal))) j (Shape.Idx.first h_S_)).toInt)
    k (counter_int V k hk) rfl rfl rfl rfl rfl b g r p n
  generalize Host.dynamicSlice S1x2x8x4 _ _ _ = q1 at e1 ⊢
  generalize Host.dynamicSlice S1x2x8x4x64x128 _ _ _ = q0 at e0 ⊢
  rw [← e1, ← e0]
  dsimp only [id]
  pointwise

theorem step_table (q : Fin 64) (b : Fin 2) (g : Fin 8) (r : Fin 4) (p : Fin 64) (n : Fin 128) :
    STEP V (Proc.devRef .tc main_v52_4) (ix6 q b g r p n)
      = if q = k then t_v52_3 V (ix5 b g r p n) else t_v52_4 V (ix6 q b g r p n) := by
  rw [STEP_main_v52_4]
  unfold step_main_v52_4
  refine (update_state _ _ _ k (counter_int V k hk) rfl rfl rfl rfl rfl q b g r p n).trans ?_
  refine if_congr Iff.rfl ?_ rfl
  pointwise

end

end Cert.Scan

end
end
-- ==== Proof.ScanEntry.lean ====
module

public import proofs.«01_k».proof.Proof.ScanLoop
public import Idealize.ShloMosaic.Lib.WordCmp

@[expose] public section

set_option maxRecDepth 16384

noncomputable section

open Idealize.ShloMosaic Idealize.ShloMosaic.TcCoe Idealize.SL.Sem
open Idealize.ShloMosaic.Pipeline (Dat)

/-! ## The scan's reference program: its result -/

namespace Cert.Scan
open Cert.ReferenceIdeal Cert.ReferenceIdeal.Gen Cert.ReferenceIdeal.Value Idealize.ShloMosaic.StableHlo
open Cert.Reals (coe_sum)

/-- A lane's head within its group, and its place within the head. -/
def rof (L : Fin 2048) : Fin 4 := ⟨L.val / 64 % 4, Nat.mod_lt _ (by decide)⟩
def pof (L : Fin 2048) : Fin 64 := ⟨L.val % 64, Nat.mod_lt _ (by decide)⟩

theorem lane_eq (L : Fin 2048) (h : (gof L).val * 256 + (rof L).val * 64 + (pof L).val < 2048) :
    (⟨(gof L).val * 256 + (rof L).val * 64 + (pof L).val, h⟩ : Fin 2048) = L := Fin.ext (by
  show L.val / 256 * 256 + L.val / 64 % 4 * 64 + L.val % 64 = L.val
  omega)

theorem head_eq (L : Fin 2048) (h : (gof L).val * 4 + (rof L).val < 128) :
    (⟨(gof L).val * 4 + (rof L).val, h⟩ : Fin 128) = hof L := Fin.ext (by
  show L.val / 256 * 4 + L.val / 64 % 4 = L.val / 64
  omega)

theorem col_eq (L : Fin 2048) (n : Fin 128) (h : (gof L).val * 128 + n.val < 1024) :
    (⟨(gof L).val * 128 + n.val, h⟩ : Fin 1024) = gcol L n := Fin.ext (by
  show L.val / 256 * 128 + n.val = 128 * (L.val / 256) + n.val
  omega)

theorem row_eq (k : Fin 64) (i : Fin 128) (h : k.val * 128 + i.val < 8192) : (⟨k.val * 128 + i.val, h⟩ : Fin 8192) = row k.val i := Fin.ext (by
  rw [row_val k.val k.isLt]
  show k.val * 128 + i.val = 128 * k.val + i.val
  omega)

theorem alog_eq (A : Fin 32 → ℝ) (L : Fin 2048) (h : (gof L).val * 4 + (rof L).val < 32) :
    A ⟨(gof L).val * 4 + (rof L).val, h⟩ = alog A (hof L) := by
  have e : (hof L).val < 32 := by show L.val / 64 < 32; omega
  unfold alog
  rw [dif_pos e]
  refine congrArg A (Fin.ext ?_)
  show L.val / 256 * 4 + L.val / 64 % 4 = L.val / 64
  omega

theorem sum_real (f : Fin 128 → EReal) (g : Fin 128 → ℝ) (h : ∀ j, f j = ((g j : ℝ) : EReal)) : ∑ j, f j = ((∑ j, g j : ℝ) : EReal) := by
  rw [coe_sum]
  exact Finset.sum_congr rfl fun j _ => h j

section

variable (V : Valuation τ sig (Elt Ideal))

/-- The reference's buffers after each of its groups of operations before the loop. -/
def at1 : Valuation τ sig (Elt Ideal) := after hostOps0 V
def at2 : Valuation τ sig (Elt Ideal) := after hostOps0_1 (at1 V)
def at3 : Valuation τ sig (Elt Ideal) := after hostOps0_2 (at2 V)
def at4 : Valuation τ sig (Elt Ideal) := after hostOps0_3 (at3 V)
def at5 : Valuation τ sig (Elt Ideal) := after hostOps0_4 (at4 V)
def at6 : Valuation τ sig (Elt Ideal) := after hostOps0_5 (at5 V)
def at7 : Valuation τ sig (Elt Ideal) := after hostOps0_6 (at6 V)

theorem keep2 (r : Ref sig .tc) (h : r ∉ hostOps0_1_W) : at2 V (Proc.devRef .tc r) = at1 V (Proc.devRef .tc r) :=
  after_of_writes_sub _ _ hostOps0_1_writes h
theorem keep3 (r : Ref sig .tc) (h : r ∉ hostOps0_2_W) : at3 V (Proc.devRef .tc r) = at2 V (Proc.devRef .tc r) :=
  after_of_writes_sub _ _ hostOps0_2_writes h
theorem keep4 (r : Ref sig .tc) (h : r ∉ hostOps0_3_W) : at4 V (Proc.devRef .tc r) = at3 V (Proc.devRef .tc r) :=
  after_of_writes_sub _ _ hostOps0_3_writes h
theorem keep5 (r : Ref sig .tc) (h : r ∉ hostOps0_4_W) : at5 V (Proc.devRef .tc r) = at4 V (Proc.devRef .tc r) :=
  after_of_writes_sub _ _ hostOps0_4_writes h
theorem keep6 (r : Ref sig .tc) (h : r ∉ hostOps0_5_W) : at6 V (Proc.devRef .tc r) = at5 V (Proc.devRef .tc r) :=
  after_of_writes_sub _ _ hostOps0_5_writes h
theorem keep7 (r : Ref sig .tc) (h : r ∉ hostOps0_6_W) : at7 V (Proc.devRef .tc r) = at6 V (Proc.devRef .tc r) :=
  after_of_writes_sub _ _ hostOps0_6_writes h

theorem keep26 (r : Ref sig .tc) (h1 : r ∉ hostOps0_1_W) (h2 : r ∉ hostOps0_2_W) (h3 : r ∉ hostOps0_3_W) (h4 : r ∉ hostOps0_4_W)
    (h5 : r ∉ hostOps0_5_W) : at6 V (Proc.devRef .tc r) = at1 V (Proc.devRef .tc r) :=
  (keep6 V r h5).trans ((keep5 V r h4).trans ((keep4 V r h3).trans ((keep3 V r h2).trans (keep2 V r h1))))

variable {xr : Fin 2 → Fin 8192 → Fin 2048 → ℝ} {br cr : Fin 2 → Fin 8192 → Fin 1024 → ℝ} {dtr : Fin 2 → Fin 8192 → Fin 128 → ℝ} {A : Fin 32 → ℝ}
  (H : Args (t_arg0 V) (t_arg1 V) (t_arg2 V) (t_arg3 V) (t_arg5 V) xr br cr dtr A)
include H

theorem at6_v16 (b : Fin 2) (k : Fin 64) (i : Fin 128) (L : Fin 2048) :
    t_v16 (at6 V) (ix6 b k i (gof L) (rof L) (pof L)) = ((xr b (row k.val i) L * dtr b (row k.val i) (hof L) : ℝ) : EReal) := by
  refine (congrFun (keep26 V main_v16 (by decide) (by decide) (by decide) (by decide) (by decide)) _).trans ?_
  refine (read_v16 V b k i (gof L) (rof L) (pof L)).trans ?_
  rw [row_eq, lane_eq, head_eq, EReal.coe_mul]
  exact congrArg₂ (· * ·) (H.h0 _ _ _) (H.h3 _ _ _)

theorem at6_v17 (b : Fin 2) (k : Fin 64) (i : Fin 128) (L : Fin 2048) (n : Fin 128) :
    t_v17 (at6 V) (ix5 b k i (gof L) n) = ((br b (row k.val i) (gcol L n) : ℝ) : EReal) := by
  refine (congrFun (keep26 V main_v17 (by decide) (by decide) (by decide) (by decide) (by decide)) _).trans ?_
  refine (read_v17 V b k i (gof L) n).trans ?_
  rw [row_eq, col_eq]
  exact H.h1 _ _ _

theorem at6_v18 (b : Fin 2) (k : Fin 64) (i : Fin 128) (L : Fin 2048) (n : Fin 128) :
    t_v18 (at6 V) (ix5 b k i (gof L) n) = ((cr b (row k.val i) (gcol L n) : ℝ) : EReal) := by
  refine (congrFun (keep26 V main_v18 (by decide) (by decide) (by decide) (by decide) (by decide)) _).trans ?_
  refine (read_v18 V b k i (gof L) n).trans ?_
  rw [row_eq, col_eq]
  exact H.h2 _ _ _

theorem at6_v0 (b : Fin 2) (t : Fin 8192) (L : Fin 2048) :
    t_v0 (at6 V) (ix5 b t (gof L) (rof L) (pof L)) = ((xr b t L : ℝ) : EReal) := by
  refine (congrFun (keep26 V main_v0 (by decide) (by decide) (by decide) (by decide) (by decide)) _).trans ?_
  refine (read_v0 V b t (gof L) (rof L) (pof L)).trans ?_
  rw [lane_eq]
  exact H.h0 _ _ _

theorem at2_v20 (b : Fin 2) (k : Fin 64) (i : Fin 128) (L : Fin 2048) :
    t_v20 (at2 V) (ix5 b k i (gof L) (rof L)) = ((cum (fun j => dtr b (row k.val j)) (alog A) (hof L) i : ℝ) : EReal) := by
  refine (read_v20 (at1 V) b k i (gof L) (rof L)).trans ?_
  unfold cum
  refine sum_real _ _ fun j => ?_
  rw [← coe_ite]
  refine if_congr Iff.rfl ?_ rfl
  refine (read_v19 V b k j (gof L) (rof L)).trans ?_
  rw [row_eq, head_eq, EReal.coe_mul, EReal.coe_neg]
  refine congrArg₂ (· * ·) (H.h3 _ _ _) (congrArg (- ·) ?_)
  refine (congrArg Ideal.exp (H.h5 _)).trans ?_
  rw [Ideal.exp_coe, alog_eq A L]

theorem at6_v21 (b : Fin 2) (k : Fin 64) (i : Fin 128) (L : Fin 2048) :
    t_v21 (at6 V) (ix5 b (gof L) (rof L) k i) = ((cum (fun j => dtr b (row k.val j)) (alog A) (hof L) i : ℝ) : EReal) := by
  refine (congrFun ((keep6 V main_v21 (by decide)).trans ((keep5 V main_v21 (by decide)).trans (keep4 V main_v21 (by decide)))) _).trans ?_
  exact (read_v21 (at2 V) b k i (gof L) (rof L)).trans (at2_v20 V H b k i L)

theorem at6_v29 (b : Fin 2) (k : Fin 64) (i j : Fin 128) (L : Fin 2048) :
    Ideal.exp (t_v29 (at6 V) (ix6 b (gof L) (rof L) k i j))
      = ((if j ≤ i then Real.exp (cum (fun j => dtr b (row k.val j)) (alog A) (hof L) i - cum (fun j => dtr b (row k.val j)) (alog A) (hof L) j) else 0 : ℝ) : EReal) := by
  have e26 : t_v26 (at5 V) (ix6 b (gof L) (rof L) k i j)
      = ((cum (fun j => dtr b (row k.val j)) (alog A) (hof L) i - cum (fun j => dtr b (row k.val j)) (alog A) (hof L) j : ℝ) : EReal) := by
    refine (congrFun ((keep5 V main_v26 (by decide)).trans (keep4 V main_v26 (by decide))) _).trans ?_
    refine (read_v26 (at2 V) b k i j (gof L) (rof L)).trans ?_
    rw [EReal.coe_sub, at2_v20 V H, at2_v20 V H]
  have e28 : at5 V (Proc.devRef .tc main_v28) (ix2 i j) = (if j ≤ i then 1#1 else 0#1 : BitVec 1) := by
    refine (congrFun (keep5 V main_v28 (by decide)) _).trans ?_
    refine (read_v28 (at3 V) i j).trans ?_
    have e27 : at3 V (Proc.devRef .tc main_v27) (ix2 i j) = 1#1 := read_v27 (at2 V) i j
    rw [e27]
    rw [show IntOp.addi (BitVec.ofNat 32 i.val) 0#32 = BitVec.ofNat 32 i.val from BitVec.add_zero _, tri_word]
    split <;> rfl
  have ec : at5 V (Proc.devRef .tc main_cst) ix0 = (⊥ : EReal) := read_cst (at4 V)
  have e := read_v29 (at5 V) b k i j (gof L) (rof L)
  rw [e26, e28, ec] at e
  refine (congrArg Ideal.exp e).trans ?_
  by_cases h : j ≤ i
  · rw [if_pos h, if_pos h]
    exact Ideal.exp_coe _
  · rw [if_neg h, if_neg h]
    exact Ideal.exp_bot

theorem at7_v36 (b : Fin 2) (k : Fin 64) (i : Fin 128) (L : Fin 2048) :
    t_v36 (at7 V) (ix6 b k i (gof L) (rof L) (pof L))
      = ((∑ j, (∑ n, cr b (row k.val i) (gcol L n) * br b (row k.val j) (gcol L n))
          * (if j ≤ i then Real.exp (cum (fun j => dtr b (row k.val j)) (alog A) (hof L) i - cum (fun j => dtr b (row k.val j)) (alog A) (hof L) j) else 0)
          * (xr b (row k.val j) L * dtr b (row k.val j) (hof L)) : ℝ) : EReal) := by
  refine (read_v36 (at6 V) b k i (gof L) (rof L) (pof L)).trans ?_
  refine sum_real _ _ fun j => ?_
  rw [at6_v16 V H, at6_v29 V H, sum_real _ (fun n => cr b (row k.val i) (gcol L n) * br b (row k.val j) (gcol L n)) (fun n => by
    rw [at6_v17 V H, at6_v18 V H, EReal.coe_mul]), ← EReal.coe_mul, ← EReal.coe_mul]
  exact congrArg _ (mul_comm _ _)

theorem at7_v52_0 (b : Fin 2) (k : Fin 64) (n : Fin 128) (L : Fin 2048) :
    t_v52_0 (at7 V) (ix6 k b (gof L) (rof L) (pof L) n)
      = ((∑ j, br b (row k.val j) (gcol L n) * (xr b (row k.val j) L * dtr b (row k.val j) (hof L)
          * Real.exp (cum (fun j => dtr b (row k.val j)) (alog A) (hof L) 127 - cum (fun j => dtr b (row k.val j)) (alog A) (hof L) j)) : ℝ) : EReal) := by
  refine (read_v52_0 (at6 V) b k n (gof L) (rof L) (pof L)).trans ?_
  refine sum_real _ _ fun j => ?_
  rw [at6_v16 V H, at6_v21 V H, at6_v21 V H, at6_v17 V H, ← EReal.coe_sub, Ideal.exp_coe, ← EReal.coe_mul, ← EReal.coe_mul]
  exact congrArg _ (by ring)

theorem at7_v52_1 (b : Fin 2) (k : Fin 64) (L : Fin 2048) :
    t_v52_1 (at7 V) (ix4 k b (gof L) (rof L)) = ((Real.exp (cum (fun j => dtr b (row k.val j)) (alog A) (hof L) 127) : ℝ) : EReal) := by
  refine (read_v52_1 (at6 V) b k (gof L) (rof L)).trans ?_
  rw [at6_v21 V H, Ideal.exp_coe]

/-- The loop over the chunks: before trip `k` the carried state is the state entering chunk `k`, and the table holds the states entering
    the chunks before it. -/
theorem loop_values : ∀ k, k ≤ 64 →
    (STEP^[k] (at7 V)) (Proc.devRef .tc main_v52_0) = at7 V (Proc.devRef .tc main_v52_0)
    ∧ (STEP^[k] (at7 V)) (Proc.devRef .tc main_v52_1) = at7 V (Proc.devRef .tc main_v52_1)
    ∧ (STEP^[k] (at7 V)) (Proc.devRef .tc main_v52_2) ix0 = BitVec.ofNat 32 k
    ∧ (∀ b n L, t_v52_3 (STEP^[k] (at7 V)) (ix5 b (gof L) (rof L) (pof L) n) = ((entering (xr b) (br b) (dtr b) (alog A) k n L : ℝ) : EReal))
    ∧ (∀ (q : Fin 64) b n L, q.val < k → t_v52_4 (STEP^[k] (at7 V)) (ix6 q b (gof L) (rof L) (pof L) n)
        = ((entering (xr b) (br b) (dtr b) (alog A) q.val n L : ℝ) : EReal))
  | 0, _ => ⟨rfl, rfl, read_v52_2 (at6 V), fun b n L => (read_v52_3 (at6 V) b n (gof L) (rof L) (pof L)).trans EReal.coe_zero.symm,
      fun q b n L h => absurd h (Nat.not_lt_zero _)⟩
  | k + 1, hk => by
    obtain ⟨h0, h1, h2, h3, h4⟩ := loop_values k (by omega)
    rw [Function.iterate_succ_apply']
    generalize STEP^[k] (at7 V) = U at h0 h1 h2 h3 h4 ⊢
    refine ⟨(STEP_main_v52_0 U).trans h0, (STEP_main_v52_1 U).trans h1, step_counter U ⟨k, by omega⟩ h2, fun b n L => ?_, fun q b n L hq => ?_⟩
    · refine (step_state U ⟨k, by omega⟩ h2 b (gof L) (rof L) (pof L) n).trans ?_
      have e0 : t_v52_0 U = t_v52_0 (at7 V) := h0
      have e1 : t_v52_1 U = t_v52_1 (at7 V) := h1
      rw [h3, e0, e1, at7_v52_0 V H, at7_v52_1 V H, ← EReal.coe_mul, ← EReal.coe_add]
      rfl
    · refine (step_table U ⟨k, by omega⟩ h2 q b (gof L) (rof L) (pof L) n).trans ?_
      by_cases e : q = ⟨k, by omega⟩
      · rw [if_pos e, h3, e]
      · rw [if_neg e]
        exact h4 q b n L (by
          have : q.val ≠ k := fun h => e (Fin.ext h)
          omega)

end

end Cert.Scan

end
end
-- ==== Proof.ScanRef.lean ====
module

public import proofs.«01_k».proof.Proof.ScanEntry
public import Idealize.ShloMosaic.Lib.WordCmp

@[expose] public section

set_option maxRecDepth 16384

noncomputable section

open Idealize.ShloMosaic Idealize.ShloMosaic.TcCoe Idealize.SL.Sem
open Idealize.ShloMosaic.Pipeline (Dat)

/-! ## The scan's reference program: the result it leaves -/

namespace Cert.Scan
open Cert.ReferenceIdeal Cert.ReferenceIdeal.Gen Cert.ReferenceIdeal.Value Idealize.ShloMosaic.StableHlo
open Cert.Reals (coe_sum)

theorem head32_eq (L : Fin 2048) (h : L.val / 256 * 4 + L.val / 64 % 4 < 32) :
    (⟨L.val / 256 * 4 + L.val / 64 % 4, h⟩ : Fin 32) = ⟨L.val / 64, by omega⟩ := Fin.ext (by
  show L.val / 256 * 4 + L.val / 64 % 4 = L.val / 64
  omega)

theorem writes7 : (hostOps0_7 (F := Ideal)).Forall fun op => op.writes ⊆ (([main_v53, main_v54, main_v55, main_v56, main_v57, main_v58, main_v59,
      main_v60, main_v61, main_v62, main_v63, main_v64, main_v65, main_v66, main_v67, main_v68] : List (Ref sig .tc)).map
        (Proc.devRef (τ := τ) .tc)).toFinset :=
  StableHlo.forall_writes_sub_of_map rfl

theorem writes8 : (hostOps0_8 (F := Ideal)).Forall fun op => op.writes ⊆ (([main_call6_v0, main_call6_v1, main_call6_cst, main_call6_v2,
      main_call6_v3, main_call6_cst_0, main_call6_v4, main_call6_v5, main_v69] : List (Ref sig .tc)).map (Proc.devRef (τ := τ) .tc)).toFinset :=
  StableHlo.forall_writes_sub_of_map rfl

section

variable (W : Valuation τ sig (Elt Ideal))
  {xr : Fin 2 → Fin 8192 → Fin 2048 → ℝ} {br cr : Fin 2 → Fin 8192 → Fin 1024 → ℝ} {dtr : Fin 2 → Fin 8192 → Fin 128 → ℝ} {A : Fin 32 → ℝ}
  (w36 : ∀ b (k : Fin 64) i L, t_v36 W (ix6 b k i (gof L) (rof L) (pof L))
      = ((∑ j, (∑ n, cr b (row k.val i) (gcol L n) * br b (row k.val j) (gcol L n))
          * (if j ≤ i then Real.exp (cum (fun j => dtr b (row k.val j)) (alog A) (hof L) i - cum (fun j => dtr b (row k.val j)) (alog A) (hof L) j) else 0)
          * (xr b (row k.val j) L * dtr b (row k.val j) (hof L)) : ℝ) : EReal))
  (w4 : ∀ (q : Fin 64) b n L, t_v52_4 W (ix6 q b (gof L) (rof L) (pof L) n)
        = ((entering (xr b) (br b) (dtr b) (alog A) q.val n L : ℝ) : EReal))
  (w18 : ∀ b (k : Fin 64) i L n, t_v18 W (ix5 b k i (gof L) n) = ((cr b (row k.val i) (gcol L n) : ℝ) : EReal))
  (w21 : ∀ b (k : Fin 64) i L, t_v21 W (ix5 b (gof L) (rof L) k i) = ((cum (fun j => dtr b (row k.val j)) (alog A) (hof L) i : ℝ) : EReal))
  (w0 : ∀ b t L, t_v0 W (ix5 b t (gof L) (rof L) (pof L)) = ((xr b t L : ℝ) : EReal))
include w36 w4 w18 w21 w0

theorem tail_v68 (b : Fin 2) (k : Fin 64) (i : Fin 128) (L : Fin 2048) :
    t_v68 (after hostOps0_7 W) (ix3 b (row k.val i) L)
      = ((scanR (fun i => xr b (row k.val i)) (fun i => br b (row k.val i)) (fun i => cr b (row k.val i)) (fun i => dtr b (row k.val i)) (alog A)
          (entering (xr b) (br b) (dtr b) (alog A) k.val) i L : ℝ) : EReal)
        + t_arg6 W (ix1 ⟨L.val / 64, by omega⟩) * ((xr b (row k.val i) L : ℝ) : EReal) := by
  refine (read_v68 W b (row k.val i) L).trans ?_
  have e1 : ∀ h, (⟨(row k.val i).val / 128, h⟩ : Fin 64) = k := fun h => Fin.ext (by
    show (row k.val i).val / 128 = k.val
    rw [row_val k.val k.isLt]; omega)
  have e2 : ∀ h, (⟨(row k.val i).val % 128, h⟩ : Fin 128) = i := fun h => Fin.ext (by
    show (row k.val i).val % 128 = i.val
    rw [row_val k.val k.isLt]; omega)
  rw [e1, e2, head32_eq]
  have h36 := w36 b k i L
  have h4 := fun n => w4 k b n L
  have h18 := fun n => w18 b k i L n
  have h21 := w21 b k i L
  have h0 := w0 b (row k.val i) L
  unfold gof rof pof at h36 h4 h0
  unfold gof rof at h21
  unfold gof at h18
  rw [h36, h21, h0, sum_real _ (fun n => cr b (row k.val i) (gcol L n) * entering (xr b) (br b) (dtr b) (alog A) k.val n L) (fun n => by
    rw [h4, h18, ← EReal.coe_mul]
    exact congrArg _ (mul_comm _ _)), Ideal.exp_coe, ← EReal.coe_mul, ← EReal.coe_add]
  refine congrArg₂ (· + ·) (congrArg _ ?_) rfl
  unfold scanR
  exact add_comm _ _

theorem tail_v86 (b : Fin 2) (k : Fin 64) (i : Fin 128) (L : Fin 2048) :
    t_v86 (after hostOps0_9 (after hostOps0_8 (after hostOps0_7 W))) (ix3 b (row k.val i) L)
      = scanArr xr br cr dtr A (t_arg4 W) (t_arg6 W) (t_arg7 W) (ix3 b (row k.val i) L) := by
  refine (read_v86 (after hostOps0_8 (after hostOps0_7 W)) b (row k.val i) L).trans ?_
  rw [scanArr_row _ _ _ _ _ _ _ _ b k.val k.isLt i L]
  unfold resultE outE
  have e68 : t_v68 (after hostOps0_8 (after hostOps0_7 W)) = t_v68 (after hostOps0_7 W) := after_of_writes_sub _ _ writes8 (by decide)
  have e7 : t_arg7 (after hostOps0_8 (after hostOps0_7 W)) = t_arg7 W :=
    (after_of_writes_sub _ _ writes8 (by decide)).trans (after_of_writes_sub _ _ writes7 (by decide))
  have e4 : t_arg4 (after hostOps0_7 W) = t_arg4 W := after_of_writes_sub _ _ writes7 (by decide)
  rw [e68, e7]
  refine congrArg (fun y => normE y _ _) (funext fun l => ?_)
  rw [tail_v68 W w36 w4 w18 w21 w0]
  unfold gatedE
  refine congrArg₂ (· * ·) rfl ?_
  refine (read_v69 (after hostOps0_7 W) b (row k.val i) (lan (gof L) l)).trans ?_
  rw [e4]

theorem tail_arr : t_v86 (after hostOps0_9 (after hostOps0_8 (after hostOps0_7 W)))
      = scanArr xr br cr dtr A (t_arg4 W) (t_arg6 W) (t_arg7 W) := by
  funext y
  idx_vars y
  have e : y1 = row (⟨y1.val / 128, by omega⟩ : Fin 64).val ⟨y1.val % 128, by omega⟩ := Fin.ext (by
    rw [row_val _ (⟨y1.val / 128, by omega⟩ : Fin 64).isLt]
    show y1.val = 128 * (y1.val / 128) + y1.val % 128
    omega)
  rw [e]
  exact tail_v86 W w36 w4 w18 w21 w0 y0 ⟨y1.val / 128, by omega⟩ ⟨y1.val % 128, by omega⟩ y2

end

variable (m : (ℓ : Loc nD τ sig) → Buf (Elt Ideal) ℓ) (c : Dev nD)
  {xr : Fin 2 → Fin 8192 → Fin 2048 → ℝ} {br cr : Fin 2 → Fin 8192 → Fin 1024 → ℝ} {dtr : Fin 2 → Fin 8192 → Fin 128 → ℝ} {A : Fin 32 → ℝ}
  (H : Args (m ((c : Thread nD τ).loc main_arg0)) (m ((c : Thread nD τ).loc main_arg1)) (m ((c : Thread nD τ).loc main_arg2))
    (m ((c : Thread nD τ).loc main_arg3)) (m ((c : Thread nD τ).loc main_arg5)) xr br cr dtr A)

theorem entry_eq : entryContents preI m c = at7 (launchContents m c) := rfl

/-- A buffer that neither the loop nor its condition writes is, after the loop, what it was before. -/
theorem exit_keep (r : Ref sig .tc) (h : r ∉ loopW) (h' : r ∉ condOps_W) :
    after condOps (atTrip condOps bodyI (entryContents preI m) 64 c) (Proc.devRef .tc r) = at7 (launchContents m c) (Proc.devRef .tc r) :=
  (after_of_writes_sub _ _ condOps_writes h').trans ((loop_keep (entryContents preI m) r h c 64).trans rfl)

include H

theorem result_eq : finalContents condOps preI bodyI postI 64 m c (Proc.devRef .tc main_v86)
    = scanArr xr br cr dtr A (m ((c : Thread nD τ).loc main_arg4)) (m ((c : Thread nD τ).loc main_arg6)) (m ((c : Thread nD τ).loc main_arg7)) := by
  have HV : Args (t_arg0 (launchContents m c)) (t_arg1 (launchContents m c)) (t_arg2 (launchContents m c)) (t_arg3 (launchContents m c))
    (t_arg5 (launchContents m c)) xr br cr dtr A := H
  have hk := fun r h h' => exit_keep m c r h h'
  have hl := (loop_values (launchContents m c) HV 64 (Nat.le_refl _)).2.2.2.2
  have ht : after condOps (atTrip condOps bodyI (entryContents preI m) 64 c) (Proc.devRef .tc main_v52_4)
      = (STEP^[64] (at7 (launchContents m c))) (Proc.devRef .tc main_v52_4) :=
    (cond_keeps (atK m 64 c) main_v52_4 (by decide)).trans (atK_agree m c 64 main_v52_4 (by decide))
  unfold finalContents
  simp only [afterL_cons, afterL_nil]
  generalize after condOps (atTrip condOps bodyI (entryContents preI m) 64 c) = W at hk ht ⊢
  have k7 := keep7 (launchContents m c)
  refine (tail_arr W (xr := xr) (br := br) (cr := cr) (dtr := dtr) (A := A) (fun b k i L => ?_) (fun q b n L => ?_) (fun b k i L n => ?_)
    (fun b k i L => ?_) (fun b t L => ?_)).trans ?_
  · exact (congrFun (hk main_v36 (by decide) (by decide)) _).trans (at7_v36 _ HV b k i L)
  · exact (congrFun ht _).trans (hl q b n L q.isLt)
  · exact (congrFun ((hk main_v18 (by decide) (by decide)).trans (k7 main_v18 (by decide))) _).trans (at6_v18 _ HV b k i L n)
  · exact (congrFun ((hk main_v21 (by decide) (by decide)).trans (k7 main_v21 (by decide))) _).trans (at6_v21 _ HV b k i L)
  · exact (congrFun ((hk main_v0 (by decide) (by decide)).trans (k7 main_v0 (by decide))) _).trans (at6_v0 _ HV b t L)
  · have ka : ∀ r, r ∉ loopW → r ∉ condOps_W → r ∉ hostOps0_6_W → r ∉ hostOps0_5_W → r ∉ hostOps0_4_W → r ∉ hostOps0_3_W → r ∉ hostOps0_2_W →
        r ∉ hostOps0_1_W → r ∉ hostOps0_W → W (Proc.devRef .tc r) = launchContents m c (Proc.devRef .tc r) :=
      fun r h h' h6 h5 h4 h3 h2 h1 h0 => (hk r h h').trans ((k7 r h6).trans ((keep26 _ r h1 h2 h3 h4 h5).trans (after_of_writes_sub _ _ hostOps0_writes h0)))
    have e4 : t_arg4 W = m ((c : Thread nD τ).loc main_arg4) :=
      (ka main_arg4 (by decide) (by decide) (by decide) (by decide) (by decide) (by decide) (by decide) (by decide) (by decide)).trans rfl
    have e6 : t_arg6 W = m ((c : Thread nD τ).loc main_arg6) :=
      (ka main_arg6 (by decide) (by decide) (by decide) (by decide) (by decide) (by decide) (by decide) (by decide) (by decide)).trans rfl
    have e7 : t_arg7 W = m ((c : Thread nD τ).loc main_arg7) :=
      (ka main_arg7 (by decide) (by decide) (by decide) (by decide) (by decide) (by decide) (by decide) (by decide) (by decide)).trans rfl
    rw [e4, e6, e7]

end Cert.Scan

end
end
-- ==== Proof.Scan.lean ====
module

public import proofs.«01_k».proof.Proof.ScanRef
public import proofs.«01_k».proof.Proof.Gen.Pre_finite_scan

@[expose] public section

set_option maxRecDepth 16384

noncomputable section

open Idealize.ShloMosaic Idealize.ShloMosaic.TcCoe Idealize.SL.Sem
open Idealize.ShloMosaic.Pipeline (Dat)

/-! ## The scan: the claim -/

namespace Cert.Scan

open Cert.KernelIdeal Cert.KernelIdeal.Gen Cert.Pre_finite_scan.Gen
open Cert.Reals

instance : Subsingleton Cert.Pre_finite_scan.S_.Idx := ⟨fun a b => funext fun i => i.elim0⟩

theorem and_apply {i : Cert.Pre_finite_scan.S_.Idx} {x y : IVec Cert.Pre_finite_scan.S_ 1} (h : andi x y i = 1#1) :
    x i = 1#1 ∧ y i = 1#1 := IntOp.andi_eq_one.1 h

theorem real_f32 {x : EReal} (h : Ideal.cmp .olt (max x (-x)) (Ideal.ofBits FTy.f32 0x7F800000#32) = 1#1) : IsReal x := by
  refine lt_top_of_abs ?_
  rw [show Ideal.ofBits FTy.f32 0x7F800000#32 = ⊤ from ofBits_inf] at h
  by_contra hn
  simp [Ideal.cmp, hn] at h

theorem real_bf16 {x : EReal} (h : Ideal.cmp .olt (max x (-x)) (Ideal.ofBits FTy.bf16 0x7F80#16) = 1#1) : IsReal x := by
  refine lt_top_of_abs ?_
  rw [show Ideal.ofBits FTy.bf16 0x7F80#16 = ⊤ from ofBits_inf_bf16] at h
  by_contra hn
  simp [Ideal.cmp, hn] at h

theorem reals (x0 : Vec Ideal S2x8192x2048 .f32) (x1 x2 : Vec Ideal S2x8192x1024 .bf16) (x3 : Vec Ideal S2x8192x128 .f32)
    (x4 : Vec Ideal S2x8192x2048 .f32) (x5 x6 : Vec Ideal S32 .f32) (x7 : Vec Ideal S2048 .f32)
    (h : Cert.Pre_finite_scan.fn (F := Ideal) x0 x1 x2 x3 x4 x5 x6 x7 = fun _ => 1#1) :
    ∃ xr br cr dtr A, Args x0 x1 x2 x3 x5 xr br cr dtr A := by
  have h := congrFun h (fun i => i.elim0)
  dsimp only [Cert.Pre_finite_scan.fn, Cert.Pre_finite_scan.fn_part1] at h
  obtain ⟨h, h5⟩ := and_apply h
  obtain ⟨h, h3⟩ := and_apply h
  obtain ⟨h, h2⟩ := and_apply h
  obtain ⟨h0, h1⟩ := and_apply h
  have r0 : ∀ i, IsReal (x0 i) := fun i => real_f32 (Host.reduce_andi_all _ _ _ _ _ h0 i)
  have r1 : ∀ i, IsReal (x1 i) := fun i => real_bf16 (Host.reduce_andi_all _ _ _ _ _ h1 i)
  have r2 : ∀ i, IsReal (x2 i) := fun i => real_bf16 (Host.reduce_andi_all _ _ _ _ _ h2 i)
  have r3 : ∀ i, IsReal (x3 i) := fun i => real_f32 (Host.reduce_andi_all _ _ _ _ _ h3 i)
  have r5 : ∀ i, IsReal (x5 i) := fun i => real_f32 (Host.reduce_andi_all _ _ _ _ _ h5 i)
  exact ⟨fun b i L => (r0 (ix3 b i L)).choose, fun b i L => (r1 (ix3 b i L)).choose, fun b i L => (r2 (ix3 b i L)).choose,
    fun b i L => (r3 (ix3 b i L)).choose, fun h => (r5 (ix1 h)).choose,
    { h0 := fun b i L => (r0 (ix3 b i L)).choose_spec, h1 := fun b i L => (r1 (ix3 b i L)).choose_spec,
      h2 := fun b i L => (r2 (ix3 b i L)).choose_spec, h3 := fun b i L => (r3 (ix3 b i L)).choose_spec,
      h5 := fun h => (r5 (ix1 h)).choose_spec }⟩

/-- The tiled scan and the plain lines leave the same array where their arguments are finite. -/
theorem algebraic : Cert.algebraic_KernelIdeal_ReferenceIdeal_pre_finite_scan := by
  intro m ρ m' ρ' hpre hag
  refine ⟨fun c => (dats m 0 c).arrAt 9 Cert.KernelIdeal.cfg0.N, Cert.KernelIdeal.Value.run_blocks m ρ,
    (θ_run _ _ _).mono (fun _ h c => ⟨(h c Cert.ReferenceIdeal.main_v86 rfl).trans ?_,
      (h c Cert.ReferenceIdeal.main_arg0 rfl).trans (args_keep m' c _ (by decide)),
      (h c Cert.ReferenceIdeal.main_arg1 rfl).trans (args_keep m' c _ (by decide)),
      (h c Cert.ReferenceIdeal.main_arg2 rfl).trans (args_keep m' c _ (by decide)),
      (h c Cert.ReferenceIdeal.main_arg3 rfl).trans (args_keep m' c _ (by decide)),
      (h c Cert.ReferenceIdeal.main_arg4 rfl).trans (args_keep m' c _ (by decide)),
      (h c Cert.ReferenceIdeal.main_arg5 rfl).trans (args_keep m' c _ (by decide)),
      (h c Cert.ReferenceIdeal.main_arg6 rfl).trans (args_keep m' c _ (by decide)),
      (h c Cert.ReferenceIdeal.main_arg7 rfl).trans (args_keep m' c _ (by decide))⟩) (Cert.ReferenceIdeal.Value.run_fold m' ρ')⟩
  obtain ⟨h0, h1, h2, h3, h4, h5, h6, h7⟩ := hag c
  obtain ⟨xr, br, cr, dtr, A, H⟩ := reals _ _ _ _ _ _ _ _ (hpre c)
  refine Eq.trans ?_ (arr9_eq m c H).symm
  have H' := H
  rw [← h0, ← h1, ← h2, ← h3, ← h5] at H'
  rw [← h4, ← h6, ← h7]
  exact result_eq m' c H'

/-- The plain lines run where their arguments are finite, and their arguments and counters end as they began. -/
theorem frame_ref_finite : Cert.quiescent_ReferenceIdeal_pre_finite_scan := fun m ρ _ => frame_ref m ρ trivial

end Cert.Scan

end
end
-- ==== Proof.lean ====
module

public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Reference2Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Pre_finite_scan
public import proofs.«01_k».proof.Proof.Gen.Pre_finite_after_ssd
public import proofs.«01_k».proof.Proof.Gen.Pre_finite_after_da
public import proofs.«01_k».proof.Proof.Ffn
public import proofs.«01_k».proof.Proof.FfnStep
public import proofs.«01_k».proof.Proof.Xattn
public import proofs.«01_k».proof.Proof.XattnDa
public import proofs.«01_k».proof.Proof.Memory
public import proofs.«01_k».proof.Proof.SsdInEq
public import proofs.«01_k».proof.Proof.DaQkv
public import proofs.«01_k».proof.Proof.ScanRun
public import proofs.«01_k».proof.Proof.Scan
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite_scan.Gen.facts, Cert.Pre_finite_after_ssd.Gen.facts, Cert.Pre_finite_after_da.Gen.facts,
    fun m ρ _ => Cert.Kernel.Gen.frame m ρ, fun m ρ _ => Cert.KernelIdeal.Gen.frame m ρ,
    fun m ρ _ => Cert.KernelIdeal.Gen.frame m ρ, Cert.Scan.frame_ref, Cert.Scan.frame_ref_finite,
    fun m ρ _ => Cert.Kernel2.Gen.frame m ρ, fun m ρ _ => Cert.Kernel2Ideal.Gen.frame m ρ, Cert.Ffn.frame_ref,
    fun m ρ _ => Cert.Kernel3.Gen.frame m ρ, fun m ρ _ => Cert.Kernel3Ideal.Gen.frame m ρ, Cert.FfnStep.frame_ref,
    fun m ρ _ => Cert.Kernel4.Gen.frame m ρ, fun m ρ _ => Cert.Kernel4Ideal.Gen.frame m ρ,
    fun m ρ _ => Cert.Kernel4Ideal.Gen.frame m ρ, Cert.Xattn.frame_ref, Cert.Xattn.frame_ref_finite,
    fun m ρ _ => Cert.Kernel5.Gen.frame m ρ, fun m ρ _ => Cert.Kernel5Ideal.Gen.frame m ρ,
    fun m ρ _ => Cert.Kernel5Ideal.Gen.frame m ρ, Cert.XattnDa.frame_ref, Cert.XattnDa.frame_ref_finite,
    fun m ρ _ => Cert.Kernel6.Gen.frame m ρ, fun m ρ _ => Cert.Kernel6Ideal.Gen.frame m ρ, Cert.Memory.frame_ref,
    fun m ρ _ => Cert.Kernel7.Gen.frame m ρ, fun m ρ _ => Cert.Kernel7Ideal.Gen.frame m ρ, Cert.SsdIn.frame_ref,
    fun m ρ _ => Cert.Kernel8.Gen.frame m ρ, fun m ρ _ => Cert.Kernel8Ideal.Gen.frame m ρ, Cert.DaQkv.frame_ref,
    trivial, Cert.Scan.algebraic, trivial, Cert.Ffn.algebraic, trivial, Cert.FfnStep.algebraic, trivial, Cert.Xattn.algebraic, trivial, Cert.XattnDa.algebraic, trivial, Cert.Memory.algebraic, trivial, Cert.SsdIn.algebraic,
    trivial, Cert.DaQkv.algebraic⟩

end Cert.Proof

end
